-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x8192x768 : Shape := ⟨3, ![4, 8192, 768]⟩
abbrev S4x8192x6 : Shape := ⟨3, ![4, 8192, 6]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S4x8192x6 : S_.BroadcastsInDim S4x8192x6 (![] : Fin 0 → Fin S4x8192x6.rank)
  reducesTo_S4x8192x6_S_d0_1_2 : S4x8192x6.ReducesTo [0, 1, 2] S_

variable [Facts]

def fn {F : FTy → Type} [FloatOps F] (main_arg0 : FVec F S4x8192x768 .f32) (main_arg1 : FVec F S4x8192x768 .f32) (main_arg2 : FVec F S4x8192x768 .f32) (main_arg3 : FVec F S4x8192x6 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S4x8192x768 .f32 := Host.absf main_arg1
  let main_cst_0 : FVec F S_ .f32 := constant S_ .f32 0x7F800000#32
  let main_v5 : FVec F S4x8192x768 .f32 := broadcastInDim S4x8192x768 ![] bcast_S_S4x8192x768 main_cst_0
  let main_v6 : IVec S4x8192x768 1 := cmpf .olt main_v4 main_v5
  let main_c_1 : IVec S_ 1 := constantI S_ 1 1#1
  let main_v7 : IVec S_ 1 := (fun x v => Host.reduce IntOp.andi x v reducesTo_S4x8192x768_S_d0_1_2 h_S_) main_v6 main_c_1
  let main_v8 : IVec S_ 1 := andi main_v3 main_v7
  let main_v9 : FVec F S4x8192x6 .f32 := Host.absf main_arg3
  let main_cst_2 : FVec F S_ .f32 := constant S_ .f32 0x7F800000#32
  let main_v10 : FVec F S4x8192x6 .f32 := broadcastInDim S4x8192x6 ![] bcast_S_S4x8192x6 main_cst_2
  let main_v11 : IVec S4x8192x6 1 := cmpf .olt main_v9 main_v10
  let main_c_3 : IVec S_ 1 := constantI S_ 1 1#1
  let main_v12 : IVec S_ 1 := (fun x v => Host.reduce IntOp.andi x v reducesTo_S4x8192x6_S_d0_1_2 h_S_) main_v11 main_c_3
  let main_v13 : IVec S_ 1 := andi main_v8 main_v12
  main_v13
-- ==== Kernel.lean ====
abbrev S4x8192x768 : Shape := ⟨3, ![4, 8192, 768]⟩
abbrev S4x8192x6 : Shape := ⟨3, ![4, 8192, 6]⟩
abbrev S_ : Shape := ⟨0, ![]⟩
abbrev S4x8192x2304 : Shape := ⟨3, ![4, 8192, 2304]⟩
abbrev S32768x2304 : Shape := ⟨2, ![32768, 2304]⟩
abbrev S4x6x8192 : Shape := ⟨3, ![4, 6, 8192]⟩
abbrev S24x1x8192 : Shape := ⟨3, ![24, 1, 8192]⟩
abbrev S32768x768 : Shape := ⟨2, ![32768, 768]⟩
abbrev S1024x128 : Shape := ⟨2, ![1024, 128]⟩
abbrev S8192x128 : Shape := ⟨2, ![8192, 128]⟩
abbrev S1x1x8192 : Shape := ⟨3, ![1, 1, 8192]⟩
abbrev S1024x512 : Shape := ⟨2, ![1024, 512]⟩
abbrev S1x1x1024 : Shape := ⟨3, ![1, 1, 1024]⟩
abbrev S1x1024 : Shape := ⟨2, ![1, 1024]⟩
abbrev S1x1 : Shape := ⟨2, ![1, 1]⟩
abbrev S512x128 : Shape := ⟨2, ![512, 128]⟩
abbrev S1x1x512 : Shape := ⟨3, ![1, 1, 512]⟩
abbrev S1x512 : Shape := ⟨2, ![1, 512]⟩
abbrev S1024x1 : Shape := ⟨2, ![1024, 1]⟩
abbrev S1024x256 : Shape := ⟨2, ![1024, 256]⟩
abbrev S1024 : Shape := ⟨1, ![1024]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 20
  | .vmem => 13
  | .smem => 0
  | _ => 0

abbrev bufTy : (tb : Table) → Fin (tcTables nBuf tb) → BufTy
  | .hbm, ⟨0, _⟩ => ⟨S4x8192x768, .f32⟩
  | .hbm, ⟨1, _⟩ => ⟨S4x8192x768, .f32⟩
  | .hbm, ⟨2, _⟩ => ⟨S4x8192x768, .f32⟩
  | .hbm, ⟨3, _⟩ => ⟨S4x8192x6, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x768, .f32⟩
  | .hbm, ⟨11, _⟩ => ⟨S4x8192x768, .f32⟩
  | .hbm, ⟨12, _⟩ => ⟨S4x8192x2304, .f32⟩
  | .hbm, ⟨13, _⟩ => ⟨S4x8192x2304, .bf16⟩
  | .hbm, ⟨14, _⟩ => ⟨S32768x2304, .bf16⟩
  | .hbm, ⟨15, _⟩ => ⟨S4x8192x6, .f32⟩
  | .hbm, ⟨16, _⟩ => ⟨S4x8192x6, .f32⟩
  | .hbm, ⟨17, _⟩ => ⟨S4x6x8192, .f32⟩
  | .hbm, ⟨18, _⟩ => ⟨S24x1x8192, .f32⟩
  | .hbm, ⟨19, _⟩ => ⟨S32768x768, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1024x128, .bf16⟩
  | .local _ .vmem, ⟨11, _⟩ => ⟨S1024x128, .bf16⟩
  | .local _ .vmem, ⟨12, _⟩ => ⟨S1024x512, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 3 → Nat :=
  let c0 : Index := 0#32
  let c0_0 : Index := 0#32
  let arg2 : BitVec 32 := BitVec.ofNat 32 (i 2).val
  let c1024_i32 : BitVec 32 := 1024#32
  let v0 : BitVec 32 := Scalar.muli arg2 c1024_i32
  let v1 : BitVec 32 := v0
  let v2 : Index := Scalar.indexCast v1
  ![0, 0, v2.toNat]
@[reducible] def k0_t1_loop (i : grid0.Coords) : Scf.Loop 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_13 : BitVec 32 := 1#32
  ⟨c0_i32_11, v36, c1_i32_13⟩
def k0_mult2 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  v69
def k0_mult3 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c0_i32_30 : BitVec 32 := 0#32
  let v72 : BitVec 32 := Scalar.addi v70 c0_i32_30
  v72
def k0_mult4 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c0_i32_30 : BitVec 32 := 0#32
  let v72 : BitVec 32 := Scalar.addi v70 c0_i32_30
  let v73 : BitVec 32 := v72
  let c512_i32 : BitVec 32 := 512#32
  let v74 : BitVec 32 := Scalar.addi v73 c512_i32
  v74
def k0_off2 (i : grid0.Coords) (k0_t1 : Fin (k0_t1_loop i).trips) (c0_i32_30 : BitVec 32) : Fin 3 → Nat :=
  let c0_31 : Index := 0#32
  let c0_32 : Index := 0#32
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let c512_i32 : BitVec 32 := 512#32
  let v74 : BitVec 32 := Scalar.addi v73 c512_i32
  let v75 : BitVec 32 := v74
  let v76 : Index := Scalar.indexCast v75
  ![0, 0, v76.toNat]
def k0_off3 (i : grid0.Coords) (k0_t1 : Fin (k0_t1_loop i).trips) (c0_i32_30 : BitVec 32) : Fin 2 → Nat :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let c512_i32 : BitVec 32 := 512#32
  let v74 : BitVec 32 := Scalar.addi v73 c512_i32
  let v75 : BitVec 32 := v74
  let v81 : Index := Scalar.indexCast v75
  let c0_33 : Index := 0#32
  ![v81.toNat, 0]
def k0_off4 (i : grid0.Coords) (k0_t1 : Fin (k0_t1_loop i).trips) (c0_i32_30 : BitVec 32) : Fin 2 → Nat :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let v96 : Index := Scalar.indexCast v73
  let c0_36 : Index := 0#32
  ![v96.toNat, 0]
def k0_mult5 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c512_i32_38 : BitVec 32 := 512#32
  let v104 : BitVec 32 := Scalar.addi v70 c512_i32_38
  v104
def k0_mult6 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c512_i32_38 : BitVec 32 := 512#32
  let v104 : BitVec 32 := Scalar.addi v70 c512_i32_38
  let v105 : BitVec 32 := v104
  let c512_i32_39 : BitVec 32 := 512#32
  let v106 : BitVec 32 := Scalar.addi v105 c512_i32_39
  v106
def k0_mult7 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c1024_i32_47 : BitVec 32 := 1024#32
  let v136 : BitVec 32 := Scalar.addi v70 c1024_i32_47
  v136
def k0_mult8 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c1024_i32_47 : BitVec 32 := 1024#32
  let v136 : BitVec 32 := Scalar.addi v70 c1024_i32_47
  let v137 : BitVec 32 := v136
  let c512_i32_48 : BitVec 32 := 512#32
  let v138 : BitVec 32 := Scalar.addi v137 c512_i32_48
  v138
def k0_mult9 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c1536_i32 : BitVec 32 := 1536#32
  let v168 : BitVec 32 := Scalar.addi v70 c1536_i32
  v168
def k0_mult10 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c1536_i32 : BitVec 32 := 1536#32
  let v168 : BitVec 32 := Scalar.addi v70 c1536_i32
  let v169 : BitVec 32 := v168
  let c512_i32_56 : BitVec 32 := 512#32
  let v170 : BitVec 32 := Scalar.addi v169 c512_i32_56
  v170
def k0_mult11 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c2048_i32 : BitVec 32 := 2048#32
  let v200 : BitVec 32 := Scalar.addi v70 c2048_i32
  v200
def k0_mult12 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c2048_i32 : BitVec 32 := 2048#32
  let v200 : BitVec 32 := Scalar.addi v70 c2048_i32
  let v201 : BitVec 32 := v200
  let c512_i32_64 : BitVec 32 := 512#32
  let v202 : BitVec 32 := Scalar.addi v201 c512_i32_64
  v202
def k0_mult13 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c2560_i32 : BitVec 32 := 2560#32
  let v232 : BitVec 32 := Scalar.addi v70 c2560_i32
  v232
def k0_mult14 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c2560_i32 : BitVec 32 := 2560#32
  let v232 : BitVec 32 := Scalar.addi v70 c2560_i32
  let v233 : BitVec 32 := v232
  let c512_i32_72 : BitVec 32 := 512#32
  let v234 : BitVec 32 := Scalar.addi v233 c512_i32_72
  v234
def k0_mult15 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c3072_i32 : BitVec 32 := 3072#32
  let v264 : BitVec 32 := Scalar.addi v70 c3072_i32
  v264
def k0_mult16 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c3072_i32 : BitVec 32 := 3072#32
  let v264 : BitVec 32 := Scalar.addi v70 c3072_i32
  let v265 : BitVec 32 := v264
  let c512_i32_80 : BitVec 32 := 512#32
  let v266 : BitVec 32 := Scalar.addi v265 c512_i32_80
  v266
def k0_mult17 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c3584_i32 : BitVec 32 := 3584#32
  let v296 : BitVec 32 := Scalar.addi v70 c3584_i32
  v296
def k0_mult18 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c4096_i32_27 : BitVec 32 := 4096#32
  let v69 : BitVec 32 := Scalar.muli arg10 c4096_i32_27
  let v70 : BitVec 32 := v69
  let c3584_i32 : BitVec 32 := 3584#32
  let v296 : BitVec 32 := Scalar.addi v70 c3584_i32
  let v297 : BitVec 32 := v296
  let c512_i32_88 : BitVec 32 := 512#32
  let v298 : BitVec 32 := Scalar.addi v297 c512_i32_88
  v298
@[reducible] def k0_t2_loop (i : grid0.Coords) : Scf.Loop 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let v33 : BitVec 32 := Scalar.addi c0_i32_11 v32
  let c1_i32_14 : BitVec 32 := 1#32
  ⟨v36, v33, c1_i32_14⟩
def k0_mult19 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  v69
def k0_mult20 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c0_i32_30 : BitVec 32 := 0#32
  let v72 : BitVec 32 := Scalar.addi v70 c0_i32_30
  v72
def k0_mult21 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c0_i32_30 : BitVec 32 := 0#32
  let v72 : BitVec 32 := Scalar.addi v70 c0_i32_30
  let v73 : BitVec 32 := v72
  let c512_i32 : BitVec 32 := 512#32
  let v74 : BitVec 32 := Scalar.addi v73 c512_i32
  v74
def k0_off5 (i : grid0.Coords) (k0_t2 : Fin (k0_t2_loop i).trips) (c0_i32_30 : BitVec 32) : Fin 3 → Nat :=
  let c0_31 : Index := 0#32
  let c0_32 : Index := 0#32
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let c512_i32 : BitVec 32 := 512#32
  let v74 : BitVec 32 := Scalar.addi v73 c512_i32
  let v75 : BitVec 32 := v74
  let v76 : Index := Scalar.indexCast v75
  ![0, 0, v76.toNat]
def k0_off6 (i : grid0.Coords) (k0_t2 : Fin (k0_t2_loop i).trips) (c0_i32_30 : BitVec 32) : Fin 2 → Nat :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let c512_i32 : BitVec 32 := 512#32
  let v74 : BitVec 32 := Scalar.addi v73 c512_i32
  let v75 : BitVec 32 := v74
  let v81 : Index := Scalar.indexCast v75
  let c0_33 : Index := 0#32
  ![v81.toNat, 0]
def k0_off7 (i : grid0.Coords) (k0_t2 : Fin (k0_t2_loop i).trips) (c0_i32_30 : BitVec 32) : Fin 2 → Nat :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let v72 : BitVec 32 := Scalar.addi v70 c0_i32_30
  let v73 : BitVec 32 := v72
  let v96 : Index := Scalar.indexCast v73
  let c0_36 : Index := 0#32
  ![v96.toNat, 0]
def k0_mult22 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c512_i32_38 : BitVec 32 := 512#32
  let v104 : BitVec 32 := Scalar.addi v70 c512_i32_38
  v104
def k0_mult23 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c512_i32_38 : BitVec 32 := 512#32
  let v104 : BitVec 32 := Scalar.addi v70 c512_i32_38
  let v105 : BitVec 32 := v104
  let c512_i32_39 : BitVec 32 := 512#32
  let v106 : BitVec 32 := Scalar.addi v105 c512_i32_39
  v106
def k0_mult24 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c1024_i32_47 : BitVec 32 := 1024#32
  let v136 : BitVec 32 := Scalar.addi v70 c1024_i32_47
  v136
def k0_mult25 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c1024_i32_47 : BitVec 32 := 1024#32
  let v136 : BitVec 32 := Scalar.addi v70 c1024_i32_47
  let v137 : BitVec 32 := v136
  let c512_i32_48 : BitVec 32 := 512#32
  let v138 : BitVec 32 := Scalar.addi v137 c512_i32_48
  v138
def k0_mult26 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c1536_i32 : BitVec 32 := 1536#32
  let v168 : BitVec 32 := Scalar.addi v70 c1536_i32
  v168
def k0_mult27 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c1536_i32 : BitVec 32 := 1536#32
  let v168 : BitVec 32 := Scalar.addi v70 c1536_i32
  let v169 : BitVec 32 := v168
  let c512_i32_56 : BitVec 32 := 512#32
  let v170 : BitVec 32 := Scalar.addi v169 c512_i32_56
  v170
def k0_mult28 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c2048_i32 : BitVec 32 := 2048#32
  let v200 : BitVec 32 := Scalar.addi v70 c2048_i32
  v200
def k0_mult29 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c2048_i32 : BitVec 32 := 2048#32
  let v200 : BitVec 32 := Scalar.addi v70 c2048_i32
  let v201 : BitVec 32 := v200
  let c512_i32_64 : BitVec 32 := 512#32
  let v202 : BitVec 32 := Scalar.addi v201 c512_i32_64
  v202
def k0_mult30 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c2560_i32 : BitVec 32 := 2560#32
  let v232 : BitVec 32 := Scalar.addi v70 c2560_i32
  v232
def k0_mult31 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c2560_i32 : BitVec 32 := 2560#32
  let v232 : BitVec 32 := Scalar.addi v70 c2560_i32
  let v233 : BitVec 32 := v232
  let c512_i32_72 : BitVec 32 := 512#32
  let v234 : BitVec 32 := Scalar.addi v233 c512_i32_72
  v234
def k0_mult32 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c3072_i32 : BitVec 32 := 3072#32
  let v264 : BitVec 32 := Scalar.addi v70 c3072_i32
  v264
def k0_mult33 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c3072_i32 : BitVec 32 := 3072#32
  let v264 : BitVec 32 := Scalar.addi v70 c3072_i32
  let v265 : BitVec 32 := v264
  let c512_i32_80 : BitVec 32 := 512#32
  let v266 : BitVec 32 := Scalar.addi v265 c512_i32_80
  v266
def k0_mult34 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c3584_i32 : BitVec 32 := 3584#32
  let v296 : BitVec 32 := Scalar.addi v70 c3584_i32
  v296
def k0_mult35 (i : grid0.Coords) (k0_t2 : Fin (k0_t2_loop i).trips) : BitVec 32 :=
  let c0_i32_11 : BitVec 32 := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let v32 : BitVec 32 := Scalar.subi v31 c0_i32_11
  let c1_i32_12 : BitVec 32 := 1#32
  let v34 : BitVec 32 := Scalar.divsi v32 c1_i32_12
  let v35 : BitVec 32 := Scalar.muli v34 c1_i32_12
  let v36 : BitVec 32 := Scalar.addi c0_i32_11 v35
  let c1_i32_14 : BitVec 32 := 1#32
  let arg10 : BitVec 32 := Scf.iv v36 c1_i32_14 k0_t2
  let c4096_i32_27 : BitVec 32 := 4096#32
  let v69 : BitVec 32 := Scalar.muli arg10 c4096_i32_27
  let v70 : BitVec 32 := v69
  let c3584_i32 : BitVec 32 := 3584#32
  let v296 : BitVec 32 := Scalar.addi v70 c3584_i32
  let v297 : BitVec 32 := v296
  let c512_i32_88 : BitVec 32 := 512#32
  let v298 : BitVec 32 := Scalar.addi v297 c512_i32_88
  v298
def k0_mult36 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  v39
def k0_cond2 (i : grid0.Coords) : BitVec 1 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c8_i32_15 : BitVec 32 := 8#32
  let v41 : BitVec 32 := Scalar.muli v31 c8_i32_15
  let v42 : BitVec 32 := Scalar.subi v14 v41
  let c0_i32_17 : BitVec 32 := 0#32
  let v44 : BitVec 1 := Scalar.cmpi .sgt v42 c0_i32_17
  let v45 : BitVec 32 := Scalar.extui v44
  let c0_i32_18 : BitVec 32 := 0#32
  let v46 : BitVec 1 := Scalar.cmpi .slt v42 c0_i32_18
  let v47 : BitVec 32 := Scalar.extui v46
  let v48 : BitVec 32 := Scalar.subi v45 v47
  let c2_i32_16 : BitVec 32 := 2#32
  let c0_i32_19 : BitVec 32 := 0#32
  let v49 : BitVec 1 := Scalar.cmpi .sgt c2_i32_16 c0_i32_19
  let v50 : BitVec 32 := Scalar.extui v49
  let c0_i32_20 : BitVec 32 := 0#32
  let v51 : BitVec 1 := Scalar.cmpi .slt c2_i32_16 c0_i32_20
  let v52 : BitVec 32 := Scalar.extui v51
  let v53 : BitVec 32 := Scalar.subi v50 v52
  let v54 : BitVec 1 := Scalar.cmpi .ne v48 v53
  let v55 : BitVec 32 := Scalar.remsi v42 c2_i32_16
  let c0_i32_21 : BitVec 32 := 0#32
  let v56 : BitVec 1 := Scalar.cmpi .ne v55 c0_i32_21
  let v57 : BitVec 1 := Scalar.andi v54 v56
  let v43 : BitVec 32 := Scalar.divsi v42 c2_i32_16
  let c1_i32_22 : BitVec 32 := 1#32
  let v58 : BitVec 32 := Scalar.subi v43 c1_i32_22
  let v59 : BitVec 32 := Scalar.select v57 v58 v43
  let c0_i32_23 : BitVec 32 := 0#32
  let v60 : BitVec 32 := Scalar.maxsi v59 c0_i32_23
  let c3_i32 : BitVec 32 := 3#32
  let v61 : BitVec 32 := Scalar.minsi v60 c3_i32
  let c0_i32_24 : BitVec 32 := 0#32
  let v62 : BitVec 1 := Scalar.cmpi .ne v61 c0_i32_24
  v62

def k0_cond3 (i : grid0.Coords) : BitVec 1 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c8_i32_15 : BitVec 32 := 8#32
  let v41 : BitVec 32 := Scalar.muli v31 c8_i32_15
  let v42 : BitVec 32 := Scalar.subi v14 v41
  let c0_i32_17 : BitVec 32 := 0#32
  let v44 : BitVec 1 := Scalar.cmpi .sgt v42 c0_i32_17
  let v45 : BitVec 32 := Scalar.extui v44
  let c0_i32_18 : BitVec 32 := 0#32
  let v46 : BitVec 1 := Scalar.cmpi .slt v42 c0_i32_18
  let v47 : BitVec 32 := Scalar.extui v46
  let v48 : BitVec 32 := Scalar.subi v45 v47
  let c2_i32_16 : BitVec 32 := 2#32
  let c0_i32_19 : BitVec 32 := 0#32
  let v49 : BitVec 1 := Scalar.cmpi .sgt c2_i32_16 c0_i32_19
  let v50 : BitVec 32 := Scalar.extui v49
  let c0_i32_20 : BitVec 32 := 0#32
  let v51 : BitVec 1 := Scalar.cmpi .slt c2_i32_16 c0_i32_20
  let v52 : BitVec 32 := Scalar.extui v51
  let v53 : BitVec 32 := Scalar.subi v50 v52
  let v54 : BitVec 1 := Scalar.cmpi .ne v48 v53
  let v55 : BitVec 32 := Scalar.remsi v42 c2_i32_16
  let c0_i32_21 : BitVec 32 := 0#32
  let v56 : BitVec 1 := Scalar.cmpi .ne v55 c0_i32_21
  let v57 : BitVec 1 := Scalar.andi v54 v56
  let v43 : BitVec 32 := Scalar.divsi v42 c2_i32_16
  let c1_i32_22 : BitVec 32 := 1#32
  let v58 : BitVec 32 := Scalar.subi v43 c1_i32_22
  let v59 : BitVec 32 := Scalar.select v57 v58 v43
  let c0_i32_23 : BitVec 32 := 0#32
  let v60 : BitVec 32 := Scalar.maxsi v59 c0_i32_23
  let c3_i32 : BitVec 32 := 3#32
  let v61 : BitVec 32 := Scalar.minsi v60 c3_i32
  let c1_i32_27 : BitVec 32 := 1#32
  let v69 : BitVec 32 := Scalar.subi v61 c1_i32_27
  let c0_i32_28 : BitVec 32 := 0#32
  let v70 : BitVec 1 := Scalar.cmpi .ne v69 c0_i32_28
  v70

def k0_cond4 (i : grid0.Coords) : BitVec 1 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c8_i32_15 : BitVec 32 := 8#32
  let v41 : BitVec 32 := Scalar.muli v31 c8_i32_15
  let v42 : BitVec 32 := Scalar.subi v14 v41
  let c0_i32_17 : BitVec 32 := 0#32
  let v44 : BitVec 1 := Scalar.cmpi .sgt v42 c0_i32_17
  let v45 : BitVec 32 := Scalar.extui v44
  let c0_i32_18 : BitVec 32 := 0#32
  let v46 : BitVec 1 := Scalar.cmpi .slt v42 c0_i32_18
  let v47 : BitVec 32 := Scalar.extui v46
  let v48 : BitVec 32 := Scalar.subi v45 v47
  let c2_i32_16 : BitVec 32 := 2#32
  let c0_i32_19 : BitVec 32 := 0#32
  let v49 : BitVec 1 := Scalar.cmpi .sgt c2_i32_16 c0_i32_19
  let v50 : BitVec 32 := Scalar.extui v49
  let c0_i32_20 : BitVec 32 := 0#32
  let v51 : BitVec 1 := Scalar.cmpi .slt c2_i32_16 c0_i32_20
  let v52 : BitVec 32 := Scalar.extui v51
  let v53 : BitVec 32 := Scalar.subi v50 v52
  let v54 : BitVec 1 := Scalar.cmpi .ne v48 v53
  let v55 : BitVec 32 := Scalar.remsi v42 c2_i32_16
  let c0_i32_21 : BitVec 32 := 0#32
  let v56 : BitVec 1 := Scalar.cmpi .ne v55 c0_i32_21
  let v57 : BitVec 1 := Scalar.andi v54 v56
  let v43 : BitVec 32 := Scalar.divsi v42 c2_i32_16
  let c1_i32_22 : BitVec 32 := 1#32
  let v58 : BitVec 32 := Scalar.subi v43 c1_i32_22
  let v59 : BitVec 32 := Scalar.select v57 v58 v43
  let c0_i32_23 : BitVec 32 := 0#32
  let v60 : BitVec 32 := Scalar.maxsi v59 c0_i32_23
  let c3_i32 : BitVec 32 := 3#32
  let v61 : BitVec 32 := Scalar.minsi v60 c3_i32
  let c1_i32_27 : BitVec 32 := 1#32
  let v69 : BitVec 32 := Scalar.subi v61 c1_i32_27
  let c1_i32_29 : BitVec 32 := 1#32
  let v72 : BitVec 32 := Scalar.subi v69 c1_i32_29
  let c0_i32_30 : BitVec 32 := 0#32
  let v73 : BitVec 1 := Scalar.cmpi .ne v72 c0_i32_30
  v73

def k0_mult37 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_33 : BitVec 32 := 0#32
  let v76 : BitVec 32 := Scalar.addi v40 c0_i32_33
  v76
def k0_mult38 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_33 : BitVec 32 := 0#32
  let v76 : BitVec 32 := Scalar.addi v40 c0_i32_33
  let v77 : BitVec 32 := v76
  let c512_i32 : BitVec 32 := 512#32
  let v78 : BitVec 32 := Scalar.addi v77 c512_i32
  v78
def k0_off8 (i : grid0.Coords) (c0_i32_33 : BitVec 32) : Fin 3 → Nat :=
  let c0_34 : Index := 0#32
  let c0_35 : Index := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let c512_i32 : BitVec 32 := 512#32
  let v78 : BitVec 32 := Scalar.addi v77 c512_i32
  let v79 : BitVec 32 := v78
  let v80 : Index := Scalar.indexCast v79
  ![0, 0, v80.toNat]
def k0_off9 (i : grid0.Coords) (c0_i32_33 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let c512_i32 : BitVec 32 := 512#32
  let v78 : BitVec 32 := Scalar.addi v77 c512_i32
  let v79 : BitVec 32 := v78
  let v85 : Index := Scalar.indexCast v79
  let c0_36 : Index := 0#32
  ![v85.toNat, 0]
def k0_off10 (i : grid0.Coords) (c0_i32_33 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let v100 : Index := Scalar.indexCast v77
  let c0_39 : Index := 0#32
  ![v100.toNat, 0]
def k0_mult39 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_41 : BitVec 32 := 512#32
  let v108 : BitVec 32 := Scalar.addi v40 c512_i32_41
  v108
def k0_mult40 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_41 : BitVec 32 := 512#32
  let v108 : BitVec 32 := Scalar.addi v40 c512_i32_41
  let v109 : BitVec 32 := v108
  let c512_i32_42 : BitVec 32 := 512#32
  let v110 : BitVec 32 := Scalar.addi v109 c512_i32_42
  v110
def k0_mult41 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_50 : BitVec 32 := 1024#32
  let v140 : BitVec 32 := Scalar.addi v40 c1024_i32_50
  v140
def k0_mult42 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_50 : BitVec 32 := 1024#32
  let v140 : BitVec 32 := Scalar.addi v40 c1024_i32_50
  let v141 : BitVec 32 := v140
  let c512_i32_51 : BitVec 32 := 512#32
  let v142 : BitVec 32 := Scalar.addi v141 c512_i32_51
  v142
def k0_mult43 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1536_i32 : BitVec 32 := 1536#32
  let v172 : BitVec 32 := Scalar.addi v40 c1536_i32
  v172
def k0_mult44 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1536_i32 : BitVec 32 := 1536#32
  let v172 : BitVec 32 := Scalar.addi v40 c1536_i32
  let v173 : BitVec 32 := v172
  let c512_i32_59 : BitVec 32 := 512#32
  let v174 : BitVec 32 := Scalar.addi v173 c512_i32_59
  v174
def k0_mult45 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2048_i32 : BitVec 32 := 2048#32
  let v204 : BitVec 32 := Scalar.addi v40 c2048_i32
  v204
def k0_mult46 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2048_i32 : BitVec 32 := 2048#32
  let v204 : BitVec 32 := Scalar.addi v40 c2048_i32
  let v205 : BitVec 32 := v204
  let c512_i32_67 : BitVec 32 := 512#32
  let v206 : BitVec 32 := Scalar.addi v205 c512_i32_67
  v206
def k0_mult47 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2560_i32 : BitVec 32 := 2560#32
  let v236 : BitVec 32 := Scalar.addi v40 c2560_i32
  v236
def k0_mult48 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2560_i32 : BitVec 32 := 2560#32
  let v236 : BitVec 32 := Scalar.addi v40 c2560_i32
  let v237 : BitVec 32 := v236
  let c512_i32_75 : BitVec 32 := 512#32
  let v238 : BitVec 32 := Scalar.addi v237 c512_i32_75
  v238
def k0_mult49 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c3072_i32 : BitVec 32 := 3072#32
  let v268 : BitVec 32 := Scalar.addi v40 c3072_i32
  v268
def k0_mult50 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c3072_i32 : BitVec 32 := 3072#32
  let v268 : BitVec 32 := Scalar.addi v40 c3072_i32
  let v269 : BitVec 32 := v268
  let c512_i32_83 : BitVec 32 := 512#32
  let v270 : BitVec 32 := Scalar.addi v269 c512_i32_83
  v270
def k0_mult51 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c3584_i32 : BitVec 32 := 3584#32
  let v311 : BitVec 32 := Scalar.addi v40 c3584_i32
  v311
def k0_mult52 (i : grid0.Coords) : BitVec 32 :=
  let arg2 : BitVec 32 := BitVec.ofNat 32 (i 2).val
  let c1_i32_93 : BitVec 32 := 1#32
  let v313 : BitVec 32 := Scalar.addi arg2 c1_i32_93
  let c7_i32 : BitVec 32 := 7#32
  let v314 : BitVec 32 := Scalar.minsi v313 c7_i32
  let c1024_i32_94 : BitVec 32 := 1024#32
  let v315 : BitVec 32 := Scalar.muli v314 c1024_i32_94
  v315
def k0_off11 (i : grid0.Coords) : Fin 3 → Nat :=
  let c0_95 : Index := 0#32
  let c0_96 : Index := 0#32
  let arg2 : BitVec 32 := BitVec.ofNat 32 (i 2).val
  let c1_i32_93 : BitVec 32 := 1#32
  let v313 : BitVec 32 := Scalar.addi arg2 c1_i32_93
  let c7_i32 : BitVec 32 := 7#32
  let v314 : BitVec 32 := Scalar.minsi v313 c7_i32
  let c1024_i32_94 : BitVec 32 := 1024#32
  let v315 : BitVec 32 := Scalar.muli v314 c1024_i32_94
  let v316 : BitVec 32 := v315
  let v317 : Index := Scalar.indexCast v316
  ![0, 0, v317.toNat]
def k0_mult53 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_33 : BitVec 32 := 0#32
  let v76 : BitVec 32 := Scalar.addi v40 c0_i32_33
  v76
def k0_mult54 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_33 : BitVec 32 := 0#32
  let v76 : BitVec 32 := Scalar.addi v40 c0_i32_33
  let v77 : BitVec 32 := v76
  let c512_i32 : BitVec 32 := 512#32
  let v78 : BitVec 32 := Scalar.addi v77 c512_i32
  v78
def k0_off12 (i : grid0.Coords) (c0_i32_33 : BitVec 32) : Fin 3 → Nat :=
  let c0_34 : Index := 0#32
  let c0_35 : Index := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let c512_i32 : BitVec 32 := 512#32
  let v78 : BitVec 32 := Scalar.addi v77 c512_i32
  let v79 : BitVec 32 := v78
  let v80 : Index := Scalar.indexCast v79
  ![0, 0, v80.toNat]
def k0_off13 (i : grid0.Coords) (c0_i32_33 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let c512_i32 : BitVec 32 := 512#32
  let v78 : BitVec 32 := Scalar.addi v77 c512_i32
  let v79 : BitVec 32 := v78
  let v85 : Index := Scalar.indexCast v79
  let c0_36 : Index := 0#32
  ![v85.toNat, 0]
def k0_off14 (i : grid0.Coords) (c0_i32_33 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v76 : BitVec 32 := Scalar.addi v40 c0_i32_33
  let v77 : BitVec 32 := v76
  let v100 : Index := Scalar.indexCast v77
  let c0_39 : Index := 0#32
  ![v100.toNat, 0]
def k0_mult55 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_41 : BitVec 32 := 512#32
  let v108 : BitVec 32 := Scalar.addi v40 c512_i32_41
  v108
def k0_mult56 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_41 : BitVec 32 := 512#32
  let v108 : BitVec 32 := Scalar.addi v40 c512_i32_41
  let v109 : BitVec 32 := v108
  let c512_i32_42 : BitVec 32 := 512#32
  let v110 : BitVec 32 := Scalar.addi v109 c512_i32_42
  v110
def k0_mult57 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_50 : BitVec 32 := 1024#32
  let v140 : BitVec 32 := Scalar.addi v40 c1024_i32_50
  v140
def k0_mult58 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_50 : BitVec 32 := 1024#32
  let v140 : BitVec 32 := Scalar.addi v40 c1024_i32_50
  let v141 : BitVec 32 := v140
  let c512_i32_51 : BitVec 32 := 512#32
  let v142 : BitVec 32 := Scalar.addi v141 c512_i32_51
  v142
def k0_mult59 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1536_i32 : BitVec 32 := 1536#32
  let v172 : BitVec 32 := Scalar.addi v40 c1536_i32
  v172
def k0_mult60 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1536_i32 : BitVec 32 := 1536#32
  let v172 : BitVec 32 := Scalar.addi v40 c1536_i32
  let v173 : BitVec 32 := v172
  let c512_i32_59 : BitVec 32 := 512#32
  let v174 : BitVec 32 := Scalar.addi v173 c512_i32_59
  v174
def k0_mult61 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2048_i32 : BitVec 32 := 2048#32
  let v204 : BitVec 32 := Scalar.addi v40 c2048_i32
  v204
def k0_mult62 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2048_i32 : BitVec 32 := 2048#32
  let v204 : BitVec 32 := Scalar.addi v40 c2048_i32
  let v205 : BitVec 32 := v204
  let c512_i32_67 : BitVec 32 := 512#32
  let v206 : BitVec 32 := Scalar.addi v205 c512_i32_67
  v206
def k0_mult63 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c2560_i32 : BitVec 32 := 2560#32
  let v247 : BitVec 32 := Scalar.addi v40 c2560_i32
  v247
def k0_mult64 (i : grid0.Coords) : BitVec 32 :=
  let arg2 : BitVec 32 := BitVec.ofNat 32 (i 2).val
  let c1_i32_77 : BitVec 32 := 1#32
  let v249 : BitVec 32 := Scalar.addi arg2 c1_i32_77
  let c7_i32 : BitVec 32 := 7#32
  let v250 : BitVec 32 := Scalar.minsi v249 c7_i32
  let c1024_i32_78 : BitVec 32 := 1024#32
  let v251 : BitVec 32 := Scalar.muli v250 c1024_i32_78
  v251
def k0_off15 (i : grid0.Coords) : Fin 3 → Nat :=
  let c0_79 : Index := 0#32
  let c0_80 : Index := 0#32
  let arg2 : BitVec 32 := BitVec.ofNat 32 (i 2).val
  let c1_i32_77 : BitVec 32 := 1#32
  let v249 : BitVec 32 := Scalar.addi arg2 c1_i32_77
  let c7_i32 : BitVec 32 := 7#32
  let v250 : BitVec 32 := Scalar.minsi v249 c7_i32
  let c1024_i32_78 : BitVec 32 := 1024#32
  let v251 : BitVec 32 := Scalar.muli v250 c1024_i32_78
  let v252 : BitVec 32 := v251
  let v253 : Index := Scalar.indexCast v252
  ![0, 0, v253.toNat]
def k0_mult65 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_31 : BitVec 32 := 0#32
  let v73 : BitVec 32 := Scalar.addi v40 c0_i32_31
  v73
def k0_mult66 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_31 : BitVec 32 := 0#32
  let v73 : BitVec 32 := Scalar.addi v40 c0_i32_31
  let v74 : BitVec 32 := v73
  let c512_i32 : BitVec 32 := 512#32
  let v75 : BitVec 32 := Scalar.addi v74 c512_i32
  v75
def k0_off16 (i : grid0.Coords) (c0_i32_31 : BitVec 32) : Fin 3 → Nat :=
  let c0_32 : Index := 0#32
  let c0_33 : Index := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v73 : BitVec 32 := Scalar.addi v40 c0_i32_31
  let v74 : BitVec 32 := v73
  let c512_i32 : BitVec 32 := 512#32
  let v75 : BitVec 32 := Scalar.addi v74 c512_i32
  let v76 : BitVec 32 := v75
  let v77 : Index := Scalar.indexCast v76
  ![0, 0, v77.toNat]
def k0_off17 (i : grid0.Coords) (c0_i32_31 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v73 : BitVec 32 := Scalar.addi v40 c0_i32_31
  let v74 : BitVec 32 := v73
  let c512_i32 : BitVec 32 := 512#32
  let v75 : BitVec 32 := Scalar.addi v74 c512_i32
  let v76 : BitVec 32 := v75
  let v82 : Index := Scalar.indexCast v76
  let c0_34 : Index := 0#32
  ![v82.toNat, 0]
def k0_off18 (i : grid0.Coords) (c0_i32_31 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v73 : BitVec 32 := Scalar.addi v40 c0_i32_31
  let v74 : BitVec 32 := v73
  let v97 : Index := Scalar.indexCast v74
  let c0_37 : Index := 0#32
  ![v97.toNat, 0]
def k0_mult67 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_39 : BitVec 32 := 512#32
  let v105 : BitVec 32 := Scalar.addi v40 c512_i32_39
  v105
def k0_mult68 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_39 : BitVec 32 := 512#32
  let v105 : BitVec 32 := Scalar.addi v40 c512_i32_39
  let v106 : BitVec 32 := v105
  let c512_i32_40 : BitVec 32 := 512#32
  let v107 : BitVec 32 := Scalar.addi v106 c512_i32_40
  v107
def k0_mult69 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_48 : BitVec 32 := 1024#32
  let v137 : BitVec 32 := Scalar.addi v40 c1024_i32_48
  v137
def k0_mult70 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1024_i32_48 : BitVec 32 := 1024#32
  let v137 : BitVec 32 := Scalar.addi v40 c1024_i32_48
  let v138 : BitVec 32 := v137
  let c512_i32_49 : BitVec 32 := 512#32
  let v139 : BitVec 32 := Scalar.addi v138 c512_i32_49
  v139
def k0_mult71 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c1536_i32 : BitVec 32 := 1536#32
  let v180 : BitVec 32 := Scalar.addi v40 c1536_i32
  v180
def k0_mult72 (i : grid0.Coords) : BitVec 32 :=
  let arg2 : BitVec 32 := BitVec.ofNat 32 (i 2).val
  let c1_i32_59 : BitVec 32 := 1#32
  let v182 : BitVec 32 := Scalar.addi arg2 c1_i32_59
  let c7_i32 : BitVec 32 := 7#32
  let v183 : BitVec 32 := Scalar.minsi v182 c7_i32
  let c1024_i32_60 : BitVec 32 := 1024#32
  let v184 : BitVec 32 := Scalar.muli v183 c1024_i32_60
  v184
def k0_off19 (i : grid0.Coords) : Fin 3 → Nat :=
  let c0_61 : Index := 0#32
  let c0_62 : Index := 0#32
  let arg2 : BitVec 32 := BitVec.ofNat 32 (i 2).val
  let c1_i32_59 : BitVec 32 := 1#32
  let v182 : BitVec 32 := Scalar.addi arg2 c1_i32_59
  let c7_i32 : BitVec 32 := 7#32
  let v183 : BitVec 32 := Scalar.minsi v182 c7_i32
  let c1024_i32_60 : BitVec 32 := 1024#32
  let v184 : BitVec 32 := Scalar.muli v183 c1024_i32_60
  let v185 : BitVec 32 := v184
  let v186 : Index := Scalar.indexCast v185
  ![0, 0, v186.toNat]
def k0_mult73 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_29 : BitVec 32 := 0#32
  let v70 : BitVec 32 := Scalar.addi v40 c0_i32_29
  v70
def k0_mult74 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_29 : BitVec 32 := 0#32
  let v70 : BitVec 32 := Scalar.addi v40 c0_i32_29
  let v71 : BitVec 32 := v70
  let c512_i32 : BitVec 32 := 512#32
  let v72 : BitVec 32 := Scalar.addi v71 c512_i32
  v72
def k0_off20 (i : grid0.Coords) : Fin 3 → Nat :=
  let c0_30 : Index := 0#32
  let c0_31 : Index := 0#32
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_29 : BitVec 32 := 0#32
  let v70 : BitVec 32 := Scalar.addi v40 c0_i32_29
  let v71 : BitVec 32 := v70
  let c512_i32 : BitVec 32 := 512#32
  let v72 : BitVec 32 := Scalar.addi v71 c512_i32
  let v73 : BitVec 32 := v72
  let v74 : Index := Scalar.indexCast v73
  ![0, 0, v74.toNat]
def k0_off21 (i : grid0.Coords) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c0_i32_29 : BitVec 32 := 0#32
  let v70 : BitVec 32 := Scalar.addi v40 c0_i32_29
  let v71 : BitVec 32 := v70
  let c512_i32 : BitVec 32 := 512#32
  let v72 : BitVec 32 := Scalar.addi v71 c512_i32
  let v73 : BitVec 32 := v72
  let v80 : Index := Scalar.indexCast v73
  let c0_32 : Index := 0#32
  ![v80.toNat, 0]
def k0_off22 (i : grid0.Coords) (c0_i32_29 : BitVec 32) : Fin 2 → Nat :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let v70 : BitVec 32 := Scalar.addi v40 c0_i32_29
  let v71 : BitVec 32 := v70
  let v105 : Index := Scalar.indexCast v71
  let c0_37 : Index := 0#32
  ![v105.toNat, 0]
def k0_mult75 (i : grid0.Coords) : BitVec 32 :=
  let arg2 : BitVec 32 := BitVec.ofNat 32 (i 2).val
  let c2_i32 : BitVec 32 := 2#32
  let v14 : BitVec 32 := Scalar.muli arg2 c2_i32
  let c0_i32_6 : BitVec 32 := 0#32
  let v16 : BitVec 1 := Scalar.cmpi .sgt v14 c0_i32_6
  let v17 : BitVec 32 := Scalar.extui v16
  let c0_i32_7 : BitVec 32 := 0#32
  let v18 : BitVec 1 := Scalar.cmpi .slt v14 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v14 c8_i32
  let c0_i32_10 : BitVec 32 := 0#32
  let v28 : BitVec 1 := Scalar.cmpi .ne v27 c0_i32_10
  let v29 : BitVec 1 := Scalar.andi v26 v28
  let v15 : BitVec 32 := Scalar.divsi v14 c8_i32
  let c1_i32 : BitVec 32 := 1#32
  let v30 : BitVec 32 := Scalar.subi v15 c1_i32
  let v31 : BitVec 32 := Scalar.select v29 v30 v15
  let c4096_i32 : BitVec 32 := 4096#32
  let v39 : BitVec 32 := Scalar.muli v31 c4096_i32
  let v40 : BitVec 32 := v39
  let c512_i32_39 : BitVec 32 := 512#32
  let v113 : BitVec 32 := Scalar.addi v40 c512_i32_39
  v113
def k0_mult76 (i : grid0.Coords) : BitVec 32 :=
  let arg2 : BitVec 32 := BitVec.ofNat 32 (i 2).val
  let c1_i32_40 : BitVec 32 := 1#32
  let v115 : BitVec 32 := Scalar.addi arg2 c1_i32_40
  let c7_i32 : BitVec 32 := 7#32
  let v116 : BitVec 32 := Scalar.minsi v115 c7_i32
  let c1024_i32_41 : BitVec 32 := 1024#32
  let v117 : BitVec 32 := Scalar.muli v116 c1024_i32_41
  v117
def k0_off23 (i : grid0.Coords) : Fin 3 → Nat :=
  let c0_42 : Index := 0#32
  let c0_43 : Index := 0#32
  let arg2 : BitVec 32 := BitVec.ofNat 32 (i 2).val
  let c1_i32_40 : BitVec 32 := 1#32
  let v115 : BitVec 32 := Scalar.addi arg2 c1_i32_40
  let c7_i32 : BitVec 32 := 7#32
  let v116 : BitVec 32 := Scalar.minsi v115 c7_i32
  let c1024_i32_41 : BitVec 32 := 1024#32
  let v117 : BitVec 32 := Scalar.muli v116 c1024_i32_41
  let v118 : BitVec 32 := v117
  let v119 : Index := Scalar.indexCast v118
  ![0, 0, v119.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.addi arg2 c1_i32
  let c7_i32 : BitVec 32 := 7#32
  let v2 : BitVec 32 := Scalar.minsi v1 c7_i32
  let v3 : BitVec 32 := Scalar.addi v0 v2
  let c0_i32 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x768 : Shape := ⟨3, ![4, 8192, 768]⟩
abbrev S4x8192x6 : Shape := ⟨3, ![4, 8192, 6]⟩
abbrev S4x6x8192 : Shape := ⟨3, ![4, 6, 8192]⟩
abbrev S4x8192x6x128 : Shape := ⟨4, ![4, 8192, 6, 128]⟩
abbrev S4x6x8192x128 : Shape := ⟨4, ![4, 6, 8192, 128]⟩
abbrev S_ : Shape := ⟨0, ![]⟩
abbrev S4x6x8192x8192 : Shape := ⟨4, ![4, 6, 8192, 8192]⟩
abbrev S4x6x8192x1 : Shape := ⟨4, ![4, 6, 8192, 1]⟩
abbrev S4x6x1x8192 : Shape := ⟨4, ![4, 6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S32768x768 : Shape := ⟨2, ![32768, 768]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x768, .f32⟩
  | .hbm, ⟨2, _⟩ => ⟨S4x8192x768, .f32⟩
  | .hbm, ⟨3, _⟩ => ⟨S4x8192x6, .f32⟩
  | .hbm, ⟨4, _⟩ => ⟨S4x6x8192, .f32⟩
  | .hbm, ⟨5, _⟩ => ⟨S4x8192x6x128, .f32⟩
  | .hbm, ⟨6, _⟩ => ⟨S4x6x8192x128, .f32⟩
  | .hbm, ⟨7, _⟩ => ⟨S_, .f32⟩
  | .hbm, ⟨8, _⟩ => ⟨S4x6x8192x128, .f32⟩
  | .hbm, ⟨9, _⟩ => ⟨S4x6x8192x128, .f32⟩
  | .hbm, ⟨10, _⟩ => ⟨S4x8192x6x128, .f32⟩
  | .hbm, ⟨11, _⟩ => ⟨S4x6x8192x128, .f32⟩
  | .hbm, ⟨12, _⟩ => ⟨S4x6x8192x8192, .f32⟩
  | .hbm, ⟨13, _⟩ => ⟨S4x6x8192x1, .f32⟩
  | .hbm, ⟨14, _⟩ => ⟨S4x6x8192x8192, .f32⟩
  | .hbm, ⟨15, _⟩ => ⟨S4x6x8192x8192, .f32⟩
  | .hbm, ⟨16, _⟩ => ⟨S4x6x1x8192, .f32⟩
  | .hbm, ⟨17, _⟩ => ⟨S4x6x8192x8192, .f32⟩
  | .hbm, ⟨18, _⟩ => ⟨S4x6x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x6x8192x8192, .i1⟩
  | .hbm, ⟨28, _⟩ => ⟨S4x6x8192x8192, .f32⟩
  | .hbm, ⟨29, _⟩ => ⟨S4x6x8192x8192, .f32⟩
  | .hbm, ⟨30, _⟩ => ⟨S_, .f32⟩
  | .hbm, ⟨31, _⟩ => ⟨S4x6x8192, .f32⟩
  | .hbm, ⟨32, _⟩ => ⟨S_, .f32⟩
  | .hbm, ⟨33, _⟩ => ⟨S4x6x8192, .f32⟩
  | .hbm, ⟨34, _⟩ => ⟨S4x6x8192, .f32⟩
  | .hbm, ⟨35, _⟩ => ⟨S4x6x8192x1, .f32⟩
  | .hbm, ⟨36, _⟩ => ⟨S4x6x8192x8192, .f32⟩
  | .hbm, ⟨37, _⟩ => ⟨S4x6x8192x8192, .f32⟩
  | .hbm, ⟨38, _⟩ => ⟨S4x6x8192x8192, .f32⟩
  | .hbm, ⟨39, _⟩ => ⟨S_, .f32⟩
  | .hbm, ⟨40, _⟩ => ⟨S4x6x8192, .f32⟩
  | .hbm, ⟨41, _⟩ => ⟨S4x6x8192x1, .f32⟩
  | .hbm, ⟨42, _⟩ => ⟨S4x6x8192x8192, .f32⟩
  | .hbm, ⟨43, _⟩ => ⟨S4x6x8192x8192, .f32⟩
  | .hbm, ⟨44, _⟩ => ⟨S4x8192x6x128, .f32⟩
  | .hbm, ⟨45, _⟩ => ⟨S4x6x8192x128, .f32⟩
  | .hbm, ⟨46, _⟩ => ⟨S4x6x8192x128, .f32⟩
  | .hbm, ⟨47, _⟩ => ⟨S4x8192x6x128, .f32⟩
  | .hbm, ⟨48, _⟩ => ⟨S32768x768, .f32⟩
  | .hbm, ⟨49, _⟩ => ⟨S32768x768, .bf16⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x2048x8192 : Shape := ⟨3, ![4, 2048, 8192]⟩
abbrev S4x2048 : Shape := ⟨2, ![4, 2048]⟩
abbrev S32768x2048 : Shape := ⟨2, ![32768, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x2048x8192, .f32⟩
  | .hbm, ⟨2, _⟩ => ⟨S4x8192x2048, .f32⟩
  | .hbm, ⟨3, _⟩ => ⟨S4x2048, .f32⟩
  | .hbm, ⟨4, _⟩ => ⟨S4x2048, .f32⟩
  | .hbm, ⟨5, _⟩ => ⟨S32768x2048, .f32⟩
  | .hbm, ⟨6, _⟩ => ⟨S4x2048x8192, .bf16⟩
  | .hbm, ⟨7, _⟩ => ⟨S4x8192x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x8192x2048 : Shape := ⟨3, ![4, 8192, 2048]⟩
abbrev S4x2048x8192 : Shape := ⟨3, ![4, 2048, 8192]⟩
abbrev S4x2048 : Shape := ⟨2, ![4, 2048]⟩
abbrev S1x2048x8192 : Shape := ⟨3, ![1, 2048, 8192]⟩
abbrev S2048x8192 : Shape := ⟨2, ![2048, 8192]⟩
abbrev S4x8192x8192 : Shape := ⟨3, ![4, 8192, 8192]⟩
abbrev S_ : Shape := ⟨0, ![]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x8192, .f32⟩
  | .hbm, ⟨2, _⟩ => ⟨S4x8192x2048, .f32⟩
  | .hbm, ⟨3, _⟩ => ⟨S4x2048, .f32⟩
  | .hbm, ⟨4, _⟩ => ⟨S4x2048, .f32⟩
  | .hbm, ⟨5, _⟩ => ⟨S1x2048x8192, .f32⟩
  | .hbm, ⟨6, _⟩ => ⟨S2048x8192, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S4x8192x8192, .f32⟩
  | .hbm, ⟨12, _⟩ => ⟨S_, .f32⟩
  | .hbm, ⟨13, _⟩ => ⟨S4x8192x2048, .f32⟩
  | .hbm, ⟨14, _⟩ => ⟨S4x8192x2048, .f32⟩
  | .hbm, ⟨15, _⟩ => ⟨S1x8192x2048, .f32⟩
  | .hbm, ⟨16, _⟩ => ⟨S8192x2048, .f32⟩
  | .hbm, ⟨17, _⟩ => ⟨S4x8192x2048, .f32⟩
  | .hbm, ⟨18, _⟩ => ⟨S4x8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x2048, .f32⟩
  | .hbm, ⟨39, _⟩ => ⟨S4x8192x2048, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x8192x1, .f32⟩
  | .hbm, ⟨44, _⟩ => ⟨S4x8192x2048, .f32⟩
  | .hbm, ⟨45, _⟩ => ⟨S4x8192x2048, .f32⟩
  | .hbm, ⟨46, _⟩ => ⟨S1x1x2048, .f32⟩
  | .hbm, ⟨47, _⟩ => ⟨S4x8192x2048, .f32⟩
  | .hbm, ⟨48, _⟩ => ⟨S4x8192x2048, .f32⟩
  | .hbm, ⟨49, _⟩ => ⟨S1x1x2048, .f32⟩
  | .hbm, ⟨50, _⟩ => ⟨S4x8192x2048, .f32⟩
  | .hbm, ⟨51, _⟩ => ⟨S4x8192x2048, .f32⟩
  | .hbm, ⟨52, _⟩ => ⟨S32768x2048, .f32⟩
  | .hbm, ⟨53, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x8192x768 : Shape := ⟨3, ![4, 8192, 768]⟩
abbrev S4x8192x640 : Shape := ⟨3, ![4, 8192, 640]⟩
abbrev S4x2048x2048 : Shape := ⟨3, ![4, 2048, 2048]⟩
abbrev S4x2048 : Shape := ⟨2, ![4, 2048]⟩
abbrev S32768x2048 : Shape := ⟨2, ![32768, 2048]⟩
abbrev S32768x768 : Shape := ⟨2, ![32768, 768]⟩
abbrev S32768x640 : Shape := ⟨2, ![32768, 640]⟩
abbrev S1x2048 : Shape := ⟨2, ![1, 2048]⟩
abbrev S2048 : Shape := ⟨1, ![2048]⟩
abbrev S512x2048 : Shape := ⟨2, ![512, 2048]⟩
abbrev S512x768 : Shape := ⟨2, ![512, 768]⟩
abbrev S512x640 : Shape := ⟨2, ![512, 640]⟩
abbrev S1x2048x2048 : Shape := ⟨3, ![1, 2048, 2048]⟩
abbrev S1x768x2048 : Shape := ⟨3, ![1, 768, 2048]⟩
abbrev S768x2048 : Shape := ⟨2, ![768, 2048]⟩
abbrev S1x640x2048 : Shape := ⟨3, ![1, 640, 2048]⟩
abbrev S640x2048 : Shape := ⟨2, ![640, 2048]⟩
abbrev S512 : Shape := ⟨1, ![512]⟩
abbrev S512x1 : Shape := ⟨2, ![512, 1]⟩

abbrev nBuf : Space → Nat
  | .hbm => 22
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S4x8192x768, .f32⟩
  | .hbm, ⟨2, _⟩ => ⟨S4x8192x640, .f32⟩
  | .hbm, ⟨3, _⟩ => ⟨S4x8192x640, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S32768x2048, .f32⟩
  | .hbm, ⟨8, _⟩ => ⟨S32768x768, .f32⟩
  | .hbm, ⟨9, _⟩ => ⟨S32768x768, .bf16⟩
  | .hbm, ⟨10, _⟩ => ⟨S32768x640, .f32⟩
  | .hbm, ⟨11, _⟩ => ⟨S32768x640, .bf16⟩
  | .hbm, ⟨12, _⟩ => ⟨S32768x640, .f32⟩
  | .hbm, ⟨13, _⟩ => ⟨S32768x640, .bf16⟩
  | .hbm, ⟨14, _⟩ => ⟨S4x2048x2048, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S512x640, .bf16⟩
  | .local _ .vmem, ⟨5, _⟩ => ⟨S512x640, .bf16⟩
  | .local _ .vmem, ⟨6, _⟩ => ⟨S512x640, .bf16⟩
  | .local _ .vmem, ⟨7, _⟩ => ⟨S512x640, .bf16⟩
  | .local _ .vmem, ⟨8, _⟩ => ⟨S1x2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x2048 : Shape := ⟨3, ![4, 8192, 2048]⟩
abbrev S4x8192x768 : Shape := ⟨3, ![4, 8192, 768]⟩
abbrev S4x8192x640 : Shape := ⟨3, ![4, 8192, 640]⟩
abbrev S4x2048x2048 : Shape := ⟨3, ![4, 2048, 2048]⟩
abbrev S4x2048 : Shape := ⟨2, ![4, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x768, .f32⟩
  | .hbm, ⟨2, _⟩ => ⟨S4x8192x640, .f32⟩
  | .hbm, ⟨3, _⟩ => ⟨S4x8192x640, .f32⟩
  | .hbm, ⟨4, _⟩ => ⟨S4x2048x2048, .f32⟩
  | .hbm, ⟨5, _⟩ => ⟨S4x2048, .f32⟩
  | .hbm, ⟨6, _⟩ => ⟨S4x2048, .f32⟩
  | .hbm, ⟨7, _⟩ => ⟨S4x8192x2048, .f32⟩
  | .hbm, ⟨8, _⟩ => ⟨S_, .f32⟩
  | .hbm, ⟨9, _⟩ => ⟨S4x8192x2048, .f32⟩
  | .hbm, ⟨10, _⟩ => ⟨S4x8192x2048, .f32⟩
  | .hbm, ⟨11, _⟩ => ⟨S1x2048x2048, .f32⟩
  | .hbm, ⟨12, _⟩ => ⟨S2048x2048, .f32⟩
  | .hbm, ⟨13, _⟩ => ⟨S4x8192x2048, .f32⟩
  | .hbm, ⟨14, _⟩ => ⟨S4x8192x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x2048, .f32⟩
  | .hbm, ⟨41, _⟩ => ⟨S4x8192x2048, .f32⟩
  | .hbm, ⟨42, _⟩ => ⟨S1x1x2048, .f32⟩
  | .hbm, ⟨43, _⟩ => ⟨S4x8192x2048, .f32⟩
  | .hbm, ⟨44, _⟩ => ⟨S4x8192x2048, .f32⟩
  | .hbm, ⟨45, _⟩ => ⟨S1x1x2048, .f32⟩
  | .hbm, ⟨46, _⟩ => ⟨S4x8192x2048, .f32⟩
  | .hbm, ⟨47, _⟩ => ⟨S4x8192x2048, .f32⟩
  | .hbm, ⟨48, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel4.lean ====
abbrev S4x8192x2048 : Shape := ⟨3, ![4, 8192, 2048]⟩
abbrev S4x2048x7046 : Shape := ⟨3, ![4, 2048, 7046]⟩
abbrev S4x2048x2310 : Shape := ⟨3, ![4, 2048, 2310]⟩
abbrev S4x2048x2176 : Shape := ⟨3, ![4, 2048, 2176]⟩
abbrev S4x2048x2560 : Shape := ⟨3, ![4, 2048, 2560]⟩
abbrev S4x2048x6 : Shape := ⟨3, ![4, 2048, 6]⟩
abbrev S_ : Shape := ⟨0, ![]⟩
abbrev S4x2048x122 : Shape := ⟨3, ![4, 2048, 122]⟩
abbrev S4x2048x2304 : Shape := ⟨3, ![4, 2048, 2304]⟩
abbrev S1x768 : Shape := ⟨2, ![1, 768]⟩
abbrev S1x1536 : Shape := ⟨2, ![1, 1536]⟩
abbrev S1x2304 : Shape := ⟨2, ![1, 2304]⟩
abbrev S32768x2048 : Shape := ⟨2, ![32768, 2048]⟩
abbrev S32768x2304 : Shape := ⟨2, ![32768, 2304]⟩
abbrev S1024x2048 : Shape := ⟨2, ![1024, 2048]⟩
abbrev S1x2048x2304 : Shape := ⟨3, ![1, 2048, 2304]⟩
abbrev S1024x2304 : Shape := ⟨2, ![1024, 2304]⟩
abbrev S2048x2304 : Shape := ⟨2, ![2048, 2304]⟩

abbrev nBuf : Space → Nat
  | .hbm => 19
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S4x2048x7046, .bf16⟩
  | .hbm, ⟨3, _⟩ => ⟨S4x2048x2310, .bf16⟩
  | .hbm, ⟨4, _⟩ => ⟨S4x2048x2176, .bf16⟩
  | .hbm, ⟨5, _⟩ => ⟨S4x2048x2560, .bf16⟩
  | .hbm, ⟨6, _⟩ => ⟨S4x2048x6, .bf16⟩
  | .hbm, ⟨7, _⟩ => ⟨S_, .bf16⟩
  | .hbm, ⟨8, _⟩ => ⟨S4x2048x122, .bf16⟩
  | .hbm, ⟨9, _⟩ => ⟨S4x2048x2304, .bf16⟩
  | .hbm, ⟨10, _⟩ => ⟨S4x2048x2304, .bf16⟩
  | .hbm, ⟨11, _⟩ => ⟨S_, .f32⟩
  | .hbm, ⟨12, _⟩ => ⟨S1x768, .f32⟩
  | .hbm, ⟨13, _⟩ => ⟨S_, .f32⟩
  | .hbm, ⟨14, _⟩ => ⟨S1x1536, .f32⟩
  | .hbm, ⟨15, _⟩ => ⟨S1x2304, .f32⟩
  | .hbm, ⟨16, _⟩ => ⟨S32768x2048, .f32⟩
  | .hbm, ⟨17, _⟩ => ⟨S32768x2048, .bf16⟩
  | .hbm, ⟨18, _⟩ => ⟨S32768x2304, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2304, .bf16⟩
  | .local _ .vmem, ⟨3, _⟩ => ⟨S1x2304, .f32⟩
  | .local _ .vmem, ⟨4, _⟩ => ⟨S1024x2304, .bf16⟩
  | .local _ .vmem, ⟨5, _⟩ => ⟨S1024x2304, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x8192x2048 : Shape := ⟨3, ![4, 8192, 2048]⟩
abbrev S4x2048x7046 : Shape := ⟨3, ![4, 2048, 7046]⟩
abbrev S1x2048x7046 : Shape := ⟨3, ![1, 2048, 7046]⟩
abbrev S2048x7046 : Shape := ⟨2, ![2048, 7046]⟩
abbrev S4x8192x7046 : Shape := ⟨3, ![4, 8192, 7046]⟩
abbrev S32768x7046 : Shape := ⟨2, ![32768, 7046]⟩
abbrev S32768x2310 : Shape := ⟨2, ![32768, 2310]⟩
abbrev S32768x2176 : Shape := ⟨2, ![32768, 2176]⟩
abbrev S32768x2560 : Shape := ⟨2, ![32768, 2560]⟩
abbrev S32768x768 : Shape := ⟨2, ![32768, 768]⟩
abbrev S32768x6 : Shape := ⟨2, ![32768, 6]⟩
abbrev S_ : Shape := ⟨0, ![]⟩
abbrev S32768x2304 : Shape := ⟨2, ![32768, 2304]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S1x2048x7046, .f32⟩
  | .hbm, ⟨3, _⟩ => ⟨S2048x7046, .f32⟩
  | .hbm, ⟨4, _⟩ => ⟨S4x8192x7046, .f32⟩
  | .hbm, ⟨5, _⟩ => ⟨S32768x7046, .f32⟩
  | .hbm, ⟨6, _⟩ => ⟨S32768x2310, .f32⟩
  | .hbm, ⟨7, _⟩ => ⟨S32768x2176, .f32⟩
  | .hbm, ⟨8, _⟩ => ⟨S32768x2560, .f32⟩
  | .hbm, ⟨9, _⟩ => ⟨S32768x768, .f32⟩
  | .hbm, ⟨10, _⟩ => ⟨S32768x768, .f32⟩
  | .hbm, ⟨11, _⟩ => ⟨S32768x768, .f32⟩
  | .hbm, ⟨12, _⟩ => ⟨S32768x6, .f32⟩
  | .hbm, ⟨13, _⟩ => ⟨S_, .f32⟩
  | .hbm, ⟨14, _⟩ => ⟨S32768x768, .f32⟩
  | .hbm, ⟨15, _⟩ => ⟨S32768x768, .f32⟩
  | .hbm, ⟨16, _⟩ => ⟨S32768x2304, .f32⟩
  | .hbm, ⟨17, _⟩ => ⟨S32768x2304, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S4x8192x2048 : Shape := ⟨3, ![4, 8192, 2048]⟩
abbrev S4x2048x7046 : Shape := ⟨3, ![4, 2048, 7046]⟩
abbrev S4x2048x2310 : Shape := ⟨3, ![4, 2048, 2310]⟩
abbrev S4x2048x2176 : Shape := ⟨3, ![4, 2048, 2176]⟩
abbrev S4x2048x2560 : Shape := ⟨3, ![4, 2048, 2560]⟩
abbrev S4x2048x6 : Shape := ⟨3, ![4, 2048, 6]⟩
abbrev S_ : Shape := ⟨0, ![]⟩
abbrev S4x2048x122 : Shape := ⟨3, ![4, 2048, 122]⟩
abbrev S4x2048x2304 : Shape := ⟨3, ![4, 2048, 2304]⟩
abbrev S32768x2048 : Shape := ⟨2, ![32768, 2048]⟩
abbrev S32768x2304 : Shape := ⟨2, ![32768, 2304]⟩
abbrev S1024x2048 : Shape := ⟨2, ![1024, 2048]⟩
abbrev S1x2048x2304 : Shape := ⟨3, ![1, 2048, 2304]⟩
abbrev S1024x2304 : Shape := ⟨2, ![1024, 2304]⟩
abbrev S2048x2304 : Shape := ⟨2, ![2048, 2304]⟩

abbrev nBuf : Space → Nat
  | .hbm => 14
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S4x2048x7046, .bf16⟩
  | .hbm, ⟨3, _⟩ => ⟨S4x2048x2310, .bf16⟩
  | .hbm, ⟨4, _⟩ => ⟨S4x2048x2176, .bf16⟩
  | .hbm, ⟨5, _⟩ => ⟨S4x2048x2560, .bf16⟩
  | .hbm, ⟨6, _⟩ => ⟨S4x2048x6, .bf16⟩
  | .hbm, ⟨7, _⟩ => ⟨S_, .bf16⟩
  | .hbm, ⟨8, _⟩ => ⟨S4x2048x122, .bf16⟩
  | .hbm, ⟨9, _⟩ => ⟨S4x2048x2304, .bf16⟩
  | .hbm, ⟨10, _⟩ => ⟨S4x2048x2304, .bf16⟩
  | .hbm, ⟨11, _⟩ => ⟨S32768x2048, .f32⟩
  | .hbm, ⟨12, _⟩ => ⟨S32768x2048, .bf16⟩
  | .hbm, ⟨13, _⟩ => ⟨S32768x2304, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2304, .bf16⟩
  | .local _ .vmem, ⟨3, _⟩ => ⟨S1024x2304, .f32⟩
  | .local _ .vmem, ⟨4, _⟩ => ⟨S1024x2304, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x8192x2048 : Shape := ⟨3, ![4, 8192, 2048]⟩
abbrev S4x2048x7046 : Shape := ⟨3, ![4, 2048, 7046]⟩
abbrev S1x2048x7046 : Shape := ⟨3, ![1, 2048, 7046]⟩
abbrev S2048x7046 : Shape := ⟨2, ![2048, 7046]⟩
abbrev S4x8192x7046 : Shape := ⟨3, ![4, 8192, 7046]⟩
abbrev S32768x7046 : Shape := ⟨2, ![32768, 7046]⟩
abbrev S32768x2310 : Shape := ⟨2, ![32768, 2310]⟩
abbrev S32768x2176 : Shape := ⟨2, ![32768, 2176]⟩
abbrev S32768x2560 : Shape := ⟨2, ![32768, 2560]⟩
abbrev S32768x6 : Shape := ⟨2, ![32768, 6]⟩
abbrev S32768x2182 : Shape := ⟨2, ![32768, 2182]⟩
abbrev S_ : Shape := ⟨0, ![]⟩
abbrev S32768x2304 : Shape := ⟨2, ![32768, 2304]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S1x2048x7046, .f32⟩
  | .hbm, ⟨3, _⟩ => ⟨S2048x7046, .f32⟩
  | .hbm, ⟨4, _⟩ => ⟨S4x8192x7046, .f32⟩
  | .hbm, ⟨5, _⟩ => ⟨S32768x7046, .f32⟩
  | .hbm, ⟨6, _⟩ => ⟨S32768x2310, .f32⟩
  | .hbm, ⟨7, _⟩ => ⟨S32768x2176, .f32⟩
  | .hbm, ⟨8, _⟩ => ⟨S32768x2560, .f32⟩
  | .hbm, ⟨9, _⟩ => ⟨S32768x6, .f32⟩
  | .hbm, ⟨10, _⟩ => ⟨S32768x2182, .f32⟩
  | .hbm, ⟨11, _⟩ => ⟨S_, .i32⟩
  | .hbm, ⟨12, _⟩ => ⟨S_, .f32⟩
  | .hbm, ⟨13, _⟩ => ⟨S32768x2304, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S4x8192x2048 : Shape := ⟨3, ![4, 8192, 2048]⟩
abbrev S4x2048x7046 : Shape := ⟨3, ![4, 2048, 7046]⟩
abbrev S4x2048x2310 : Shape := ⟨3, ![4, 2048, 2310]⟩
abbrev S4x2048x2176 : Shape := ⟨3, ![4, 2048, 2176]⟩
abbrev S4x2048x2560 : Shape := ⟨3, ![4, 2048, 2560]⟩
abbrev S4x2048x6 : Shape := ⟨3, ![4, 2048, 6]⟩
abbrev S_ : Shape := ⟨0, ![]⟩
abbrev S4x2048x122 : Shape := ⟨3, ![4, 2048, 122]⟩
abbrev S4x2048x2304 : Shape := ⟨3, ![4, 2048, 2304]⟩
abbrev S32768x2048 : Shape := ⟨2, ![32768, 2048]⟩
abbrev S32768x2560 : Shape := ⟨2, ![32768, 2560]⟩
abbrev S1024x2048 : Shape := ⟨2, ![1024, 2048]⟩
abbrev S1x2048x2560 : Shape := ⟨3, ![1, 2048, 2560]⟩
abbrev S1024x2560 : Shape := ⟨2, ![1024, 2560]⟩
abbrev S2048x2560 : Shape := ⟨2, ![2048, 2560]⟩

abbrev nBuf : Space → Nat
  | .hbm => 14
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S4x2048x7046, .bf16⟩
  | .hbm, ⟨3, _⟩ => ⟨S4x2048x2310, .bf16⟩
  | .hbm, ⟨4, _⟩ => ⟨S4x2048x2176, .bf16⟩
  | .hbm, ⟨5, _⟩ => ⟨S4x2048x2560, .bf16⟩
  | .hbm, ⟨6, _⟩ => ⟨S4x2048x6, .bf16⟩
  | .hbm, ⟨7, _⟩ => ⟨S_, .bf16⟩
  | .hbm, ⟨8, _⟩ => ⟨S4x2048x122, .bf16⟩
  | .hbm, ⟨9, _⟩ => ⟨S4x2048x2304, .bf16⟩
  | .hbm, ⟨10, _⟩ => ⟨S4x2048x2304, .bf16⟩
  | .hbm, ⟨11, _⟩ => ⟨S32768x2048, .f32⟩
  | .hbm, ⟨12, _⟩ => ⟨S32768x2048, .bf16⟩
  | .hbm, ⟨13, _⟩ => ⟨S32768x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2560, .bf16⟩
  | .local _ .vmem, ⟨3, _⟩ => ⟨S1024x2560, .f32⟩
  | .local _ .vmem, ⟨4, _⟩ => ⟨S1024x2560, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x8192x2048 : Shape := ⟨3, ![4, 8192, 2048]⟩
abbrev S4x2048x7046 : Shape := ⟨3, ![4, 2048, 7046]⟩
abbrev S1x2048x7046 : Shape := ⟨3, ![1, 2048, 7046]⟩
abbrev S2048x7046 : Shape := ⟨2, ![2048, 7046]⟩
abbrev S4x8192x7046 : Shape := ⟨3, ![4, 8192, 7046]⟩
abbrev S32768x7046 : Shape := ⟨2, ![32768, 7046]⟩
abbrev S32768x2310 : Shape := ⟨2, ![32768, 2310]⟩
abbrev S32768x2176 : Shape := ⟨2, ![32768, 2176]⟩
abbrev S32768x2560 : Shape := ⟨2, ![32768, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x7046, .f32⟩
  | .hbm, ⟨2, _⟩ => ⟨S1x2048x7046, .f32⟩
  | .hbm, ⟨3, _⟩ => ⟨S2048x7046, .f32⟩
  | .hbm, ⟨4, _⟩ => ⟨S4x8192x7046, .f32⟩
  | .hbm, ⟨5, _⟩ => ⟨S32768x7046, .f32⟩
  | .hbm, ⟨6, _⟩ => ⟨S32768x2310, .f32⟩
  | .hbm, ⟨7, _⟩ => ⟨S32768x2176, .f32⟩
  | .hbm, ⟨8, _⟩ => ⟨S32768x2560, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4x8192x6 : Shape := ⟨3, ![4, 8192, 6]⟩
abbrev S4x6 : Shape := ⟨2, ![4, 6]⟩
abbrev S32768x6 : Shape := ⟨2, ![32768, 6]⟩
abbrev S_ : Shape := ⟨0, ![]⟩
abbrev S32768x2304 : Shape := ⟨2, ![32768, 2304]⟩
abbrev S4x128 : Shape := ⟨2, ![4, 128]⟩
abbrev S1x128 : Shape := ⟨2, ![1, 128]⟩
abbrev S128 : Shape := ⟨1, ![128]⟩
abbrev S4x8x8192 : Shape := ⟨3, ![4, 8, 8192]⟩
abbrev S8192x128 : Shape := ⟨2, ![8192, 128]⟩
abbrev S1x8x8192 : Shape := ⟨3, ![1, 8, 8192]⟩
abbrev S256x256 : Shape := ⟨2, ![256, 256]⟩
abbrev S256x128 : Shape := ⟨2, ![256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 13
  | .vmem => 5
  | .smem => 0
  | _ => 0

abbrev bufTy : (tb : Table) → Fin (tcTables nBuf tb) → BufTy
  | .hbm, ⟨0, _⟩ => ⟨S4x8192x6, .f32⟩
  | .hbm, ⟨1, _⟩ => ⟨S4x6, .f32⟩
  | .hbm, ⟨2, _⟩ => ⟨S32768x6, .f32⟩
  | .hbm, ⟨3, _⟩ => ⟨S_, .i32⟩
  | .hbm, ⟨4, _⟩ => ⟨S_, .f32⟩
  | .hbm, ⟨5, _⟩ => ⟨S32768x2304, .f32⟩
  | .hbm, ⟨6, _⟩ => ⟨S_, .i32⟩
  | .hbm, ⟨7, _⟩ => ⟨S_, .f32⟩
  | .hbm, ⟨8, _⟩ => ⟨S4x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S4x8x8192, .f32⟩
  | .local _ .vmem, ⟨0, _⟩ => ⟨S8192x128, .f32⟩
  | .local _ .vmem, ⟨1, _⟩ => ⟨S8192x128, .f32⟩
  | .local _ .vmem, ⟨2, _⟩ => ⟨S1x128, .f32⟩
  | .local _ .vmem, ⟨3, _⟩ => ⟨S1x8x8192, .f32⟩
  | .local _ .vmem, ⟨4, _⟩ => ⟨S1x8x8192, .f32⟩
  | _, _ => ⟨S4x8192x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x8192x6 : Shape := ⟨3, ![4, 8192, 6]⟩
abbrev S4x6 : Shape := ⟨2, ![4, 6]⟩
abbrev S1x6 : Shape := ⟨2, ![1, 6]⟩
abbrev S6 : Shape := ⟨1, ![6]⟩
abbrev S1x1x6 : Shape := ⟨3, ![1, 1, 6]⟩
abbrev S_ : Shape := ⟨0, ![]⟩
abbrev S4x8192x8 : Shape := ⟨3, ![4, 8192, 8]⟩
abbrev S4x8x8192 : Shape := ⟨3, ![4, 8, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x6, .f32⟩
  | .hbm, ⟨1, _⟩ => ⟨S4x6, .f32⟩
  | .hbm, ⟨2, _⟩ => ⟨S1x6, .f32⟩
  | .hbm, ⟨3, _⟩ => ⟨S6, .f32⟩
  | .hbm, ⟨4, _⟩ => ⟨S1x1x6, .f32⟩
  | .hbm, ⟨5, _⟩ => ⟨S4x8192x6, .f32⟩
  | .hbm, ⟨6, _⟩ => ⟨S4x8192x6, .f32⟩
  | .hbm, ⟨7, _⟩ => ⟨S_, .i32⟩
  | .hbm, ⟨8, _⟩ => ⟨S_, .f32⟩
  | .hbm, ⟨9, _⟩ => ⟨S4x8192x8, .f32⟩
  | .hbm, ⟨10, _⟩ => ⟨S4x8192x8, .f32⟩
  | .hbm, ⟨11, _⟩ => ⟨S_, .f32⟩
  | .hbm, ⟨12, _⟩ => ⟨S4x8192x8, .f32⟩
  | .hbm, ⟨13, _⟩ => ⟨S4x8192x8, .f32⟩
  | .hbm, ⟨14, _⟩ => ⟨S4x8192x8, .f32⟩
  | .hbm, ⟨15, _⟩ => ⟨S4x8192x8, .f32⟩
  | .hbm, ⟨16, _⟩ => ⟨S4x8192x8, .i1⟩
  | .hbm, ⟨17, _⟩ => ⟨S4x8192x8, .f32⟩
  | .hbm, ⟨18, _⟩ => ⟨S4x8192x8, .f32⟩
  | .hbm, ⟨19, _⟩ => ⟨S4x8192x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S_, .f32⟩
  | .hbm, ⟨27, _⟩ => ⟨S_, .f32⟩
  | .hbm, ⟨28, _⟩ => ⟨S4x8192x8, .f32⟩
  | .hbm, ⟨29, _⟩ => ⟨S4x8x8192, .f32⟩
  | .hbm, ⟨30, _⟩ => ⟨S_, .f32⟩
  | .hbm, ⟨31, _⟩ => ⟨S4x8x8192, .f32⟩
  | .hbm, ⟨32, _⟩ => ⟨S4x8x8192, .f32⟩
  | _, _ => ⟨S4x8192x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== Proof.Walk.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The 512 rows of an 8192-row array starting at row `s` (rows past the end wrap, never asked for). -/
def rowsAt (K : Vec F S8192x128 .bf16) (s : ℕ) : Vec F S512x128 .bf16 :=
  fun y => K (fun a => match a with
    | ⟨0, _⟩ => (⟨(s + (y 0).val) % 8192, Nat.mod_lt _ (by decide)⟩ : Fin 8192)
    | ⟨1, _⟩ => (⟨(y 1).val, (y 1).isLt⟩ : Fin 128))

/-- The 512 entries of an 8192-entry row starting at entry `s`. -/
def entsAt (C : Vec F S1x1x8192 .f32) (s : ℕ) : Vec F S1x1x512 .f32 :=
  fun y => C (fun a => match a with
    | ⟨0, _⟩ => (0 : Fin 1)
    | ⟨1, _⟩ => (0 : Fin 1)
    | ⟨2, _⟩ => (⟨(s + (y 2).val) % 8192, Nat.mod_lt _ (by decide)⟩ : Fin 8192))

/-- The 1024 entries of an 8192-entry row starting at entry `s`. -/
def entsAtQ (C : Vec F S1x1x8192 .f32) (s : ℕ) : Vec F S1x1x1024 .f32 :=
  fun y => C (fun a => match a with
    | ⟨0, _⟩ => (0 : Fin 1)
    | ⟨1, _⟩ => (0 : Fin 1)
    | ⟨2, _⟩ => (⟨(s + (y 2).val) % 8192, Nat.mod_lt _ (by decide)⟩ : Fin 8192))

/-- A load of 512 rows reads `rowsAt` at the offset of its rows. -/
theorem readAt_rows (M : Memref sig .tc .vmem S8192x128 .bf16) (f : BufTy.Contents (Elt F) M.view.ty) (off : Fin 2 → ℕ)
    (h : ∀ a, off a + S512x128.size a ≤ S8192x128.size a) :
    View.readAt (Elt F) M.view (Rect.unit (s := S8192x128) off S512x128.size h).toLoadRect f
      = rowsAt (M.view.read (Elt F) f) (off 0) := by
  have h0 : off 0 + 512 ≤ 8192 := h 0
  have h1 : off 1 + 128 ≤ 128 := h 1
  funext y
  have y0 : (y 0).val < 512 := (y 0).isLt
  refine congrArg (M.view.read (Elt F) f) (funext fun a => ?_)
  match a with
  | ⟨0, _⟩ => exact Fin.ext (show off 0 + 1 * (y 0).val = (off 0 + (y 0).val) % 8192 by rw [Nat.mod_eq_of_lt (by omega)]; omega)
  | ⟨1, _⟩ => exact Fin.ext (show off 1 + 1 * (y 1).val = (y 1).val by omega)

/-- A load of 512 entries reads `entsAt` at its offset. -/
theorem readAt_ents (M : Memref sig .tc .vmem S1x1x8192 .f32) (f : BufTy.Contents (Elt F) M.view.ty) (off : Fin 3 → ℕ)
    (h : ∀ a, off a + S1x1x512.size a ≤ S1x1x8192.size a) :
    View.readAt (Elt F) M.view (Rect.unit (s := S1x1x8192) off S1x1x512.size h).toLoadRect f
      = entsAt (M.view.read (Elt F) f) (off 2) := by
  have h0 : off 0 + 1 ≤ 1 := h 0
  have h1 : off 1 + 1 ≤ 1 := h 1
  have h2 : off 2 + 512 ≤ 8192 := h 2
  funext y
  have y0 : (y 0).val < 1 := (y 0).isLt
  have y1 : (y 1).val < 1 := (y 1).isLt
  have y2 : (y 2).val < 512 := (y 2).isLt
  refine congrArg (M.view.read (Elt F) f) (funext fun a => ?_)
  match a with
  | ⟨0, _⟩ => exact Fin.ext (show off 0 + 1 * (y 0).val = 0 by omega)
  | ⟨1, _⟩ => exact Fin.ext (show off 1 + 1 * (y 1).val = 0 by omega)
  | ⟨2, _⟩ => exact Fin.ext (show off 2 + 1 * (y 2).val = (off 2 + (y 2).val) % 8192 by rw [Nat.mod_eq_of_lt (by omega)]; omega)

/-- A load of 1024 entries reads `entsAtQ` at its offset. -/
theorem readAt_entsQ (M : Memref sig .tc .vmem S1x1x8192 .f32) (f : BufTy.Contents (Elt F) M.view.ty) (off : Fin 3 → ℕ)
    (h : ∀ a, off a + S1x1x1024.size a ≤ S1x1x8192.size a) :
    View.readAt (Elt F) M.view (Rect.unit (s := S1x1x8192) off S1x1x1024.size h).toLoadRect f
      = entsAtQ (M.view.read (Elt F) f) (off 2) := by
  have h0 : off 0 + 1 ≤ 1 := h 0
  have h1 : off 1 + 1 ≤ 1 := h 1
  have h2 : off 2 + 1024 ≤ 8192 := h 2
  funext y
  have y0 : (y 0).val < 1 := (y 0).isLt
  have y1 : (y 1).val < 1 := (y 1).isLt
  have y2 : (y 2).val < 1024 := (y 2).isLt
  refine congrArg (M.view.read (Elt F) f) (funext fun a => ?_)
  match a with
  | ⟨0, _⟩ => exact Fin.ext (show off 0 + 1 * (y 0).val = 0 by omega)
  | ⟨1, _⟩ => exact Fin.ext (show off 1 + 1 * (y 1).val = 0 by omega)
  | ⟨2, _⟩ => exact Fin.ext (show off 2 + 1 * (y 2).val = (off 2 + (y 2).val) % 8192 by rw [Nat.mod_eq_of_lt (by omega)]; omega)

/-- `readAt_rows` with the sizes written out. -/
theorem readAt_rows' (M : Memref sig .tc .vmem S8192x128 .bf16) (f : BufTy.Contents (Elt F) M.view.ty) (off : Fin 2 → ℕ)
    (h : ∀ a, off a + (![512, 128] : Fin 2 → ℕ) a ≤ S8192x128.size a) :
    View.readAt (Elt F) M.view (Rect.unit (s := S8192x128) off ![512, 128] h).toLoadRect f
      = rowsAt (M.view.read (Elt F) f) (off 0) := readAt_rows M f off h
/-- `readAt_ents` with the sizes written out. -/
theorem readAt_ents' (M : Memref sig .tc .vmem S1x1x8192 .f32) (f : BufTy.Contents (Elt F) M.view.ty) (off : Fin 3 → ℕ)
    (h : ∀ a, off a + (![1, 1, 512] : Fin 3 → ℕ) a ≤ S1x1x8192.size a) :
    View.readAt (Elt F) M.view (Rect.unit (s := S1x1x8192) off ![1, 1, 512] h).toLoadRect f
      = entsAt (M.view.read (Elt F) f) (off 2) := readAt_ents M f off h
/-- `readAt_entsQ` with the sizes written out. -/
theorem readAt_entsQ' (M : Memref sig .tc .vmem S1x1x8192 .f32) (f : BufTy.Contents (Elt F) M.view.ty) (off : Fin 3 → ℕ)
    (h : ∀ a, off a + (![1, 1, 1024] : Fin 3 → ℕ) a ≤ S1x1x8192.size a) :
    View.readAt (Elt F) M.view (Rect.unit (s := S1x1x8192) off ![1, 1, 1024] h).toLoadRect f
      = entsAtQ (M.view.read (Elt F) f) (off 2) := readAt_entsQ M f off h
/-- A load of a whole 1024-row score buffer reads its contents. -/
theorem readAt_sc (M : Memref sig .tc .vmem S1024x512 .f32) (f : BufTy.Contents (Elt F) M.view.ty)
    (h : ∀ a, (![0, 0] : Fin 2 → ℕ) a + (![1024, 512] : Fin 2 → ℕ) a ≤ S1024x512.size a) :
    View.readAt (Elt F) M.view (Rect.unit (s := S1024x512) ![0, 0] ![1024, 512] h).toLoadRect f = M.view.read (Elt F) f :=
  View.readAt_full M.view f h
/-- A load of a whole query block reads its contents. -/
theorem readAt_q (M : Memref sig .tc .vmem S1024x128 .bf16) (f : BufTy.Contents (Elt F) M.view.ty)
    (h : ∀ a, (![0, 0] : Fin 2 → ℕ) a + (![1024, 128] : Fin 2 → ℕ) a ≤ S1024x128.size a) :
    View.readAt (Elt F) M.view (Rect.unit (s := S1024x128) ![0, 0] ![1024, 128] h).toLoadRect f = M.view.read (Elt F) f :=
  View.readAt_full M.view f h

variable (v5 : FVec F S1x1 .f32) (v7 : FVec F S1024x128 .bf16) (v8 : FVec F S512x128 .bf16)
  (K W : Vec F S8192x128 .bf16) (C : Vec F S1x1x8192 .f32)

/-- The scores of a query block against the 512 keys from key `s` on. -/
def score (s : ℕ) : FVec F S1024x512 .f32 := k0_pay15 v5 v7 (entsAt C s) (rowsAt K s)

/-- One block of the online softmax: the running maximum and the accumulated sums after the block of scores `sc`. -/
def step (acc : FVec F S1024x1 .f32 × FVec F S1024x256 .f32) (sc : FVec F S1024x512 .f32) (vs : Vec F S512x128 .bf16) :
    FVec F S1024x1 .f32 × FVec F S1024x256 .f32 :=
  (k0_pay16 acc.1 sc, k0_pay17 v8 acc.1 acc.2 sc vs)

/-- `n` blocks of the online softmax from block `b` on. -/
def walk (b : ℕ) (acc : FVec F S1024x1 .f32 × FVec F S1024x256 .f32) : ℕ → FVec F S1024x1 .f32 × FVec F S1024x256 .f32
  | 0 => acc
  | n + 1 => step v8 (walk b acc n) (score v5 v7 K C (512 * (b + n))) (rowsAt W (512 * (b + n)))

theorem walk_add (b : ℕ) (acc : FVec F S1024x1 .f32 × FVec F S1024x256 .f32) (n k : ℕ) :
    walk v5 v7 v8 K W C (b + n) (walk v5 v7 v8 K W C b acc n) k = walk v5 v7 v8 K W C b acc (n + k) := by
  induction k with
  | zero => rfl
  | succ k ih => show step _ _ _ _ = step _ _ _ _; rw [ih, Nat.add_assoc b n k]; rfl

/-- `n` blocks of the online softmax from block `b` on, the scores of the first block being `s0`. -/
def walkS (s0 : FVec F S1024x512 .f32) (b : ℕ) (acc : FVec F S1024x1 .f32 × FVec F S1024x256 .f32) : ℕ → FVec F S1024x1 .f32 × FVec F S1024x256 .f32
  | 0 => acc
  | n + 1 => walk v5 v7 v8 K W C (b + 1) (step v8 acc s0 (rowsAt W (512 * b))) n

/-- Where `s0` are the scores of block `b`, `walkS` is `walk`. -/
theorem walkS_eq (s0 : FVec F S1024x512 .f32) (b : ℕ) (acc : FVec F S1024x1 .f32 × FVec F S1024x256 .f32)
    (h : s0 = score v5 v7 K C (512 * b)) (n : ℕ) :
    walkS v5 v7 v8 K W C s0 b acc n = walk v5 v7 v8 K W C b acc n := by
  subst h
  cases n with
  | zero => rfl
  | succ n =>
    show walk v5 v7 v8 K W C (b + 1) _ n = _
    rw [Nat.add_comm n 1, ← walk_add]; rfl

/-- The scores carried into trip `k` of the counted loop, `s0` before the first. -/
def scAt (s0 : FVec F S1024x512 .f32) : ℕ → FVec F S1024x512 .f32
  | 0 => s0
  | k + 1 => score v5 v7 K C (512 * (8 * k + 8))

/-- The running maximum and sums before trip `k` of the counted loop. -/
def accAt (s0 : FVec F S1024x512 .f32) (init : FVec F S1024x1 .f32 × FVec F S1024x256 .f32) : ℕ → FVec F S1024x1 .f32 × FVec F S1024x256 .f32
  | 0 => init
  | k + 1 => walkS v5 v7 v8 K W C (scAt v5 v7 K C s0 k) (8 * k) (accAt s0 init k) 8

/-- The carried scores are those of the next block, if the first are. -/
theorem scAt_eq (s0 : FVec F S1024x512 .f32) (h : s0 = score v5 v7 K C 0) (k : ℕ) :
    scAt v5 v7 K C s0 k = score v5 v7 K C (512 * (8 * k)) := by
  cases k with
  | zero => exact h
  | succ k => rfl

/-- The state before trip `k` is the walk over the `8 * k` blocks before it. -/
theorem accAt_eq (s0 : FVec F S1024x512 .f32) (h : s0 = score v5 v7 K C 0) (init : FVec F S1024x1 .f32 × FVec F S1024x256 .f32) (k : ℕ) :
    accAt v5 v7 v8 K W C s0 init k = walk v5 v7 v8 K W C 0 init (8 * k) := by
  induction k with
  | zero => rfl
  | succ k ih =>
    show walkS _ _ _ _ _ _ _ _ _ 8 = _
    rw [walkS_eq _ _ _ _ _ _ _ _ _ (scAt_eq _ _ _ _ _ h k), ih]
    have := walk_add v5 v7 v8 K W C 0 init (8 * k) 8
    rw [Nat.zero_add] at this
    exact this

section Offsets
open Idealize.ShloMosaic

/-- The counted loop makes at most one trip. -/
theorem trips_le (i : grid0.Coords) : (k0_t1_loop i).trips ≤ 1 := by
  have h : ∀ n : Fin 8, ∀ i : grid0.Coords, i 2 = n → (k0_t1_loop i).trips ≤ 1 := by
    intro n i hi
    unfold k0_t1_loop
    simp only [hi]
    clear hi i
    revert n; decide
  exact h (i 2) i rfl

theorem off2_0 (i : grid0.Coords) (k : Fin (k0_t1_loop i).trips) : k0_off2 i k 0#32 2 = 512 * (8 * k.val + 1) := by
  have hk : k.val = 0 := by have := trips_le i; have := k.isLt; omega
  unfold k0_off2; simp only [hk]; decide
theorem off2_1 (i : grid0.Coords) (k : Fin (k0_t1_loop i).trips) : k0_off2 i k 512#32 2 = 512 * (8 * k.val + 2) := by
  have hk : k.val = 0 := by have := trips_le i; have := k.isLt; omega
  unfold k0_off2; simp only [hk]; decide
theorem off2_2 (i : grid0.Coords) (k : Fin (k0_t1_loop i).trips) : k0_off2 i k 1024#32 2 = 512 * (8 * k.val + 3) := by
  have hk : k.val = 0 := by have := trips_le i; have := k.isLt; omega
  unfold k0_off2; simp only [hk]; decide
theorem off2_3 (i : grid0.Coords) (k : Fin (k0_t1_loop i).trips) : k0_off2 i k 1536#32 2 = 512 * (8 * k.val + 4) := by
  have hk : k.val = 0 := by have := trips_le i; have := k.isLt; omega
  unfold k0_off2; simp only [hk]; decide
theorem off2_4 (i : grid0.Coords) (k : Fin (k0_t1_loop i).trips) : k0_off2 i k 2048#32 2 = 512 * (8 * k.val + 5) := by
  have hk : k.val = 0 := by have := trips_le i; have := k.isLt; omega
  unfold k0_off2; simp only [hk]; decide
theorem off2_5 (i : grid0.Coords) (k : Fin (k0_t1_loop i).trips) : k0_off2 i k 2560#32 2 = 512 * (8 * k.val + 6) := by
  have hk : k.val = 0 := by have := trips_le i; have := k.isLt; omega
  unfold k0_off2; simp only [hk]; decide
theorem off2_6 (i : grid0.Coords) (k : Fin (k0_t1_loop i).trips) : k0_off2 i k 3072#32 2 = 512 * (8 * k.val + 7) := by
  have hk : k.val = 0 := by have := trips_le i; have := k.isLt; omega
  unfold k0_off2; simp only [hk]; decide
theorem off2_7 (i : grid0.Coords) (k : Fin (k0_t1_loop i).trips) : k0_off2 i k 3584#32 2 = 512 * (8 * k.val + 8) := by
  have hk : k.val = 0 := by have := trips_le i; have := k.isLt; omega
  unfold k0_off2; simp only [hk]; decide
theorem off3_0 (i : grid0.Coords) (k : Fin (k0_t1_loop i).trips) : k0_off3 i k 0#32 0 = 512 * (8 * k.val + 1) := by
  have hk : k.val = 0 := by have := trips_le i; have := k.isLt; omega
  unfold k0_off3; simp only [hk]; decide
theorem off3_1 (i : grid0.Coords) (k : Fin (k0_t1_loop i).trips) : k0_off3 i k 512#32 0 = 512 * (8 * k.val + 2) := by
  have hk : k.val = 0 := by have := trips_le i; have := k.isLt; omega
  unfold k0_off3; simp only [hk]; decide
theorem off3_2 (i : grid0.Coords) (k : Fin (k0_t1_loop i).trips) : k0_off3 i k 1024#32 0 = 512 * (8 * k.val + 3) := by
  have hk : k.val = 0 := by have := trips_le i; have := k.isLt; omega
  unfold k0_off3; simp only [hk]; decide
theorem off3_3 (i : grid0.Coords) (k : Fin (k0_t1_loop i).trips) : k0_off3 i k 1536#32 0 = 512 * (8 * k.val + 4) := by
  have hk : k.val = 0 := by have := trips_le i; have := k.isLt; omega
  unfold k0_off3; simp only [hk]; decide
theorem off3_4 (i : grid0.Coords) (k : Fin (k0_t1_loop i).trips) : k0_off3 i k 2048#32 0 = 512 * (8 * k.val + 5) := by
  have hk : k.val = 0 := by have := trips_le i; have := k.isLt; omega
  unfold k0_off3; simp only [hk]; decide
theorem off3_5 (i : grid0.Coords) (k : Fin (k0_t1_loop i).trips) : k0_off3 i k 2560#32 0 = 512 * (8 * k.val + 6) := by
  have hk : k.val = 0 := by have := trips_le i; have := k.isLt; omega
  unfold k0_off3; simp only [hk]; decide
theorem off3_6 (i : grid0.Coords) (k : Fin (k0_t1_loop i).trips) : k0_off3 i k 3072#32 0 = 512 * (8 * k.val + 7) := by
  have hk : k.val = 0 := by have := trips_le i; have := k.isLt; omega
  unfold k0_off3; simp only [hk]; decide
theorem off3_7 (i : grid0.Coords) (k : Fin (k0_t1_loop i).trips) : k0_off3 i k 3584#32 0 = 512 * (8 * k.val + 8) := by
  have hk : k.val = 0 := by have := trips_le i; have := k.isLt; omega
  unfold k0_off3; simp only [hk]; decide
theorem off4_0 (i : grid0.Coords) (k : Fin (k0_t1_loop i).trips) : k0_off4 i k 0#32 0 = 512 * (8 * k.val) := by
  have hk : k.val = 0 := by have := trips_le i; have := k.isLt; omega
  unfold k0_off4; simp only [hk]; decide
theorem off4_1 (i : grid0.Coords) (k : Fin (k0_t1_loop i).trips) : k0_off4 i k 512#32 0 = 512 * (8 * k.val + 1) := by
  have hk : k.val = 0 := by have := trips_le i; have := k.isLt; omega
  unfold k0_off4; simp only [hk]; decide
theorem off4_2 (i : grid0.Coords) (k : Fin (k0_t1_loop i).trips) : k0_off4 i k 1024#32 0 = 512 * (8 * k.val + 2) := by
  have hk : k.val = 0 := by have := trips_le i; have := k.isLt; omega
  unfold k0_off4; simp only [hk]; decide
theorem off4_3 (i : grid0.Coords) (k : Fin (k0_t1_loop i).trips) : k0_off4 i k 1536#32 0 = 512 * (8 * k.val + 3) := by
  have hk : k.val = 0 := by have := trips_le i; have := k.isLt; omega
  unfold k0_off4; simp only [hk]; decide
theorem off4_4 (i : grid0.Coords) (k : Fin (k0_t1_loop i).trips) : k0_off4 i k 2048#32 0 = 512 * (8 * k.val + 4) := by
  have hk : k.val = 0 := by have := trips_le i; have := k.isLt; omega
  unfold k0_off4; simp only [hk]; decide
theorem off4_5 (i : grid0.Coords) (k : Fin (k0_t1_loop i).trips) : k0_off4 i k 2560#32 0 = 512 * (8 * k.val + 5) := by
  have hk : k.val = 0 := by have := trips_le i; have := k.isLt; omega
  unfold k0_off4; simp only [hk]; decide
theorem off4_6 (i : grid0.Coords) (k : Fin (k0_t1_loop i).trips) : k0_off4 i k 3072#32 0 = 512 * (8 * k.val + 6) := by
  have hk : k.val = 0 := by have := trips_le i; have := k.isLt; omega
  unfold k0_off4; simp only [hk]; decide
theorem off4_7 (i : grid0.Coords) (k : Fin (k0_t1_loop i).trips) : k0_off4 i k 3584#32 0 = 512 * (8 * k.val + 7) := by
  have hk : k.val = 0 := by have := trips_le i; have := k.isLt; omega
  unfold k0_off4; simp only [hk]; decide
end Offsets

/-- What one trip holds: the keys, values and gates it reads, and the scratch it reads and writes. -/
abbrev TripRes (c : Dev nD) (arg5 : Memref sig .tc .vmem S8192x128 .bf16) (arg6 : Memref sig .tc .vmem S8192x128 .bf16) (arg7 : Memref sig .tc .vmem S1x1x8192 .f32) (arg9 : Memref sig .tc .vmem S1024x512 .f32)
    (X5 : BufTy.Contents (Elt F) arg5.view.ty) (X6 : BufTy.Contents (Elt F) arg6.view.ty) (X7 : BufTy.Contents (Elt F) arg7.view.ty) (f9 : BufTy.Contents (Elt F) arg9.view.ty) : sProp 𝕄 :=
  iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg9.view.loc (c : Thread nD τ) ↦[arg9.view.set]{fullShare} f9))

/-- One trip of the counted loop: eight blocks of the online softmax, the scores of the first one read from `arg9`,
    which is left at the scores of the block after them. -/
theorem trip (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (v5 : FVec F S1x1 .f32) (v7 : FVec F S1024x128 .bf16) (v8 : FVec F S512x128 .bf16) (c0_i32_11 : BitVec 32) (X_arg5 : BufTy.Contents (Elt F) arg5.view.ty) (X_arg6 : BufTy.Contents (Elt F) arg6.view.ty) (X_arg7 : BufTy.Contents (Elt F) arg7.view.ty) (k : Fin (k0_t1_loop i).trips)
    (E : Set ℕ) (acc : FVec F S1024x1 .f32 × FVec F S1024x256 .f32) (f_arg9 : BufTy.Contents (Elt F) arg9.view.ty) :
      TripRes (F := F) c arg5 arg6 arg7 arg9 X_arg5 X_arg6 X_arg7 f_arg9
      ⊢ wp frame (wpE (defs₀ (F := F)) 𝒱 (c : Thread nD τ) bd) E (k0_t1_body (F := F) i arg3 harg3 arg4 harg4 arg5 harg5 arg6 harg6 arg7 harg7 arg8 harg8 arg9 harg9 v5 v7 v8 c0_i32_11 k acc)
          (fun yld => iprop(⌜yld = walkS v5 v7 v8 (arg5.view.read (Elt F) X_arg5) (arg6.view.read (Elt F) X_arg6) (arg7.view.read (Elt F) X_arg7) (arg9.view.read (Elt F) f_arg9) (8 * k.val) acc 8⌝
            ∗ ∃ f, TripRes (F := F) c arg5 arg6 arg7 arg9 X_arg5 X_arg6 X_arg7 f ∗ ⌜arg9.view.read (Elt F) f = score v5 v7 (arg5.view.read (Elt F) X_arg5) (arg7.view.read (Elt F) X_arg7) (512 * (8 * k.val + 8))⌝)) := by
    unfold k0_t1_body
    iintro ⟨HR_arg5, HR_arg6, HR_arg7, HW_arg9⟩
    sl_exec
    sl_step
    isplitr
    · ipureintro
      sl_open_run
      simp only [readAt_rows', readAt_ents', readAt_sc, off2_0, off2_1, off2_2, off2_3, off2_4, off2_5, off2_6, off2_7, off3_0, off3_1, off3_2, off3_3, off3_4, off3_5, off3_6, off3_7, off4_0, off4_1, off4_2, off4_3, off4_4, off4_5, off4_6, off4_7, walkS, walk, step, score, Nat.add_zero, Nat.add_assoc, Nat.reduceAdd]
      generalize View.read (Elt F) arg9.view f_arg9 = s0
      generalize rowsAt (View.read (Elt F) arg5.view X_arg5) (512 * (8 * k.val + 1)) = ks1
      generalize entsAt (View.read (Elt F) arg7.view X_arg7) (512 * (8 * k.val + 1)) = cs1
      generalize rowsAt (View.read (Elt F) arg5.view X_arg5) (512 * (8 * k.val + 2)) = ks2
      generalize entsAt (View.read (Elt F) arg7.view X_arg7) (512 * (8 * k.val + 2)) = cs2
      generalize rowsAt (View.read (Elt F) arg5.view X_arg5) (512 * (8 * k.val + 3)) = ks3
      generalize entsAt (View.read (Elt F) arg7.view X_arg7) (512 * (8 * k.val + 3)) = cs3
      generalize rowsAt (View.read (Elt F) arg5.view X_arg5) (512 * (8 * k.val + 4)) = ks4
      generalize entsAt (View.read (Elt F) arg7.view X_arg7) (512 * (8 * k.val + 4)) = cs4
      generalize rowsAt (View.read (Elt F) arg5.view X_arg5) (512 * (8 * k.val + 5)) = ks5
      generalize entsAt (View.read (Elt F) arg7.view X_arg7) (512 * (8 * k.val + 5)) = cs5
      generalize rowsAt (View.read (Elt F) arg5.view X_arg5) (512 * (8 * k.val + 6)) = ks6
      generalize entsAt (View.read (Elt F) arg7.view X_arg7) (512 * (8 * k.val + 6)) = cs6
      generalize rowsAt (View.read (Elt F) arg5.view X_arg5) (512 * (8 * k.val + 7)) = ks7
      generalize entsAt (View.read (Elt F) arg7.view X_arg7) (512 * (8 * k.val + 7)) = cs7
      sl_open_pay
      refine Prod.ext ?_ ?_ <;> (show _ = _; congr <;> simp only [readAt_rows', off2_0, off2_1, off2_2, off2_3, off2_4, off2_5, off2_6, off2_7, off3_0, off3_1, off3_2, off3_3, off3_4, off3_5, off3_6, off3_7, off4_0, off4_1, off4_2, off4_3, off4_4, off4_5, off4_6, off4_7])
    · iexists _
      isplitl
      · sl_close
      · ipureintro
        refine (View.read_writes_full _ _ _ _ _).trans ?_
        simp only [readAt_rows', readAt_ents', off2_0, off2_1, off2_2, off2_3, off2_4, off2_5, off2_6, off2_7, off3_0, off3_1, off3_2, off3_3, off3_4, off3_5, off3_6, off3_7, off4_0, off4_1, off4_2, off4_3, off4_4, off4_5, off4_6, off4_7]
        exact shapeCast_self _ _

set_option warn.classDefReducibility false in
/-- The counted loop by its invariant: before trip `k` the carried pair is `accAt … k` and `arg9` reads `scAt … k`. -/
@[sl_loop] def loopInv1 (𝒱 : Variants) (c : Dev nD) (bd : Option 𝒱.V) (E : Set ℕ) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (v5 : FVec F S1x1 .f32) (v7 : FVec F S1024x128 .bf16) (v8 : FVec F S512x128 .bf16) (c0_i32_11 : BitVec 32) (X_arg5 : BufTy.Contents (Elt F) arg5.view.ty) (X_arg6 : BufTy.Contents (Elt F) arg6.view.ty) (X_arg7 : BufTy.Contents (Elt F) arg7.view.ty) (G_arg9 : BufTy.Contents (Elt F) arg9.view.ty) (init : FVec F S1024x1 .f32 × FVec F S1024x256 .f32) :
    LoopInvTy_k0_t1 (F := F) Unit ℕ (UR sig nD τ) ℕ 𝒱 c bd E i arg3 harg3 arg4 harg4 arg5 harg5 arg6 harg6 arg7 harg7 arg8 harg8 arg9 harg9 v5 v7 v8 c0_i32_11 init where
  inv k acc := iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
    ∗ (∃ f, (arg9.view.loc (c : Thread nD τ) ↦[arg9.view.set]{fullShare} f) ∗ ⌜arg9.view.read (Elt F) f = scAt v5 v7 (arg5.view.read (Elt F) X_arg5) (arg7.view.read (Elt F) X_arg7) (arg9.view.read (Elt F) G_arg9) k⌝)
    ∗ ⌜acc = accAt v5 v7 v8 (arg5.view.read (Elt F) X_arg5) (arg6.view.read (Elt F) X_arg6) (arg7.view.read (Elt F) X_arg7) (arg9.view.read (Elt F) G_arg9) init k⌝)
  step k acc := by
    iintro ⟨HR_arg5, HR_arg6, HR_arg7, ⟨%f_arg9, HW_arg9, %h_arg9⟩, %h_acc⟩
    subst h_acc
    iapply (wp_wand_r Idealize.ShloMosaic.frame (wpE (defs₀ (F := F)) 𝒱 (c : Thread nD τ) bd) E)
    isplitl [HR_arg5 HR_arg6 HR_arg7 HW_arg9]
    · iapply (trip (F := F) 𝒱 c bd i arg3 harg3 arg4 harg4 arg5 harg5 arg6 harg6 arg7 harg7 arg8 harg8 arg9 harg9 v5 v7 v8 c0_i32_11 X_arg5 X_arg6 X_arg7 k E _ f_arg9)
      isplitl [HR_arg5]; · iexact HR_arg5
      isplitl [HR_arg6]; · iexact HR_arg6
      isplitl [HR_arg7]; · iexact HR_arg7
      iexact HW_arg9
    · iintro %yld ⟨%h_res, %f, ⟨HR_arg5, HR_arg6, HR_arg7, HW_arg9⟩, %h_f⟩
      isplitl [HR_arg5]; · iexact HR_arg5
      isplitl [HR_arg6]; · iexact HR_arg6
      isplitl [HR_arg7]; · iexact HR_arg7
      isplitl [HW_arg9]
      · iexists f; isplitl [HW_arg9]; · iexact HW_arg9
        ipureintro; exact h_f
      ipureintro; rw [h_res, h_arg9]; rfl

end Cert.Proof.Fox
end
-- ==== Proof.Spec.lean ====
module

public import proofs.«01_k».proof.Proof.Gen.KernelIdeal.Skeleton
public import proofs.«01_k».proof.Proof.Gen.KernelIdeal.Loops
public import proofs.«01_k».proof.Proof.Walk
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The word the kernel computes for the first row of the query block. -/
def rowWord (i : grid0.Coords) : BitVec 32 := Scalar.muli (BitVec.ofNat 32 (i 2).val) 1024#32

/-- The word the kernel computes for twice the query block's number, divided by eight and rounded down. -/
def tripWord (i : grid0.Coords) : BitVec 32 :=
  let a : BitVec 32 := Scalar.muli (BitVec.ofNat 32 (i 2).val) 2#32
  let e (x : BitVec 1) : BitVec 32 := Scalar.extui x
  Scalar.select (Scalar.andi (Scalar.cmpi .ne (Scalar.subi (e (Scalar.cmpi .sgt a 0#32)) (e (Scalar.cmpi .slt a 0#32))) 1#32)
      (Scalar.cmpi .ne (Scalar.remsi a 8#32) 0#32)) (Scalar.subi (Scalar.divsi a 8#32) 1#32) (Scalar.divsi a 8#32)

/-- The word of the first key after the counted loop. -/
def keyWord (i : grid0.Coords) : BitVec 32 := Scalar.muli (tripWord i) 4096#32

theorem z0 : (![0, 0] : Fin 2 → ℕ) 0 = 0 := rfl
theorem z2 : (![0, 0, 0] : Fin 3 → ℕ) 2 = 0 := rfl
/-- A score buffer reads what was last written over the whole of it. -/
theorem read_sc (M : Memref sig .tc .vmem S1024x512 .f32) (f : BufTy.Contents (Elt F) M.view.ty) (h) (v : Vec F S1024x512 .f32) :
    M.view.read (Elt F) (M.view.writes (Elt F) f [⟨Rect.unit ![0, 0] ![1024, 512] h, v⟩]) = v := View.read_writes_full _ _ _ _ _
theorem read_sc' (M : Memref sig .tc .vmem S1024x512 .f32) (f : BufTy.Contents (Elt F) M.view.ty) (h) (v : Vec F S1024x512 .f32) :
    M.view.read (Elt F) (M.view.writes (Elt F) f [⟨Rect.unit ![0, 0] S1024x512.size h, v⟩]) = v := View.read_writes_full _ _ _ _ _

/-- Two blocks of 128 columns side by side. -/
def cat1 (a b : FVec F S512x128 .bf16) : FVec F S512x256 .bf16 :=
  concatenate S512x256 1 [⟨S512x128, a⟩, ⟨S512x128, b⟩] concatenates_S512x128_S512x128_S512x256_d1
theorem cat1_eq (a b : FVec F S512x128 .bf16) (h) :
    concatenate S512x256 1 [⟨S512x128, a⟩, ⟨S512x128, b⟩] h = cat1 a b := rfl
/-- Two blocks of 512 rows one below the other. -/
def cat0 (a b : FVec F S512x256 .f32) : FVec F S1024x256 .f32 :=
  concatenate S1024x256 0 [⟨S512x256, a⟩, ⟨S512x256, b⟩] concatenates_S512x256_S512x256_S1024x256_d0
theorem cat0_eq (a b : FVec F S512x256 .f32) (h) :
    concatenate S1024x256 0 [⟨S512x256, a⟩, ⟨S512x256, b⟩] h = cat0 a b := rfl

/-- Scores of 1024 rows and 512 keys, those of a key after its row replaced by the mask. -/
def mask1024 (rw kw : BitVec 32) (sc : FVec F S1024x512 .f32) : FVec F S1024x512 .f32 :=
  select (cmpi .sle (addi (iota .tc S1024x512 32 [1] iota_S1024x512_d1_w32) (broadcast S1024x512 kw))
    (addi (iota .tc S1024x512 32 [0] iota_S1024x512_d0_w32) (broadcast S1024x512 rw))) sc
    (broadcast S1024x512 (Named.named κ "mask" 0xF149F2CA#32))

/-- Scores of 512 rows and 512 keys, those of a key after its row replaced by the mask. -/
def mask512 (rw kw : BitVec 32) (sc : FVec F S512x512 .f32) : FVec F S512x512 .f32 :=
  select (cmpi .sle (addi (iota .tc S512x512 32 [1] iota_S512x512_d1_w32) (broadcast S512x512 kw))
    (addi (iota .tc S512x512 32 [0] iota_S512x512_d0_w32) (broadcast S512x512 rw))) sc
    (broadcast S512x512 (Named.named κ "mask" 0xF149F2CA#32))

/-- The block of the online softmax on the lower 512 rows alone, in which the upper rows keep their sums. -/
def half (v8 : FVec F S512x128 .bf16) (acc : FVec F S1024x1 .f32 × FVec F S1024x256 .f32) (sc : FVec F S512x512 .f32) (vs : Vec F S512x128 .bf16) :
    FVec F S1024x256 .f32 :=
  let m : FVec F S512x1 .f32 := k0_pay144 acc.1
  let m' : FVec F S512x1 .f32 := maximumf m (shapeCast S512x1 (multiReduction .maximumf [1] S512 sc 0xFF800000#32 reduces_S512x512_S512 (.inl rfl) rfl) shapeCasts_S512_S512x1)
  k0_pay12 v8 acc.2 (k0_pay145 acc.2) (exp2 (subf m m'))
    (exp2 (truncf .bf16 (subf sc (broadcastTo S512x512 m' broadcasts_S512x1_S512x512)) bitsLt_bf16_f32)) (k0_pay150 vs)

/-- The state after the whole blocks: `8 * T` of them by the counted loop, `R` more, from the carried scores `s0`. -/
def whole (v5 : FVec F S1x1 .f32) (v7 : FVec F S1024x128 .bf16) (K W : Vec F S8192x128 .bf16) (C : Vec F S1x1x8192 .f32)
    (s0 : FVec F S1024x512 .f32) (T R : ℕ) : FVec F S1024x1 .f32 × FVec F S1024x256 .f32 :=
  walkS v5 v7 (k0_pay153 (F := F)) K W C (scAt v5 v7 K C s0 T) (8 * T) (accAt v5 v7 (k0_pay153 (F := F)) K W C s0 (k0_pay155 (F := F), k0_pay156 (F := F)) T) R

/-- The scores carried to the first masked block. -/
def scW (v5 : FVec F S1x1 .f32) (v7 : FVec F S1024x128 .bf16) (K : Vec F S8192x128 .bf16) (C : Vec F S1x1x8192 .f32)
    (s0 : FVec F S1024x512 .f32) (T : ℕ) : ℕ → FVec F S1024x512 .f32
  | 0 => scAt v5 v7 K C s0 T
  | r + 1 => score v5 v7 K C (512 * (8 * T + (r + 1)))

/-- What a query block's rows end up with: the whole blocks, the masked block, the masked half block, the division. -/
def outW (v5 : FVec F S1x1 .f32) (v7 : FVec F S1024x128 .bf16) (K W : Vec F S8192x128 .bf16) (C : Vec F S1x1x8192 .f32)
    (s0 : FVec F S1024x512 .f32) (T R : ℕ) (rw kw rw' kw' : BitVec 32) : FVec F S1024x128 .bf16 :=
  k0_pay14 (half (k0_pay153 (F := F))
    (step (k0_pay153 (F := F)) (whole v5 v7 K W C s0 T R) (mask1024 rw kw (scW v5 v7 K C s0 T R)) (rowsAt W (512 * (8 * T + R))))
    (mask512 rw' kw' (k0_pay139 v5 v7 (entsAt C (512 * (8 * T + R + 1))) (rowsAt K (512 * (8 * T + R + 1)))))
    (rowsAt W (512 * (8 * T + R + 1))))
theorem off20_0 (i : grid0.Coords) : k0_off20 i 2 = 512 * (8 * (k0_t1_loop i).trips + 1) := by
  have h : ∀ n : Fin 8, ∀ i : grid0.Coords, i 2 = n → k0_off20 i 2 = 512 * (8 * (k0_t1_loop i).trips + 1) := by
    intro n i hi
    unfold k0_off20 k0_t1_loop
    simp only [hi]
    clear hi i
    revert n; decide
  exact h (i 2) i rfl
theorem off21_0 (i : grid0.Coords) : k0_off21 i 0 = 512 * (8 * (k0_t1_loop i).trips + 1) := by
  have h : ∀ n : Fin 8, ∀ i : grid0.Coords, i 2 = n → k0_off21 i 0 = 512 * (8 * (k0_t1_loop i).trips + 1) := by
    intro n i hi
    unfold k0_off21 k0_t1_loop
    simp only [hi]
    clear hi i
    revert n; decide
  exact h (i 2) i rfl
theorem off22_0 (i : grid0.Coords) : k0_off22 i 0#32 0 = 512 * (8 * (k0_t1_loop i).trips) := by
  have h : ∀ n : Fin 8, ∀ i : grid0.Coords, i 2 = n → k0_off22 i 0#32 0 = 512 * (8 * (k0_t1_loop i).trips) := by
    intro n i hi
    unfold k0_off22 k0_t1_loop
    simp only [hi]
    clear hi i
    revert n; decide
  exact h (i 2) i rfl
theorem off22_1 (i : grid0.Coords) : k0_off22 i 512#32 0 = 512 * (8 * (k0_t1_loop i).trips + 1) := by
  have h : ∀ n : Fin 8, ∀ i : grid0.Coords, i 2 = n → k0_off22 i 512#32 0 = 512 * (8 * (k0_t1_loop i).trips + 1) := by
    intro n i hi
    unfold k0_off22 k0_t1_loop
    simp only [hi]
    clear hi i
    revert n; decide
  exact h (i 2) i rfl
theorem off23_q (i : grid0.Coords) : k0_off23 i 2 = 1024 * min ((i 2).val + 1) 7 := by
  have h : ∀ n : Fin 8, ∀ i : grid0.Coords, i 2 = n → k0_off23 i 2 = 1024 * min ((i 2).val + 1) 7 := by
    intro n i hi
    unfold k0_off23
    simp only [hi]
    clear hi i
    revert n; decide
  exact h (i 2) i rfl
theorem off16_0 (i : grid0.Coords) : k0_off16 i 0#32 2 = 512 * (8 * (k0_t1_loop i).trips + 1) := by
  have h : ∀ n : Fin 8, ∀ i : grid0.Coords, i 2 = n → k0_off16 i 0#32 2 = 512 * (8 * (k0_t1_loop i).trips + 1) := by
    intro n i hi
    unfold k0_off16 k0_t1_loop
    simp only [hi]
    clear hi i
    revert n; decide
  exact h (i 2) i rfl
theorem off16_1 (i : grid0.Coords) : k0_off16 i 512#32 2 = 512 * (8 * (k0_t1_loop i).trips + 2) := by
  have h : ∀ n : Fin 8, ∀ i : grid0.Coords, i 2 = n → k0_off16 i 512#32 2 = 512 * (8 * (k0_t1_loop i).trips + 2) := by
    intro n i hi
    unfold k0_off16 k0_t1_loop
    simp only [hi]
    clear hi i
    revert n; decide
  exact h (i 2) i rfl
theorem off16_2 (i : grid0.Coords) : k0_off16 i 1024#32 2 = 512 * (8 * (k0_t1_loop i).trips + 3) := by
  have h : ∀ n : Fin 8, ∀ i : grid0.Coords, i 2 = n → k0_off16 i 1024#32 2 = 512 * (8 * (k0_t1_loop i).trips + 3) := by
    intro n i hi
    unfold k0_off16 k0_t1_loop
    simp only [hi]
    clear hi i
    revert n; decide
  exact h (i 2) i rfl
theorem off17_0 (i : grid0.Coords) : k0_off17 i 0#32 0 = 512 * (8 * (k0_t1_loop i).trips + 1) := by
  have h : ∀ n : Fin 8, ∀ i : grid0.Coords, i 2 = n → k0_off17 i 0#32 0 = 512 * (8 * (k0_t1_loop i).trips + 1) := by
    intro n i hi
    unfold k0_off17 k0_t1_loop
    simp only [hi]
    clear hi i
    revert n; decide
  exact h (i 2) i rfl
theorem off17_1 (i : grid0.Coords) : k0_off17 i 512#32 0 = 512 * (8 * (k0_t1_loop i).trips + 2) := by
  have h : ∀ n : Fin 8, ∀ i : grid0.Coords, i 2 = n → k0_off17 i 512#32 0 = 512 * (8 * (k0_t1_loop i).trips + 2) := by
    intro n i hi
    unfold k0_off17 k0_t1_loop
    simp only [hi]
    clear hi i
    revert n; decide
  exact h (i 2) i rfl
theorem off17_2 (i : grid0.Coords) : k0_off17 i 1024#32 0 = 512 * (8 * (k0_t1_loop i).trips + 3) := by
  have h : ∀ n : Fin 8, ∀ i : grid0.Coords, i 2 = n → k0_off17 i 1024#32 0 = 512 * (8 * (k0_t1_loop i).trips + 3) := by
    intro n i hi
    unfold k0_off17 k0_t1_loop
    simp only [hi]
    clear hi i
    revert n; decide
  exact h (i 2) i rfl
theorem off18_0 (i : grid0.Coords) : k0_off18 i 0#32 0 = 512 * (8 * (k0_t1_loop i).trips) := by
  have h : ∀ n : Fin 8, ∀ i : grid0.Coords, i 2 = n → k0_off18 i 0#32 0 = 512 * (8 * (k0_t1_loop i).trips) := by
    intro n i hi
    unfold k0_off18 k0_t1_loop
    simp only [hi]
    clear hi i
    revert n; decide
  exact h (i 2) i rfl
theorem off18_1 (i : grid0.Coords) : k0_off18 i 512#32 0 = 512 * (8 * (k0_t1_loop i).trips + 1) := by
  have h : ∀ n : Fin 8, ∀ i : grid0.Coords, i 2 = n → k0_off18 i 512#32 0 = 512 * (8 * (k0_t1_loop i).trips + 1) := by
    intro n i hi
    unfold k0_off18 k0_t1_loop
    simp only [hi]
    clear hi i
    revert n; decide
  exact h (i 2) i rfl
theorem off18_2 (i : grid0.Coords) : k0_off18 i 1024#32 0 = 512 * (8 * (k0_t1_loop i).trips + 2) := by
  have h : ∀ n : Fin 8, ∀ i : grid0.Coords, i 2 = n → k0_off18 i 1024#32 0 = 512 * (8 * (k0_t1_loop i).trips + 2) := by
    intro n i hi
    unfold k0_off18 k0_t1_loop
    simp only [hi]
    clear hi i
    revert n; decide
  exact h (i 2) i rfl
theorem off18_3 (i : grid0.Coords) : k0_off18 i 1536#32 0 = 512 * (8 * (k0_t1_loop i).trips + 3) := by
  have h : ∀ n : Fin 8, ∀ i : grid0.Coords, i 2 = n → k0_off18 i 1536#32 0 = 512 * (8 * (k0_t1_loop i).trips + 3) := by
    intro n i hi
    unfold k0_off18 k0_t1_loop
    simp only [hi]
    clear hi i
    revert n; decide
  exact h (i 2) i rfl
theorem off19_q (i : grid0.Coords) : k0_off19 i 2 = 1024 * min ((i 2).val + 1) 7 := by
  have h : ∀ n : Fin 8, ∀ i : grid0.Coords, i 2 = n → k0_off19 i 2 = 1024 * min ((i 2).val + 1) 7 := by
    intro n i hi
    unfold k0_off19
    simp only [hi]
    clear hi i
    revert n; decide
  exact h (i 2) i rfl
theorem off12_0 (i : grid0.Coords) : k0_off12 i 0#32 2 = 512 * (8 * (k0_t1_loop i).trips + 1) := by
  have h : ∀ n : Fin 8, ∀ i : grid0.Coords, i 2 = n → k0_off12 i 0#32 2 = 512 * (8 * (k0_t1_loop i).trips + 1) := by
    intro n i hi
    unfold k0_off12 k0_t1_loop
    simp only [hi]
    clear hi i
    revert n; decide
  exact h (i 2) i rfl
theorem off12_1 (i : grid0.Coords) : k0_off12 i 512#32 2 = 512 * (8 * (k0_t1_loop i).trips + 2) := by
  have h : ∀ n : Fin 8, ∀ i : grid0.Coords, i 2 = n → k0_off12 i 512#32 2 = 512 * (8 * (k0_t1_loop i).trips + 2) := by
    intro n i hi
    unfold k0_off12 k0_t1_loop
    simp only [hi]
    clear hi i
    revert n; decide
  exact h (i 2) i rfl
theorem off12_2 (i : grid0.Coords) : k0_off12 i 1024#32 2 = 512 * (8 * (k0_t1_loop i).trips + 3) := by
  have h : ∀ n : Fin 8, ∀ i : grid0.Coords, i 2 = n → k0_off12 i 1024#32 2 = 512 * (8 * (k0_t1_loop i).trips + 3) := by
    intro n i hi
    unfold k0_off12 k0_t1_loop
    simp only [hi]
    clear hi i
    revert n; decide
  exact h (i 2) i rfl
theorem off12_3 (i : grid0.Coords) : k0_off12 i 1536#32 2 = 512 * (8 * (k0_t1_loop i).trips + 4) := by
  have h : ∀ n : Fin 8, ∀ i : grid0.Coords, i 2 = n → k0_off12 i 1536#32 2 = 512 * (8 * (k0_t1_loop i).trips + 4) := by
    intro n i hi
    unfold k0_off12 k0_t1_loop
    simp only [hi]
    clear hi i
    revert n; decide
  exact h (i 2) i rfl
theorem off12_4 (i : grid0.Coords) : k0_off12 i 2048#32 2 = 512 * (8 * (k0_t1_loop i).trips + 5) := by
  have h : ∀ n : Fin 8, ∀ i : grid0.Coords, i 2 = n → k0_off12 i 2048#32 2 = 512 * (8 * (k0_t1_loop i).trips + 5) := by
    intro n i hi
    unfold k0_off12 k0_t1_loop
    simp only [hi]
    clear hi i
    revert n; decide
  exact h (i 2) i rfl
theorem off13_0 (i : grid0.Coords) : k0_off13 i 0#32 0 = 512 * (8 * (k0_t1_loop i).trips + 1) := by
  have h : ∀ n : Fin 8, ∀ i : grid0.Coords, i 2 = n → k0_off13 i 0#32 0 = 512 * (8 * (k0_t1_loop i).trips + 1) := by
    intro n i hi
    unfold k0_off13 k0_t1_loop
    simp only [hi]
    clear hi i
    revert n; decide
  exact h (i 2) i rfl
theorem off13_1 (i : grid0.Coords) : k0_off13 i 512#32 0 = 512 * (8 * (k0_t1_loop i).trips + 2) := by
  have h : ∀ n : Fin 8, ∀ i : grid0.Coords, i 2 = n → k0_off13 i 512#32 0 = 512 * (8 * (k0_t1_loop i).trips + 2) := by
    intro n i hi
    unfold k0_off13 k0_t1_loop
    simp only [hi]
    clear hi i
    revert n; decide
  exact h (i 2) i rfl
theorem off13_2 (i : grid0.Coords) : k0_off13 i 1024#32 0 = 512 * (8 * (k0_t1_loop i).trips + 3) := by
  have h : ∀ n : Fin 8, ∀ i : grid0.Coords, i 2 = n → k0_off13 i 1024#32 0 = 512 * (8 * (k0_t1_loop i).trips + 3) := by
    intro n i hi
    unfold k0_off13 k0_t1_loop
    simp only [hi]
    clear hi i
    revert n; decide
  exact h (i 2) i rfl
theorem off13_3 (i : grid0.Coords) : k0_off13 i 1536#32 0 = 512 * (8 * (k0_t1_loop i).trips + 4) := by
  have h : ∀ n : Fin 8, ∀ i : grid0.Coords, i 2 = n → k0_off13 i 1536#32 0 = 512 * (8 * (k0_t1_loop i).trips + 4) := by
    intro n i hi
    unfold k0_off13 k0_t1_loop
    simp only [hi]
    clear hi i
    revert n; decide
  exact h (i 2) i rfl
theorem off13_4 (i : grid0.Coords) : k0_off13 i 2048#32 0 = 512 * (8 * (k0_t1_loop i).trips + 5) := by
  have h : ∀ n : Fin 8, ∀ i : grid0.Coords, i 2 = n → k0_off13 i 2048#32 0 = 512 * (8 * (k0_t1_loop i).trips + 5) := by
    intro n i hi
    unfold k0_off13 k0_t1_loop
    simp only [hi]
    clear hi i
    revert n; decide
  exact h (i 2) i rfl
theorem off14_0 (i : grid0.Coords) : k0_off14 i 0#32 0 = 512 * (8 * (k0_t1_loop i).trips) := by
  have h : ∀ n : Fin 8, ∀ i : grid0.Coords, i 2 = n → k0_off14 i 0#32 0 = 512 * (8 * (k0_t1_loop i).trips) := by
    intro n i hi
    unfold k0_off14 k0_t1_loop
    simp only [hi]
    clear hi i
    revert n; decide
  exact h (i 2) i rfl
theorem off14_1 (i : grid0.Coords) : k0_off14 i 512#32 0 = 512 * (8 * (k0_t1_loop i).trips + 1) := by
  have h : ∀ n : Fin 8, ∀ i : grid0.Coords, i 2 = n → k0_off14 i 512#32 0 = 512 * (8 * (k0_t1_loop i).trips + 1) := by
    intro n i hi
    unfold k0_off14 k0_t1_loop
    simp only [hi]
    clear hi i
    revert n; decide
  exact h (i 2) i rfl
theorem off14_2 (i : grid0.Coords) : k0_off14 i 1024#32 0 = 512 * (8 * (k0_t1_loop i).trips + 2) := by
  have h : ∀ n : Fin 8, ∀ i : grid0.Coords, i 2 = n → k0_off14 i 1024#32 0 = 512 * (8 * (k0_t1_loop i).trips + 2) := by
    intro n i hi
    unfold k0_off14 k0_t1_loop
    simp only [hi]
    clear hi i
    revert n; decide
  exact h (i 2) i rfl
theorem off14_3 (i : grid0.Coords) : k0_off14 i 1536#32 0 = 512 * (8 * (k0_t1_loop i).trips + 3) := by
  have h : ∀ n : Fin 8, ∀ i : grid0.Coords, i 2 = n → k0_off14 i 1536#32 0 = 512 * (8 * (k0_t1_loop i).trips + 3) := by
    intro n i hi
    unfold k0_off14 k0_t1_loop
    simp only [hi]
    clear hi i
    revert n; decide
  exact h (i 2) i rfl
theorem off14_4 (i : grid0.Coords) : k0_off14 i 2048#32 0 = 512 * (8 * (k0_t1_loop i).trips + 4) := by
  have h : ∀ n : Fin 8, ∀ i : grid0.Coords, i 2 = n → k0_off14 i 2048#32 0 = 512 * (8 * (k0_t1_loop i).trips + 4) := by
    intro n i hi
    unfold k0_off14 k0_t1_loop
    simp only [hi]
    clear hi i
    revert n; decide
  exact h (i 2) i rfl
theorem off14_5 (i : grid0.Coords) : k0_off14 i 2560#32 0 = 512 * (8 * (k0_t1_loop i).trips + 5) := by
  have h : ∀ n : Fin 8, ∀ i : grid0.Coords, i 2 = n → k0_off14 i 2560#32 0 = 512 * (8 * (k0_t1_loop i).trips + 5) := by
    intro n i hi
    unfold k0_off14 k0_t1_loop
    simp only [hi]
    clear hi i
    revert n; decide
  exact h (i 2) i rfl
theorem off15_q (i : grid0.Coords) : k0_off15 i 2 = 1024 * min ((i 2).val + 1) 7 := by
  have h : ∀ n : Fin 8, ∀ i : grid0.Coords, i 2 = n → k0_off15 i 2 = 1024 * min ((i 2).val + 1) 7 := by
    intro n i hi
    unfold k0_off15
    simp only [hi]
    clear hi i
    revert n; decide
  exact h (i 2) i rfl
theorem off8_0 (i : grid0.Coords) : k0_off8 i 0#32 2 = 512 * (8 * (k0_t1_loop i).trips + 1) := by
  have h : ∀ n : Fin 8, ∀ i : grid0.Coords, i 2 = n → k0_off8 i 0#32 2 = 512 * (8 * (k0_t1_loop i).trips + 1) := by
    intro n i hi
    unfold k0_off8 k0_t1_loop
    simp only [hi]
    clear hi i
    revert n; decide
  exact h (i 2) i rfl
theorem off8_1 (i : grid0.Coords) : k0_off8 i 512#32 2 = 512 * (8 * (k0_t1_loop i).trips + 2) := by
  have h : ∀ n : Fin 8, ∀ i : grid0.Coords, i 2 = n → k0_off8 i 512#32 2 = 512 * (8 * (k0_t1_loop i).trips + 2) := by
    intro n i hi
    unfold k0_off8 k0_t1_loop
    simp only [hi]
    clear hi i
    revert n; decide
  exact h (i 2) i rfl
theorem off8_2 (i : grid0.Coords) : k0_off8 i 1024#32 2 = 512 * (8 * (k0_t1_loop i).trips + 3) := by
  have h : ∀ n : Fin 8, ∀ i : grid0.Coords, i 2 = n → k0_off8 i 1024#32 2 = 512 * (8 * (k0_t1_loop i).trips + 3) := by
    intro n i hi
    unfold k0_off8 k0_t1_loop
    simp only [hi]
    clear hi i
    revert n; decide
  exact h (i 2) i rfl
theorem off8_3 (i : grid0.Coords) : k0_off8 i 1536#32 2 = 512 * (8 * (k0_t1_loop i).trips + 4) := by
  have h : ∀ n : Fin 8, ∀ i : grid0.Coords, i 2 = n → k0_off8 i 1536#32 2 = 512 * (8 * (k0_t1_loop i).trips + 4) := by
    intro n i hi
    unfold k0_off8 k0_t1_loop
    simp only [hi]
    clear hi i
    revert n; decide
  exact h (i 2) i rfl
theorem off8_4 (i : grid0.Coords) : k0_off8 i 2048#32 2 = 512 * (8 * (k0_t1_loop i).trips + 5) := by
  have h : ∀ n : Fin 8, ∀ i : grid0.Coords, i 2 = n → k0_off8 i 2048#32 2 = 512 * (8 * (k0_t1_loop i).trips + 5) := by
    intro n i hi
    unfold k0_off8 k0_t1_loop
    simp only [hi]
    clear hi i
    revert n; decide
  exact h (i 2) i rfl
theorem off8_5 (i : grid0.Coords) : k0_off8 i 2560#32 2 = 512 * (8 * (k0_t1_loop i).trips + 6) := by
  have h : ∀ n : Fin 8, ∀ i : grid0.Coords, i 2 = n → k0_off8 i 2560#32 2 = 512 * (8 * (k0_t1_loop i).trips + 6) := by
    intro n i hi
    unfold k0_off8 k0_t1_loop
    simp only [hi]
    clear hi i
    revert n; decide
  exact h (i 2) i rfl
theorem off8_6 (i : grid0.Coords) : k0_off8 i 3072#32 2 = 512 * (8 * (k0_t1_loop i).trips + 7) := by
  have h : ∀ n : Fin 8, ∀ i : grid0.Coords, i 2 = n → k0_off8 i 3072#32 2 = 512 * (8 * (k0_t1_loop i).trips + 7) := by
    intro n i hi
    unfold k0_off8 k0_t1_loop
    simp only [hi]
    clear hi i
    revert n; decide
  exact h (i 2) i rfl
theorem off9_0 (i : grid0.Coords) : k0_off9 i 0#32 0 = 512 * (8 * (k0_t1_loop i).trips + 1) := by
  have h : ∀ n : Fin 8, ∀ i : grid0.Coords, i 2 = n → k0_off9 i 0#32 0 = 512 * (8 * (k0_t1_loop i).trips + 1) := by
    intro n i hi
    unfold k0_off9 k0_t1_loop
    simp only [hi]
    clear hi i
    revert n; decide
  exact h (i 2) i rfl
theorem off9_1 (i : grid0.Coords) : k0_off9 i 512#32 0 = 512 * (8 * (k0_t1_loop i).trips + 2) := by
  have h : ∀ n : Fin 8, ∀ i : grid0.Coords, i 2 = n → k0_off9 i 512#32 0 = 512 * (8 * (k0_t1_loop i).trips + 2) := by
    intro n i hi
    unfold k0_off9 k0_t1_loop
    simp only [hi]
    clear hi i
    revert n; decide
  exact h (i 2) i rfl
theorem off9_2 (i : grid0.Coords) : k0_off9 i 1024#32 0 = 512 * (8 * (k0_t1_loop i).trips + 3) := by
  have h : ∀ n : Fin 8, ∀ i : grid0.Coords, i 2 = n → k0_off9 i 1024#32 0 = 512 * (8 * (k0_t1_loop i).trips + 3) := by
    intro n i hi
    unfold k0_off9 k0_t1_loop
    simp only [hi]
    clear hi i
    revert n; decide
  exact h (i 2) i rfl
theorem off9_3 (i : grid0.Coords) : k0_off9 i 1536#32 0 = 512 * (8 * (k0_t1_loop i).trips + 4) := by
  have h : ∀ n : Fin 8, ∀ i : grid0.Coords, i 2 = n → k0_off9 i 1536#32 0 = 512 * (8 * (k0_t1_loop i).trips + 4) := by
    intro n i hi
    unfold k0_off9 k0_t1_loop
    simp only [hi]
    clear hi i
    revert n; decide
  exact h (i 2) i rfl
theorem off9_4 (i : grid0.Coords) : k0_off9 i 2048#32 0 = 512 * (8 * (k0_t1_loop i).trips + 5) := by
  have h : ∀ n : Fin 8, ∀ i : grid0.Coords, i 2 = n → k0_off9 i 2048#32 0 = 512 * (8 * (k0_t1_loop i).trips + 5) := by
    intro n i hi
    unfold k0_off9 k0_t1_loop
    simp only [hi]
    clear hi i
    revert n; decide
  exact h (i 2) i rfl
theorem off9_5 (i : grid0.Coords) : k0_off9 i 2560#32 0 = 512 * (8 * (k0_t1_loop i).trips + 6) := by
  have h : ∀ n : Fin 8, ∀ i : grid0.Coords, i 2 = n → k0_off9 i 2560#32 0 = 512 * (8 * (k0_t1_loop i).trips + 6) := by
    intro n i hi
    unfold k0_off9 k0_t1_loop
    simp only [hi]
    clear hi i
    revert n; decide
  exact h (i 2) i rfl
theorem off9_6 (i : grid0.Coords) : k0_off9 i 3072#32 0 = 512 * (8 * (k0_t1_loop i).trips + 7) := by
  have h : ∀ n : Fin 8, ∀ i : grid0.Coords, i 2 = n → k0_off9 i 3072#32 0 = 512 * (8 * (k0_t1_loop i).trips + 7) := by
    intro n i hi
    unfold k0_off9 k0_t1_loop
    simp only [hi]
    clear hi i
    revert n; decide
  exact h (i 2) i rfl
theorem off10_0 (i : grid0.Coords) : k0_off10 i 0#32 0 = 512 * (8 * (k0_t1_loop i).trips) := by
  have h : ∀ n : Fin 8, ∀ i : grid0.Coords, i 2 = n → k0_off10 i 0#32 0 = 512 * (8 * (k0_t1_loop i).trips) := by
    intro n i hi
    unfold k0_off10 k0_t1_loop
    simp only [hi]
    clear hi i
    revert n; decide
  exact h (i 2) i rfl
theorem off10_1 (i : grid0.Coords) : k0_off10 i 512#32 0 = 512 * (8 * (k0_t1_loop i).trips + 1) := by
  have h : ∀ n : Fin 8, ∀ i : grid0.Coords, i 2 = n → k0_off10 i 512#32 0 = 512 * (8 * (k0_t1_loop i).trips + 1) := by
    intro n i hi
    unfold k0_off10 k0_t1_loop
    simp only [hi]
    clear hi i
    revert n; decide
  exact h (i 2) i rfl
theorem off10_2 (i : grid0.Coords) : k0_off10 i 1024#32 0 = 512 * (8 * (k0_t1_loop i).trips + 2) := by
  have h : ∀ n : Fin 8, ∀ i : grid0.Coords, i 2 = n → k0_off10 i 1024#32 0 = 512 * (8 * (k0_t1_loop i).trips + 2) := by
    intro n i hi
    unfold k0_off10 k0_t1_loop
    simp only [hi]
    clear hi i
    revert n; decide
  exact h (i 2) i rfl
theorem off10_3 (i : grid0.Coords) : k0_off10 i 1536#32 0 = 512 * (8 * (k0_t1_loop i).trips + 3) := by
  have h : ∀ n : Fin 8, ∀ i : grid0.Coords, i 2 = n → k0_off10 i 1536#32 0 = 512 * (8 * (k0_t1_loop i).trips + 3) := by
    intro n i hi
    unfold k0_off10 k0_t1_loop
    simp only [hi]
    clear hi i
    revert n; decide
  exact h (i 2) i rfl
theorem off10_4 (i : grid0.Coords) : k0_off10 i 2048#32 0 = 512 * (8 * (k0_t1_loop i).trips + 4) := by
  have h : ∀ n : Fin 8, ∀ i : grid0.Coords, i 2 = n → k0_off10 i 2048#32 0 = 512 * (8 * (k0_t1_loop i).trips + 4) := by
    intro n i hi
    unfold k0_off10 k0_t1_loop
    simp only [hi]
    clear hi i
    revert n; decide
  exact h (i 2) i rfl
theorem off10_5 (i : grid0.Coords) : k0_off10 i 2560#32 0 = 512 * (8 * (k0_t1_loop i).trips + 5) := by
  have h : ∀ n : Fin 8, ∀ i : grid0.Coords, i 2 = n → k0_off10 i 2560#32 0 = 512 * (8 * (k0_t1_loop i).trips + 5) := by
    intro n i hi
    unfold k0_off10 k0_t1_loop
    simp only [hi]
    clear hi i
    revert n; decide
  exact h (i 2) i rfl
theorem off10_6 (i : grid0.Coords) : k0_off10 i 3072#32 0 = 512 * (8 * (k0_t1_loop i).trips + 6) := by
  have h : ∀ n : Fin 8, ∀ i : grid0.Coords, i 2 = n → k0_off10 i 3072#32 0 = 512 * (8 * (k0_t1_loop i).trips + 6) := by
    intro n i hi
    unfold k0_off10 k0_t1_loop
    simp only [hi]
    clear hi i
    revert n; decide
  exact h (i 2) i rfl
theorem off10_7 (i : grid0.Coords) : k0_off10 i 3584#32 0 = 512 * (8 * (k0_t1_loop i).trips + 7) := by
  have h : ∀ n : Fin 8, ∀ i : grid0.Coords, i 2 = n → k0_off10 i 3584#32 0 = 512 * (8 * (k0_t1_loop i).trips + 7) := by
    intro n i hi
    unfold k0_off10 k0_t1_loop
    simp only [hi]
    clear hi i
    revert n; decide
  exact h (i 2) i rfl
theorem off11_q (i : grid0.Coords) : k0_off11 i 2 = 1024 * min ((i 2).val + 1) 7 := by
  have h : ∀ n : Fin 8, ∀ i : grid0.Coords, i 2 = n → k0_off11 i 2 = 1024 * min ((i 2).val + 1) 7 := by
    intro n i hi
    unfold k0_off11
    simp only [hi]
    clear hi i
    revert n; decide
  exact h (i 2) i rfl
theorem off1_q (i : grid0.Coords) : k0_off1 i 2 = 1024 * (i 2).val := by
  have h : ∀ n : Fin 8, ∀ i : grid0.Coords, i 2 = n → k0_off1 i 2 = 1024 * (i 2).val := by
    intro n i hi
    unfold k0_off1
    simp only [hi]
    clear hi i
    revert n; decide
  exact h (i 2) i rfl
/-- The loop's trip count. -/
theorem trips_def (i : grid0.Coords) : Scf.trips (k0_t1_loop i).lb (k0_t1_loop i).ub (k0_t1_loop i).st = (k0_t1_loop i).trips := rfl

end Cert.Proof.Fox
end
-- ==== Proof.Run0.lean ====
module

public import proofs.«01_k».proof.Proof.Gen.KernelIdeal.Skeleton
public import proofs.«01_k».proof.Proof.Gen.KernelIdeal.Loops
public import proofs.«01_k».proof.Proof.Spec
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body run at a query block other than the first, with no whole block after the counted loop: its output block is left at `outW`, the scratch at the scores of the next query block and the first keys. -/
theorem run0 (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (hC1 : ¬ Scalar.cmpi .ne (Scalar.extui (Scalar.cmpi .eq (BitVec.ofNat 32 (i 2).val) 0#32) : BitVec 32) 0#32 = 1#1) (hC2 : ¬ k0_cond2 i = 1#1) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outW (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7) (arg9.view.read (Elt F) f_arg9) (k0_t1_loop i).trips 0 (Scalar.addi (rowWord i) 0#32) (Scalar.addi (keyWord i) 0#32) (Scalar.addi (rowWord i) 512#32) (Scalar.addi (keyWord i) 512#32)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  unfold cc0_fox_attn
  iintro ⟨H3, H4, H5, H6, H7, H8, H9⟩
  sl_exec
  sl_step
  iframe
  have e9 : arg9.view.read (Elt F) fL0 = scAt (k0_pay151 (entsAtQ (arg7.view.read (Elt F) X_arg7) (1024 * (i 2).val))) (k0_pay152 (arg3.view.read (Elt F) X_arg3)) (arg5.view.read (Elt F) X_arg5) (arg7.view.read (Elt F) X_arg7) (arg9.view.read (Elt F) f_arg9) (k0_t1_loop i).trips := by
    refine hL4.trans ?_
    sl_open_run
    simp only [readAt_rows, readAt_ents, readAt_entsQ, readAt_sc, readAt_q, readAt_rows', readAt_ents', readAt_entsQ', trips_def, off20_0, off21_0, off22_0, off22_1, off23_q, off1_q]
  isplitl [H8]
  · iexists _
    isplitl
    · sl_close
    · ipureintro
      refine (View.read_writes_full _ _ _ _ _).trans ?_
      sl_open_run
      simp only [cat1_eq, cat0_eq]
      simp only [outW, half, whole, scW, walkS, walk, step, score, mask1024, mask512, rowWord, keyWord, tripWord, Nat.add_zero, Nat.add_assoc, Nat.reduceAdd, readAt_rows, readAt_ents, readAt_entsQ, readAt_sc, readAt_q, readAt_rows', readAt_ents', readAt_entsQ', trips_def, off20_0, off21_0, off22_0, off22_1, off23_q, off1_q, e9]
      generalize k0_pay151 (entsAtQ (View.read (Elt F) arg7.view X_arg7) (1024 * (i 2).val)) = v5
      generalize k0_pay152 (View.read (Elt F) arg3.view X_arg3) = v7
      generalize scAt v5 v7 (arg5.view.read (Elt F) X_arg5) (arg7.view.read (Elt F) X_arg7) (arg9.view.read (Elt F) f_arg9) (k0_t1_loop i).trips = s0
      generalize accAt v5 v7 (k0_pay153 (F := F)) (arg5.view.read (Elt F) X_arg5) (arg6.view.read (Elt F) X_arg6) (arg7.view.read (Elt F) X_arg7) (arg9.view.read (Elt F) f_arg9) (k0_pay155 (F := F), k0_pay156 (F := F)) (k0_t1_loop i).trips = acc
      sl_open_pay
      simp only [cat1_eq, cat0_eq]
      done
  · iexists _
    isplitl
    · sl_close
    · ipureintro
      refine (View.read_writes_full _ _ _ _ _).trans ?_
      sl_open_run
      simp only [readAt_rows, readAt_ents, readAt_entsQ, readAt_sc, readAt_q, readAt_rows', readAt_ents', readAt_entsQ', trips_def, off20_0, off21_0, off22_0, off22_1, off23_q, off1_q, e9]
      exact shapeCast_self _ _

end Cert.Proof.Fox
end
-- ==== Proof.Run2.lean ====
module

public import proofs.«01_k».proof.Proof.Gen.KernelIdeal.Skeleton
public import proofs.«01_k».proof.Proof.Gen.KernelIdeal.Loops
public import proofs.«01_k».proof.Proof.Spec
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body run at a query block with 2 whole blocks after the counted loop: its output block is left at `outW`, the scratch at the scores of the next query block and the first keys. -/
theorem run2 (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (hC1 : ¬ Scalar.cmpi .ne (Scalar.extui (Scalar.cmpi .eq (BitVec.ofNat 32 (i 2).val) 0#32) : BitVec 32) 0#32 = 1#1) (hC2 : k0_cond2 i = 1#1) (hC3 : ¬ k0_cond3 i = 1#1) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outW (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7) (arg9.view.read (Elt F) f_arg9) (k0_t1_loop i).trips 2 (Scalar.addi (rowWord i) 0#32) (Scalar.addi (keyWord i) 1024#32) (Scalar.addi (rowWord i) 512#32) (Scalar.addi (keyWord i) 1536#32)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  unfold cc0_fox_attn
  iintro ⟨H3, H4, H5, H6, H7, H8, H9⟩
  sl_exec
  sl_step
  iframe
  have e9 : arg9.view.read (Elt F) fL0 = scAt (k0_pay151 (entsAtQ (arg7.view.read (Elt F) X_arg7) (1024 * (i 2).val))) (k0_pay152 (arg3.view.read (Elt F) X_arg3)) (arg5.view.read (Elt F) X_arg5) (arg7.view.read (Elt F) X_arg7) (arg9.view.read (Elt F) f_arg9) (k0_t1_loop i).trips := by
    refine hL4.trans ?_
    sl_open_run
    simp only [readAt_rows, readAt_ents, readAt_entsQ, readAt_sc, readAt_q, readAt_rows', readAt_ents', readAt_entsQ', trips_def, off16_0, off16_1, off16_2, off17_0, off17_1, off17_2, off18_0, off18_1, off18_2, off18_3, off19_q, off1_q]
  isplitl [H8]
  · iexists _
    isplitl
    · sl_close
    · ipureintro
      refine (View.read_writes_full _ _ _ _ _).trans ?_
      sl_open_run
      simp only [cat1_eq, cat0_eq]
      simp only [outW, half, whole, scW, walkS, walk, step, score, mask1024, mask512, rowWord, keyWord, tripWord, Nat.add_zero, Nat.add_assoc, Nat.reduceAdd, readAt_rows, readAt_ents, readAt_entsQ, readAt_sc, readAt_q, readAt_rows', readAt_ents', readAt_entsQ', trips_def, off16_0, off16_1, off16_2, off17_0, off17_1, off17_2, off18_0, off18_1, off18_2, off18_3, off19_q, off1_q, e9]
      generalize k0_pay151 (entsAtQ (View.read (Elt F) arg7.view X_arg7) (1024 * (i 2).val)) = v5
      generalize k0_pay152 (View.read (Elt F) arg3.view X_arg3) = v7
      generalize scAt v5 v7 (arg5.view.read (Elt F) X_arg5) (arg7.view.read (Elt F) X_arg7) (arg9.view.read (Elt F) f_arg9) (k0_t1_loop i).trips = s0
      generalize accAt v5 v7 (k0_pay153 (F := F)) (arg5.view.read (Elt F) X_arg5) (arg6.view.read (Elt F) X_arg6) (arg7.view.read (Elt F) X_arg7) (arg9.view.read (Elt F) f_arg9) (k0_pay155 (F := F), k0_pay156 (F := F)) (k0_t1_loop i).trips = acc
      sl_open_pay
      simp only [cat1_eq, cat0_eq]
      done
  · iexists _
    isplitl
    · sl_close
    · ipureintro
      refine (View.read_writes_full _ _ _ _ _).trans ?_
      sl_open_run
      simp only [readAt_rows, readAt_ents, readAt_entsQ, readAt_sc, readAt_q, readAt_rows', readAt_ents', readAt_entsQ', trips_def, off16_0, off16_1, off16_2, off17_0, off17_1, off17_2, off18_0, off18_1, off18_2, off18_3, off19_q, off1_q, e9]
      exact shapeCast_self _ _

end Cert.Proof.Fox
end
-- ==== Proof.Run4.lean ====
module

public import proofs.«01_k».proof.Proof.Gen.KernelIdeal.Skeleton
public import proofs.«01_k».proof.Proof.Gen.KernelIdeal.Loops
public import proofs.«01_k».proof.Proof.Spec
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body run at a query block with 4 whole blocks after the counted loop: its output block is left at `outW`, the scratch at the scores of the next query block and the first keys. -/
theorem run4 (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (hC1 : ¬ Scalar.cmpi .ne (Scalar.extui (Scalar.cmpi .eq (BitVec.ofNat 32 (i 2).val) 0#32) : BitVec 32) 0#32 = 1#1) (hC2 : k0_cond2 i = 1#1) (hC3 : k0_cond3 i = 1#1) (hC4 : ¬ k0_cond4 i = 1#1) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outW (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7) (arg9.view.read (Elt F) f_arg9) (k0_t1_loop i).trips 4 (Scalar.addi (rowWord i) 0#32) (Scalar.addi (keyWord i) 2048#32) (Scalar.addi (rowWord i) 512#32) (Scalar.addi (keyWord i) 2560#32)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  unfold cc0_fox_attn
  iintro ⟨H3, H4, H5, H6, H7, H8, H9⟩
  sl_exec
  sl_step
  iframe
  have e9 : arg9.view.read (Elt F) fL0 = scAt (k0_pay151 (entsAtQ (arg7.view.read (Elt F) X_arg7) (1024 * (i 2).val))) (k0_pay152 (arg3.view.read (Elt F) X_arg3)) (arg5.view.read (Elt F) X_arg5) (arg7.view.read (Elt F) X_arg7) (arg9.view.read (Elt F) f_arg9) (k0_t1_loop i).trips := by
    refine hL4.trans ?_
    sl_open_run
    simp only [readAt_rows, readAt_ents, readAt_entsQ, readAt_sc, readAt_q, readAt_rows', readAt_ents', readAt_entsQ', trips_def, off12_0, off12_1, off12_2, off12_3, off12_4, off13_0, off13_1, off13_2, off13_3, off13_4, off14_0, off14_1, off14_2, off14_3, off14_4, off14_5, off15_q, off1_q]
  isplitl [H8]
  · iexists _
    isplitl
    · sl_close
    · ipureintro
      refine (View.read_writes_full _ _ _ _ _).trans ?_
      sl_open_run
      simp only [cat1_eq, cat0_eq]
      simp only [outW, half, whole, scW, walkS, walk, step, score, mask1024, mask512, rowWord, keyWord, tripWord, Nat.add_zero, Nat.add_assoc, Nat.reduceAdd, readAt_rows, readAt_ents, readAt_entsQ, readAt_sc, readAt_q, readAt_rows', readAt_ents', readAt_entsQ', trips_def, off12_0, off12_1, off12_2, off12_3, off12_4, off13_0, off13_1, off13_2, off13_3, off13_4, off14_0, off14_1, off14_2, off14_3, off14_4, off14_5, off15_q, off1_q, e9]
      generalize k0_pay151 (entsAtQ (View.read (Elt F) arg7.view X_arg7) (1024 * (i 2).val)) = v5
      generalize k0_pay152 (View.read (Elt F) arg3.view X_arg3) = v7
      generalize scAt v5 v7 (arg5.view.read (Elt F) X_arg5) (arg7.view.read (Elt F) X_arg7) (arg9.view.read (Elt F) f_arg9) (k0_t1_loop i).trips = s0
      generalize accAt v5 v7 (k0_pay153 (F := F)) (arg5.view.read (Elt F) X_arg5) (arg6.view.read (Elt F) X_arg6) (arg7.view.read (Elt F) X_arg7) (arg9.view.read (Elt F) f_arg9) (k0_pay155 (F := F), k0_pay156 (F := F)) (k0_t1_loop i).trips = acc
      sl_open_pay
      simp only [cat1_eq, cat0_eq]
      done
  · iexists _
    isplitl
    · sl_close
    · ipureintro
      refine (View.read_writes_full _ _ _ _ _).trans ?_
      sl_open_run
      simp only [readAt_rows, readAt_ents, readAt_entsQ, readAt_sc, readAt_q, readAt_rows', readAt_ents', readAt_entsQ', trips_def, off12_0, off12_1, off12_2, off12_3, off12_4, off13_0, off13_1, off13_2, off13_3, off13_4, off14_0, off14_1, off14_2, off14_3, off14_4, off14_5, off15_q, off1_q, e9]
      exact shapeCast_self _ _

end Cert.Proof.Fox
end
-- ==== Proof.Run6.lean ====
module

public import proofs.«01_k».proof.Proof.Gen.KernelIdeal.Skeleton
public import proofs.«01_k».proof.Proof.Gen.KernelIdeal.Loops
public import proofs.«01_k».proof.Proof.Spec
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body run at a query block with 6 whole blocks after the counted loop: its output block is left at `outW`, the scratch at the scores of the next query block and the first keys. -/
theorem run6 (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (hC1 : ¬ Scalar.cmpi .ne (Scalar.extui (Scalar.cmpi .eq (BitVec.ofNat 32 (i 2).val) 0#32) : BitVec 32) 0#32 = 1#1) (hC2 : k0_cond2 i = 1#1) (hC3 : k0_cond3 i = 1#1) (hC4 : k0_cond4 i = 1#1) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outW (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7) (arg9.view.read (Elt F) f_arg9) (k0_t1_loop i).trips 6 (Scalar.addi (rowWord i) 0#32) (Scalar.addi (keyWord i) 3072#32) (Scalar.addi (rowWord i) 512#32) (Scalar.addi (keyWord i) 3584#32)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  unfold cc0_fox_attn
  iintro ⟨H3, H4, H5, H6, H7, H8, H9⟩
  sl_exec
  sl_step
  iframe
  have e9 : arg9.view.read (Elt F) fL0 = scAt (k0_pay151 (entsAtQ (arg7.view.read (Elt F) X_arg7) (1024 * (i 2).val))) (k0_pay152 (arg3.view.read (Elt F) X_arg3)) (arg5.view.read (Elt F) X_arg5) (arg7.view.read (Elt F) X_arg7) (arg9.view.read (Elt F) f_arg9) (k0_t1_loop i).trips := by
    refine hL4.trans ?_
    sl_open_run
    simp only [readAt_rows, readAt_ents, readAt_entsQ, readAt_sc, readAt_q, readAt_rows', readAt_ents', readAt_entsQ', trips_def, off8_0, off8_1, off8_2, off8_3, off8_4, off8_5, off8_6, off9_0, off9_1, off9_2, off9_3, off9_4, off9_5, off9_6, off10_0, off10_1, off10_2, off10_3, off10_4, off10_5, off10_6, off10_7, off11_q, off1_q]
  isplitl [H8]
  · iexists _
    isplitl
    · sl_close
    · ipureintro
      refine (View.read_writes_full _ _ _ _ _).trans ?_
      sl_open_run
      simp only [cat1_eq, cat0_eq]
      simp only [outW, half, whole, scW, walkS, walk, step, score, mask1024, mask512, rowWord, keyWord, tripWord, Nat.add_zero, Nat.add_assoc, Nat.reduceAdd, readAt_rows, readAt_ents, readAt_entsQ, readAt_sc, readAt_q, readAt_rows', readAt_ents', readAt_entsQ', trips_def, off8_0, off8_1, off8_2, off8_3, off8_4, off8_5, off8_6, off9_0, off9_1, off9_2, off9_3, off9_4, off9_5, off9_6, off10_0, off10_1, off10_2, off10_3, off10_4, off10_5, off10_6, off10_7, off11_q, off1_q, e9]
      generalize k0_pay151 (entsAtQ (View.read (Elt F) arg7.view X_arg7) (1024 * (i 2).val)) = v5
      generalize k0_pay152 (View.read (Elt F) arg3.view X_arg3) = v7
      generalize scAt v5 v7 (arg5.view.read (Elt F) X_arg5) (arg7.view.read (Elt F) X_arg7) (arg9.view.read (Elt F) f_arg9) (k0_t1_loop i).trips = s0
      generalize accAt v5 v7 (k0_pay153 (F := F)) (arg5.view.read (Elt F) X_arg5) (arg6.view.read (Elt F) X_arg6) (arg7.view.read (Elt F) X_arg7) (arg9.view.read (Elt F) f_arg9) (k0_pay155 (F := F), k0_pay156 (F := F)) (k0_t1_loop i).trips = acc
      sl_open_pay
      simp only [cat1_eq, cat0_eq]
      done
  · iexists _
    isplitl
    · sl_close
    · ipureintro
      refine (View.read_writes_full _ _ _ _ _).trans ?_
      sl_open_run
      simp only [readAt_rows, readAt_ents, readAt_entsQ, readAt_sc, readAt_q, readAt_rows', readAt_ents', readAt_entsQ', trips_def, off8_0, off8_1, off8_2, off8_3, off8_4, off8_5, off8_6, off9_0, off9_1, off9_2, off9_3, off9_4, off9_5, off9_6, off10_0, off10_1, off10_2, off10_3, off10_4, off10_5, off10_6, off10_7, off11_q, off1_q, e9]
      exact shapeCast_self _ _

end Cert.Proof.Fox
end
-- ==== Proof.RunZ.lean ====
module

public import proofs.«01_k».proof.Proof.Gen.KernelIdeal.Skeleton
public import proofs.«01_k».proof.Proof.Gen.KernelIdeal.Loops
public import proofs.«01_k».proof.Proof.Spec
public import Idealize.ShloMosaic.Lib.Exec
public import Idealize.ShloMosaic.Lib.Tactic
public import Idealize.ShloMosaic.Lib.Pipeline.Kit
public import Idealize.ShloMosaic.Lib.VecWindow
public import Idealize.ShloMosaic.Lib.LoopRemainder
public import Idealize.ShloMosaic.Lib.Tactic.Stretches
public import Idealize.ShloMosaic.Lib.Pipeline.Value

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's body run at the first query block: its output block is left at `outW`, the scratch at the scores of the next query block and the first keys. -/
theorem runz (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (hC1 : Scalar.cmpi .ne (Scalar.extui (Scalar.cmpi .eq (BitVec.ofNat 32 (i 2).val) 0#32) : BitVec 32) 0#32 = 1#1) (hC2 : ¬ k0_cond2 i = 1#1) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outW (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7) (score (k0_pay151 (entsAtQ (arg7.view.read (Elt F) X_arg7) (1024 * (i 2).val))) (k0_pay152 (arg3.view.read (Elt F) X_arg3)) (arg5.view.read (Elt F) X_arg5) (arg7.view.read (Elt F) X_arg7) 0) (k0_t1_loop i).trips 0 (Scalar.addi (rowWord i) 0#32) (Scalar.addi (keyWord i) 0#32) (Scalar.addi (rowWord i) 512#32) (Scalar.addi (keyWord i) 512#32)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  unfold cc0_fox_attn
  iintro ⟨H3, H4, H5, H6, H7, H8, H9⟩
  sl_exec
  sl_step
  iframe
  have e9 : arg9.view.read (Elt F) fL0 = scAt (k0_pay151 (entsAtQ (arg7.view.read (Elt F) X_arg7) (1024 * (i 2).val))) (k0_pay152 (arg3.view.read (Elt F) X_arg3)) (arg5.view.read (Elt F) X_arg5) (arg7.view.read (Elt F) X_arg7) (score (k0_pay151 (entsAtQ (arg7.view.read (Elt F) X_arg7) (1024 * (i 2).val))) (k0_pay152 (arg3.view.read (Elt F) X_arg3)) (arg5.view.read (Elt F) X_arg5) (arg7.view.read (Elt F) X_arg7) 0) (k0_t1_loop i).trips := by
    refine hL4.trans ?_
    sl_open_run
    simp only [readAt_rows, readAt_ents, readAt_entsQ, readAt_sc, readAt_q, readAt_rows', readAt_ents', readAt_entsQ', trips_def, z0, z2, read_sc, read_sc', off20_0, off21_0, off22_0, off22_1, off23_q, off1_q]
    simp only [score]
    sl_open_pay
    simp only [shapeCast_self] <;> rfl
  isplitl [H8]
  · iexists _
    isplitl
    · sl_close
    · ipureintro
      refine (View.read_writes_full _ _ _ _ _).trans ?_
      sl_open_run
      simp only [cat1_eq, cat0_eq]
      simp only [outW, half, whole, scW, walkS, walk, step, score, mask1024, mask512, rowWord, keyWord, tripWord, Nat.add_zero, Nat.add_assoc, Nat.reduceAdd, readAt_rows, readAt_ents, readAt_entsQ, readAt_sc, readAt_q, readAt_rows', readAt_ents', readAt_entsQ', trips_def, z0, z2, read_sc, read_sc', off20_0, off21_0, off22_0, off22_1, off23_q, off1_q, e9]
      sl_open_pay
      simp only [cat1_eq, cat0_eq, shapeCast_self] <;> rfl
      done
  · iexists _
    isplitl
    · sl_close
    · ipureintro
      refine (View.read_writes_full _ _ _ _ _).trans ?_
      sl_open_run
      simp only [readAt_rows, readAt_ents, readAt_entsQ, readAt_sc, readAt_q, readAt_rows', readAt_ents', readAt_entsQ', trips_def, z0, z2, read_sc, read_sc', off20_0, off21_0, off22_0, off22_1, off23_q, off1_q, e9]
      exact shapeCast_self _ _

end Cert.Proof.Fox
end
-- ==== Proof.Point.lean ====
module

public import proofs.«01_k».proof.Proof.Spec
public import proofs.«01_k».proof.Proof.Run0
public import proofs.«01_k».proof.Proof.Run2
public import proofs.«01_k».proof.Proof.Run4
public import proofs.«01_k».proof.Proof.Run6
public import proofs.«01_k».proof.Proof.RunZ

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What query block `n`'s rows end up with: the online softmax over the `2 * n` blocks of keys before it, the block of
    its upper rows masked, the block of its lower rows masked, and the division. -/
def outBlk (n : ℕ) (v5 : FVec F S1x1 .f32) (v7 : FVec F S1024x128 .bf16) (K W : Vec F S8192x128 .bf16) (C : Vec F S1x1x8192 .f32) :
    FVec F S1024x128 .bf16 :=
  k0_pay14 (half (k0_pay153 (F := F))
    (step (k0_pay153 (F := F)) (walk v5 v7 (k0_pay153 (F := F)) K W C 0 (k0_pay155 (F := F), k0_pay156 (F := F)) (2 * n))
      (mask1024 (BitVec.ofNat 32 (1024 * n)) (BitVec.ofNat 32 (1024 * n)) (score v5 v7 K C (512 * (2 * n)))) (rowsAt W (512 * (2 * n))))
    (mask512 (BitVec.ofNat 32 (1024 * n + 512)) (BitVec.ofNat 32 (1024 * n + 512))
      (k0_pay139 v5 v7 (entsAt C (512 * (2 * n + 1))) (rowsAt K (512 * (2 * n + 1)))))
    (rowsAt W (512 * (2 * n + 1))))

/-- `outW` at the words of a query block is `outBlk`, where the carried scores are those of the first keys. -/
theorem outW_eq (i : grid0.Coords) (R : ℕ) (v5 : FVec F S1x1 .f32) (v7 : FVec F S1024x128 .bf16) (K W : Vec F S8192x128 .bf16)
    (C : Vec F S1x1x8192 .f32) (s0 : FVec F S1024x512 .f32) (h : s0 = score v5 v7 K C 0) (T : ℕ) (hT : (k0_t1_loop i).trips = T)
    (hR : 2 * (i 2).val = 8 * T + R) (rw kw rw' kw' : BitVec 32)
    (h1 : rw = BitVec.ofNat 32 (1024 * (i 2).val)) (h2 : kw = BitVec.ofNat 32 (1024 * (i 2).val))
    (h3 : rw' = BitVec.ofNat 32 (1024 * (i 2).val + 512)) (h4 : kw' = BitVec.ofNat 32 (1024 * (i 2).val + 512)) :
    outBlk (i 2).val v5 v7 K W C = outW v5 v7 K W C s0 (k0_t1_loop i).trips R rw kw rw' kw' := by
  subst h1 h2 h3 h4
  rw [hT]
  unfold outBlk outW whole
  have hsc : scW v5 v7 K C s0 T R = score v5 v7 K C (512 * (8 * T + R)) := by
    cases R with
    | zero => exact scAt_eq _ _ _ _ _ h T
    | succ r => rfl
  have hacc := walk_add v5 v7 (k0_pay153 (F := F)) K W C 0 (k0_pay155 (F := F), k0_pay156 (F := F)) (8 * T) R
  rw [Nat.zero_add] at hacc
  rw [walkS_eq _ _ _ _ _ _ _ _ _ (scAt_eq _ _ _ _ _ h T), accAt_eq _ _ _ _ _ _ _ h, hsc, hacc, hR]

/-- The kernel's body run at a point: its output block is left at `outBlk`, the scratch at the scores of the next query
    block and the first keys; past the first query block the scratch must hold those of this one. -/
theorem run_point (𝒱 : Variants) (c : Dev nD) (bd : Option 𝒱.V) (i : grid0.Coords) (arg3 : Memref sig .tc .vmem S1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1024x128 .bf16) (harg8 : arg8.IsWhole) (arg9 : Memref sig .tc .vmem S1024x512 .f32) (harg9 : arg9.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (f_arg8 : BufTy.Contents (Elt F) arg8.view.ty) (f_arg9 : BufTy.Contents (Elt F) arg9.view.ty) (E : Set ℕ)
    (h0 : (i 2).val ≠ 0 → arg9.view.read (Elt F) f_arg9 = score (k0_pay151 (entsAtQ (arg7.view.read (Elt F) X_arg7) (1024 * (i 2).val))) (k0_pay152 (arg3.view.read (Elt F) X_arg3)) (arg5.view.read (Elt F) X_arg5) (arg7.view.read (Elt F) X_arg7) 0) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
      ∗ (arg8.view.loc (c : Thread nD τ) ↦[arg8.view.set]{fullShare} f_arg8) ∗ (arg9.view.loc (c : Thread nD τ) ↦[arg9.view.set]{fullShare} f_arg9)) : sProp 𝕄)
    ⊢ wp frame (wpE (defs₀ (F := F)) 𝒱 (c : Thread nD τ) bd) E (cc0_fox_attn (F := F) i arg3 harg3 arg4 harg4 arg5 harg5 arg6 harg6 arg7 harg7 arg8 harg8 arg9 harg9)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7)
          ∗ (∃ f, (arg8.view.loc (c : Thread nD τ) ↦[arg8.view.set]{fullShare} f) ∗ ⌜arg8.view.read (Elt F) f = outBlk (i 2).val (k0_pay151 (entsAtQ (arg7.view.read (Elt F) X_arg7) (1024 * (i 2).val))) (k0_pay152 (arg3.view.read (Elt F) X_arg3)) (arg5.view.read (Elt F) X_arg5) (arg6.view.read (Elt F) X_arg6) (arg7.view.read (Elt F) X_arg7)⌝)
          ∗ (∃ f, (arg9.view.loc (c : Thread nD τ) ↦[arg9.view.set]{fullShare} f) ∗ ⌜arg9.view.read (Elt F) f = score (k0_pay151 (entsAtQ (arg7.view.read (Elt F) X_arg7) (1024 * min ((i 2).val + 1) 7))) (k0_pay152 (arg4.view.read (Elt F) X_arg4)) (arg5.view.read (Elt F) X_arg5) (arg7.view.read (Elt F) X_arg7) 0⌝))) := by
  obtain ⟨n, hn⟩ : ∃ n : Fin 8, i 2 = n := ⟨i 2, rfl⟩
  match n, hn with
  | ⟨0, _⟩, hn =>
    have hi : i 2 = (0 : Fin 8) := hn
    have hT : (k0_t1_loop i).trips = 0 := by unfold k0_t1_loop; simp only [hi]; decide
    rw [outW_eq i 0 _ _ _ _ _ _ rfl 0 hT (by rw [hi]; rfl) (Scalar.addi (rowWord i) 0#32) (Scalar.addi (keyWord i) 0#32) (Scalar.addi (rowWord i) 512#32) (Scalar.addi (keyWord i) 512#32) (by unfold rowWord; simp only [hi]; decide) (by unfold keyWord tripWord; simp only [hi]; decide) (by unfold rowWord; simp only [hi]; decide) (by unfold keyWord tripWord; simp only [hi]; decide)]
    exact runz 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide)
  | ⟨1, _⟩, hn =>
    have hi : i 2 = (1 : Fin 8) := hn
    have hT : (k0_t1_loop i).trips = 0 := by unfold k0_t1_loop; simp only [hi]; decide
    rw [outW_eq i 2 _ _ _ _ _ _ (h0 (by rw [hi]; decide)) 0 hT (by rw [hi]; rfl) (Scalar.addi (rowWord i) 0#32) (Scalar.addi (keyWord i) 1024#32) (Scalar.addi (rowWord i) 512#32) (Scalar.addi (keyWord i) 1536#32) (by unfold rowWord; simp only [hi]; decide) (by unfold keyWord tripWord; simp only [hi]; decide) (by unfold rowWord; simp only [hi]; decide) (by unfold keyWord tripWord; simp only [hi]; decide)]
    exact run2 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide)
  | ⟨2, _⟩, hn =>
    have hi : i 2 = (2 : Fin 8) := hn
    have hT : (k0_t1_loop i).trips = 0 := by unfold k0_t1_loop; simp only [hi]; decide
    rw [outW_eq i 4 _ _ _ _ _ _ (h0 (by rw [hi]; decide)) 0 hT (by rw [hi]; rfl) (Scalar.addi (rowWord i) 0#32) (Scalar.addi (keyWord i) 2048#32) (Scalar.addi (rowWord i) 512#32) (Scalar.addi (keyWord i) 2560#32) (by unfold rowWord; simp only [hi]; decide) (by unfold keyWord tripWord; simp only [hi]; decide) (by unfold rowWord; simp only [hi]; decide) (by unfold keyWord tripWord; simp only [hi]; decide)]
    exact run4 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide) (by unfold k0_cond4; simp only [hi]; decide)
  | ⟨3, _⟩, hn =>
    have hi : i 2 = (3 : Fin 8) := hn
    have hT : (k0_t1_loop i).trips = 0 := by unfold k0_t1_loop; simp only [hi]; decide
    rw [outW_eq i 6 _ _ _ _ _ _ (h0 (by rw [hi]; decide)) 0 hT (by rw [hi]; rfl) (Scalar.addi (rowWord i) 0#32) (Scalar.addi (keyWord i) 3072#32) (Scalar.addi (rowWord i) 512#32) (Scalar.addi (keyWord i) 3584#32) (by unfold rowWord; simp only [hi]; decide) (by unfold keyWord tripWord; simp only [hi]; decide) (by unfold rowWord; simp only [hi]; decide) (by unfold keyWord tripWord; simp only [hi]; decide)]
    exact run6 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide) (by unfold k0_cond4; simp only [hi]; decide)
  | ⟨4, _⟩, hn =>
    have hi : i 2 = (4 : Fin 8) := hn
    have hT : (k0_t1_loop i).trips = 1 := by unfold k0_t1_loop; simp only [hi]; decide
    rw [outW_eq i 0 _ _ _ _ _ _ (h0 (by rw [hi]; decide)) 1 hT (by rw [hi]; rfl) (Scalar.addi (rowWord i) 0#32) (Scalar.addi (keyWord i) 0#32) (Scalar.addi (rowWord i) 512#32) (Scalar.addi (keyWord i) 512#32) (by unfold rowWord; simp only [hi]; decide) (by unfold keyWord tripWord; simp only [hi]; decide) (by unfold rowWord; simp only [hi]; decide) (by unfold keyWord tripWord; simp only [hi]; decide)]
    exact run0 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide)
  | ⟨5, _⟩, hn =>
    have hi : i 2 = (5 : Fin 8) := hn
    have hT : (k0_t1_loop i).trips = 1 := by unfold k0_t1_loop; simp only [hi]; decide
    rw [outW_eq i 2 _ _ _ _ _ _ (h0 (by rw [hi]; decide)) 1 hT (by rw [hi]; rfl) (Scalar.addi (rowWord i) 0#32) (Scalar.addi (keyWord i) 1024#32) (Scalar.addi (rowWord i) 512#32) (Scalar.addi (keyWord i) 1536#32) (by unfold rowWord; simp only [hi]; decide) (by unfold keyWord tripWord; simp only [hi]; decide) (by unfold rowWord; simp only [hi]; decide) (by unfold keyWord tripWord; simp only [hi]; decide)]
    exact run2 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide)
  | ⟨6, _⟩, hn =>
    have hi : i 2 = (6 : Fin 8) := hn
    have hT : (k0_t1_loop i).trips = 1 := by unfold k0_t1_loop; simp only [hi]; decide
    rw [outW_eq i 4 _ _ _ _ _ _ (h0 (by rw [hi]; decide)) 1 hT (by rw [hi]; rfl) (Scalar.addi (rowWord i) 0#32) (Scalar.addi (keyWord i) 2048#32) (Scalar.addi (rowWord i) 512#32) (Scalar.addi (keyWord i) 2560#32) (by unfold rowWord; simp only [hi]; decide) (by unfold keyWord tripWord; simp only [hi]; decide) (by unfold rowWord; simp only [hi]; decide) (by unfold keyWord tripWord; simp only [hi]; decide)]
    exact run4 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide) (by unfold k0_cond4; simp only [hi]; decide)
  | ⟨7, _⟩, hn =>
    have hi : i 2 = (7 : Fin 8) := hn
    have hT : (k0_t1_loop i).trips = 1 := by unfold k0_t1_loop; simp only [hi]; decide
    rw [outW_eq i 6 _ _ _ _ _ _ (h0 (by rw [hi]; decide)) 1 hT (by rw [hi]; rfl) (Scalar.addi (rowWord i) 0#32) (Scalar.addi (keyWord i) 3072#32) (Scalar.addi (rowWord i) 512#32) (Scalar.addi (keyWord i) 3584#32) (by unfold rowWord; simp only [hi]; decide) (by unfold keyWord tripWord; simp only [hi]; decide) (by unfold rowWord; simp only [hi]; decide) (by unfold keyWord tripWord; simp only [hi]; decide)]
    exact run6 𝒱 c bd i arg3 harg3 arg4 harg4 arg5 harg5 arg6 harg6 arg7 harg7 arg8 harg8 arg9 harg9 X_arg3 X_arg4 X_arg5 X_arg6 X_arg7 f_arg8 f_arg9 E (by simp only [hi]; decide) (by unfold k0_cond2; simp only [hi]; decide) (by unfold k0_cond3; simp only [hi]; decide) (by unfold k0_cond4; simp only [hi]; decide)

end Cert.Proof.Fox
end
-- ==== Proof.Blocks.lean ====
module

public import proofs.«01_k».proof.Proof.Gen.KernelIdeal.Frame
public import proofs.«01_k».proof.Proof.Spec

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The batch of a point. -/
abbrev bOf (t : Fin cfg0.N) : ℕ := t.val / 48
/-- The head of a point. -/
abbrev hOf (t : Fin cfg0.N) : ℕ := t.val / 8 % 6
/-- The query block of a point. -/
abbrev qOf (t : Fin cfg0.N) : ℕ := t.val % 8

theorem coord2 : ∀ t : Fin cfg0.N, (grid0.coords t 2).val = qOf t :=
  (by decide +kernel : ∀ t : Fin grid0.N, (grid0.coords t 2).val = t.val % 8)
theorem tr0 : ∀ t : Fin cfg0.N, cc0_transform_0 (grid0.coords t) 0 = bOf t * 8 + qOf t ∧ cc0_transform_0 (grid0.coords t) 1 = hOf t :=
  (by decide +kernel : ∀ t : Fin grid0.N, cc0_transform_0 (grid0.coords t) 0 = t.val / 48 * 8 + t.val % 8 ∧ cc0_transform_0 (grid0.coords t) 1 = t.val / 8 % 6)
theorem tr1 : ∀ t : Fin cfg0.N, cc0_transform_1 (grid0.coords t) 0 = bOf t * 8 + min (qOf t + 1) 7 ∧ cc0_transform_1 (grid0.coords t) 1 = hOf t :=
  (by decide +kernel : ∀ t : Fin grid0.N, cc0_transform_1 (grid0.coords t) 0 = t.val / 48 * 8 + min (t.val % 8 + 1) 7 ∧ cc0_transform_1 (grid0.coords t) 1 = t.val / 8 % 6)
theorem tr2 : ∀ t : Fin cfg0.N, cc0_transform_2 (grid0.coords t) 0 = bOf t ∧ cc0_transform_2 (grid0.coords t) 1 = 6 + hOf t :=
  (by decide +kernel : ∀ t : Fin grid0.N, cc0_transform_2 (grid0.coords t) 0 = t.val / 48 ∧ cc0_transform_2 (grid0.coords t) 1 = 6 + t.val / 8 % 6)
theorem tr3 : ∀ t : Fin cfg0.N, cc0_transform_3 (grid0.coords t) 0 = bOf t ∧ cc0_transform_3 (grid0.coords t) 1 = 12 + hOf t :=
  (by decide +kernel : ∀ t : Fin grid0.N, cc0_transform_3 (grid0.coords t) 0 = t.val / 48 ∧ cc0_transform_3 (grid0.coords t) 1 = 12 + t.val / 8 % 6)
theorem tr4 : ∀ t : Fin cfg0.N, cc0_transform_4 (grid0.coords t) 0 = bOf t * 6 + hOf t ∧ cc0_transform_4 (grid0.coords t) 1 = 0 ∧ cc0_transform_4 (grid0.coords t) 2 = 0 :=
  (by decide +kernel : ∀ t : Fin grid0.N, cc0_transform_4 (grid0.coords t) 0 = t.val / 48 * 6 + t.val / 8 % 6 ∧ cc0_transform_4 (grid0.coords t) 1 = 0 ∧ cc0_transform_4 (grid0.coords t) 2 = 0)
theorem tr5 : ∀ t : Fin cfg0.N, cc0_transform_5 (grid0.coords t) 0 = bOf t * 8 + qOf t ∧ cc0_transform_5 (grid0.coords t) 1 = hOf t :=
  (by decide +kernel : ∀ t : Fin grid0.N, cc0_transform_5 (grid0.coords t) 0 = t.val / 48 * 8 + t.val % 8 ∧ cc0_transform_5 (grid0.coords t) 1 = t.val / 8 % 6)

theorem t_lt (t : Fin cfg0.N) : t.val < 192 := N_0 ▸ t.isLt

/-- Entry `(r, j)` of the joined array of queries, keys and values. -/
def hqAt (c : Dev nD) (r j : ℕ) : Elt F .bf16 :=
  (V m c main_v7 : Vec F S32768x2304 .bf16) (fun a => match a with
    | ⟨0, _⟩ => (⟨r % 32768, Nat.mod_lt _ (by decide)⟩ : Fin 32768)
    | ⟨1, _⟩ => (⟨j % 2304, Nat.mod_lt _ (by decide)⟩ : Fin 2304))
/-- Entry `j` of row `r` of the array of cumulative log gates. -/
def c3At (c : Dev nD) (r j : ℕ) : Elt F .f32 :=
  (V m c main_v11 : Vec F S24x1x8192 .f32) (fun a => match a with
    | ⟨0, _⟩ => (⟨r % 24, Nat.mod_lt _ (by decide)⟩ : Fin 24)
    | ⟨1, _⟩ => (0 : Fin 1)
    | ⟨2, _⟩ => (⟨j % 8192, Nat.mod_lt _ (by decide)⟩ : Fin 8192))

/-- Query block `n` of batch `b` and head `h`. -/
def qBlk (c : Dev nD) (b h n : ℕ) : Vec F S1024x128 .bf16 := fun y => hqAt m c (8192 * b + 1024 * n + (y 0).val) (128 * h + (y 1).val)
/-- The keys of batch `b` and head `h`. -/
def kBlk (c : Dev nD) (b h : ℕ) : Vec F S8192x128 .bf16 := fun y => hqAt m c (8192 * b + (y 0).val) (768 + 128 * h + (y 1).val)
/-- The values of batch `b` and head `h`. -/
def vBlk (c : Dev nD) (b h : ℕ) : Vec F S8192x128 .bf16 := fun y => hqAt m c (8192 * b + (y 0).val) (1536 + 128 * h + (y 1).val)
/-- The cumulative log gates of batch `b` and head `h`. -/
def cBlk (c : Dev nD) (b h : ℕ) : Vec F S1x1x8192 .f32 := fun y => c3At m c (6 * b + h) (y 2).val

theorem iblk_0 (c : Dev nD) (t : Fin cfg0.N) : iblk m c 0 t = qBlk m c (bOf t) (hOf t) (qOf t) := by
  funext y
  have y0 : (y 0).val < 1024 := (y 0).isLt
  have y1 : (y 1).val < 128 := (y 1).isLt
  have ht := t_lt t
  obtain ⟨e0, e1⟩ := tr0 t
  unfold iblk qBlk hqAt
  rw [View.read_apply]
  refine congrArg (V m c main_v7) (funext fun a => ?_)
  match a with
  | ⟨0, _⟩ =>
    refine Fin.ext ?_
    show cc0_transform_0 (grid0.coords t) 0 * 1024 + 1 * (y 0).val = (8192 * bOf t + 1024 * qOf t + (y 0).val) % 32768
    rw [e0]; simp only [bOf, qOf]; omega
  | ⟨1, _⟩ =>
    refine Fin.ext ?_
    show cc0_transform_0 (grid0.coords t) 1 * 128 + 1 * (y 1).val = (128 * hOf t + (y 1).val) % 2304
    rw [e1]; simp only [hOf]; omega

theorem iblk_1 (c : Dev nD) (t : Fin cfg0.N) : iblk m c 1 t = qBlk m c (bOf t) (hOf t) (min (qOf t + 1) 7) := by
  funext y
  have y0 : (y 0).val < 1024 := (y 0).isLt
  have y1 : (y 1).val < 128 := (y 1).isLt
  have ht := t_lt t
  obtain ⟨e0, e1⟩ := tr1 t
  unfold iblk qBlk hqAt
  rw [View.read_apply]
  refine congrArg (V m c main_v7) (funext fun a => ?_)
  match a with
  | ⟨0, _⟩ =>
    refine Fin.ext ?_
    show cc0_transform_1 (grid0.coords t) 0 * 1024 + 1 * (y 0).val = (8192 * bOf t + 1024 * min (qOf t + 1) 7 + (y 0).val) % 32768
    rw [e0]; simp only [bOf, qOf]; omega
  | ⟨1, _⟩ =>
    refine Fin.ext ?_
    show cc0_transform_1 (grid0.coords t) 1 * 128 + 1 * (y 1).val = (128 * hOf t + (y 1).val) % 2304
    rw [e1]; simp only [hOf]; omega

theorem iblk_2 (c : Dev nD) (t : Fin cfg0.N) : iblk m c 2 t = kBlk m c (bOf t) (hOf t) := by
  funext y
  have y0 : (y 0).val < 8192 := (y 0).isLt
  have y1 : (y 1).val < 128 := (y 1).isLt
  have ht := t_lt t
  obtain ⟨e0, e1⟩ := tr2 t
  unfold iblk kBlk hqAt
  rw [View.read_apply]
  refine congrArg (V m c main_v7) (funext fun a => ?_)
  match a with
  | ⟨0, _⟩ =>
    refine Fin.ext ?_
    show cc0_transform_2 (grid0.coords t) 0 * 8192 + 1 * (y 0).val = (8192 * bOf t + (y 0).val) % 32768
    rw [e0]; simp only [bOf]; omega
  | ⟨1, _⟩ =>
    refine Fin.ext ?_
    show cc0_transform_2 (grid0.coords t) 1 * 128 + 1 * (y 1).val = (768 + 128 * hOf t + (y 1).val) % 2304
    rw [e1]; simp only [hOf]; omega

theorem iblk_3 (c : Dev nD) (t : Fin cfg0.N) : iblk m c 3 t = vBlk m c (bOf t) (hOf t) := by
  funext y
  have y0 : (y 0).val < 8192 := (y 0).isLt
  have y1 : (y 1).val < 128 := (y 1).isLt
  have ht := t_lt t
  obtain ⟨e0, e1⟩ := tr3 t
  unfold iblk vBlk hqAt
  rw [View.read_apply]
  refine congrArg (V m c main_v7) (funext fun a => ?_)
  match a with
  | ⟨0, _⟩ =>
    refine Fin.ext ?_
    show cc0_transform_3 (grid0.coords t) 0 * 8192 + 1 * (y 0).val = (8192 * bOf t + (y 0).val) % 32768
    rw [e0]; simp only [bOf]; omega
  | ⟨1, _⟩ =>
    refine Fin.ext ?_
    show cc0_transform_3 (grid0.coords t) 1 * 128 + 1 * (y 1).val = (1536 + 128 * hOf t + (y 1).val) % 2304
    rw [e1]; simp only [hOf]; omega

theorem iblk_4 (c : Dev nD) (t : Fin cfg0.N) : iblk m c 4 t = cBlk m c (bOf t) (hOf t) := by
  funext y
  have y0 : (y 0).val < 1 := (y 0).isLt
  have y1 : (y 1).val < 1 := (y 1).isLt
  have y2 : (y 2).val < 8192 := (y 2).isLt
  have ht := t_lt t
  obtain ⟨e0, e1, e2⟩ := tr4 t
  unfold iblk cBlk c3At
  rw [View.read_apply]
  refine congrArg (V m c main_v11) (funext fun a => ?_)
  match a with
  | ⟨0, _⟩ =>
    refine Fin.ext ?_
    show cc0_transform_4 (grid0.coords t) 0 * 1 + 1 * (y 0).val = (6 * bOf t + hOf t) % 24
    rw [e0]; simp only [bOf, hOf]; omega
  | ⟨1, _⟩ =>
    refine Fin.ext ?_
    show cc0_transform_4 (grid0.coords t) 1 * 1 + 1 * (y 1).val = 0
    rw [e1]; omega
  | ⟨2, _⟩ =>
    refine Fin.ext ?_
    show cc0_transform_4 (grid0.coords t) 2 * 8192 + 1 * (y 2).val = (y 2).val % 8192
    rw [e2]; omega

end Cert.Proof.Fox
end
-- ==== Proof.Body.lean ====
module

public import proofs.«01_k».proof.Proof.Point
public import proofs.«01_k».proof.Proof.Blocks
public import Idealize.ShloMosaic.Lib.Pipeline.Frame

@[expose] public section

set_option maxRecDepth 16384
set_option maxHeartbeats 4000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first entry of the cumulative log gates of query block `n`. -/
def c0Blk (c : Dev nD) (b h n : ℕ) : FVec F S1x1 .f32 := k0_pay151 (entsAtQ (cBlk m c b h) (1024 * n))
/-- The queries of query block `n`, as the kernel's products take them. -/
def v7Blk (c : Dev nD) (b h n : ℕ) : FVec F S1024x128 .bf16 := k0_pay152 (qBlk m c b h n)
/-- The scores of query block `n` against the first keys. -/
def firstScore (c : Dev nD) (b h n : ℕ) : FVec F S1024x512 .f32 :=
  score (c0Blk m c b h n) (v7Blk m c b h n) (kBlk m c b h) (cBlk m c b h) 0
/-- What query block `n` of batch `b` and head `h` ends up with. -/
def resBlk (c : Dev nD) (b h n : ℕ) : FVec F S1024x128 .bf16 :=
  outBlk n (c0Blk m c b h n) (v7Blk m c b h n) (kBlk m c b h) (vBlk m c b h) (cBlk m c b h)

/-- The proof data: input windows keep their blocks, the output's block is left at `resBlk`, and between the points of one
    batch and head the scratch holds the next query block's scores against the first keys. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resBlk m c (bOf t) (hOf t) (qOf t)
  Φ k := iprop((∃ f : Buf (Elt F) ((c : Thread nD τ).loc cc0_scratch0), (((c : Thread nD τ).loc cc0_scratch0) ↦{fullShare} f)
      ∗ ⌜k.val % 8 ≠ 0 → (Memref.whole cc0_scratch0).view.read (Elt F) f = firstScore m c (k.val / 48) (k.val / 8 % 6) (k.val % 8)⌝)
    ∗ ∃ r, prngReg c r)
  q w := Pipeline.shareOf spec0 w
  owed _ := 0

/-- The invariant between points, written out. -/
theorem Phi_eq (c : Dev nD) (k : Fin (cfg0.N + 1)) : (dats m 0 c).Φ k = iprop((∃ f : Buf (Elt F) ((c : Thread nD τ).loc cc0_scratch0), (((c : Thread nD τ).loc cc0_scratch0) ↦{fullShare} f)
      ∗ ⌜k.val % 8 ≠ 0 → (Memref.whole cc0_scratch0).view.read (Elt F) f = firstScore m c (k.val / 48) (k.val / 8 % 6) (k.val % 8)⌝)
    ∗ ∃ r, prngReg c r) := rfl

/-- The kernel's variants: none. -/
abbrev 𝒱₀ : Variants := Variants.none

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d
theorem before_4 (c : Dev nD) (t : Fin cfg0.N) (d) : (dats m 0 c).before 4 t d = iblk m c 4 t := before0_4_of m _ rfl (fun _ => rfl) t d

theorem defs₀_row (t : Fin cfg0.N) : (defs₀ (F := F)) .tc cfg0.body (cfg0.bodyArgs t (cfg0.slots t)) = bodyAt0 t := by
  unfold defs₀; rw [Defs.onTc_tc]

/-- The body at a point, on the staging buffers and the scratch. -/
theorem sound_body (c : Dev nD) (t : Fin cfg0.N) (X5 : Vec F S1024x128 .bf16) (f9 : Buf (Elt F) ((c : Thread nD τ).loc cc0_scratch0))
    (h9 : t.val % 8 ≠ 0 → (Memref.whole cc0_scratch0).view.read (Elt F) f9 = firstScore m c (t.val / 48) (t.val / 8 % 6) (t.val % 8)) :
    (iprop(owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare X5
      ∗ (((c : Thread nD τ).loc cc0_scratch0) ↦{fullShare} f9)) : sProp 𝕄)
    ⊢ wp frame (wpE (defs₀ (F := F)) 𝒱₀ (c : Thread nD τ) none) Set.univ (bodyAt0 (F := F) t)
        (fun _ => iprop(owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (iblk m c 4 t)
          ∗ owns (c : Thread nD τ) (st0_5 t) fullShare (resBlk m c (bOf t) (hOf t) (qOf t))
          ∗ ∃ f : Buf (Elt F) ((c : Thread nD τ).loc cc0_scratch0), (((c : Thread nD τ).loc cc0_scratch0) ↦{fullShare} f)
            ∗ ⌜(t.val + 1) % 8 ≠ 0 → (Memref.whole cc0_scratch0).view.read (Elt F) f = firstScore m c ((t.val + 1) / 48) ((t.val + 1) / 8 % 6) ((t.val + 1) % 8)⌝)) := by
  have hq : (grid0.coords t 2).val = t.val % 8 := coord2 t
  unfold owns
  iintro ⟨⟨%f0, %e0, H0⟩, ⟨%f1, %e1, H1⟩, ⟨%f2, %e2, H2⟩, ⟨%f3, %e3, H3⟩, ⟨%f4, %e4, H4⟩, ⟨%f5, %e5, H5⟩, H9⟩
  iapply (wp_wand_r Idealize.ShloMosaic.frame (wpE (defs₀ (F := F)) 𝒱₀ (c : Thread nD τ) none) Set.univ)
  isplitl [H0 H1 H2 H3 H4 H5 H9]
  · iapply (run_point (F := F) 𝒱₀ c none (grid0.coords t) (st0_0 t) _ (st0_1 t) _ (st0_2 t) _ (st0_3 t) _ (st0_4 t) _ (st0_5 t) _ (Memref.whole cc0_scratch0) _ f0 f1 f2 f3 f4 f5 f9 Set.univ (by
      intro hne
      rw [hq] at hne ⊢
      rw [h9 hne, e0, e2, e4, iblk_0, iblk_2, iblk_4]; rfl))
    isplitl [H0]; · iexact H0
    isplitl [H1]; · iexact H1
    isplitl [H2]; · iexact H2
    isplitl [H3]; · iexact H3
    isplitl [H4]; · iexact H4
    isplitl [H5]; · iexact H5
    · rw [View.set_whole]; iexact H9
  · iintro %_ ⟨H0, H1, H2, H3, H4, ⟨%g5, H5, %e5'⟩, ⟨%g9, H9, %e9'⟩⟩
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]
    · iexists g5
      isplitr
      · ipureintro
        rw [e5', e0, e2, e3, e4, iblk_0, iblk_2, iblk_3, iblk_4, hq]; rfl
      iexact H5
    · iexists g9
      isplitl [H9]
      · rw [View.set_whole]; iexact H9
      · ipureintro
        intro hne
        rw [e9', e1, e2, e4, iblk_1, iblk_2, iblk_4, hq]
        have hb : (t.val + 1) / 48 = t.val / 48 := by omega
        have hh : (t.val + 1) / 8 % 6 = t.val / 8 % 6 := by omega
        have hn : (t.val + 1) % 8 = min (t.val % 8 + 1) 7 := by omega
        rw [hb, hh, hn]; rfl

/-- The library's body obligation. -/
theorem body_obligation (c : Dev nD) : BodyObligationLoose (dats m 0 c) (defs₀ (F := F)) 𝒱₀ () Set.univ := fun t => by
  rw [bigSep_W0, bigSep_W0, defs₀_row]
  simp only
  rw [Phi_eq, Phi_eq, show (dats m 0 c).owesAt () t.succ = (dats m 0 c).owesAt () t.castSucc from rfl]
  iintro ⟨⟨⟨%f9, H9, %h9⟩, Hp⟩, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (wp_wand_r Idealize.ShloMosaic.frame (wpE (defs₀ (F := F)) 𝒱₀ (c : Thread nD τ) none) Set.univ)
  isplitl [H0 H1 H2 H3 H4 H5 H9]
  · iapply (sound_body (F := F) m c t ((dats m 0 c).before 5 t d5) f9 h9)
    iframe
  · iintro %_ ⟨H0, H1, H2, H3, H4, H5, H9⟩
    isplitl [H9 Hp]
    · isplitl [H9]
      · iexact H9
      · iexact Hp
    isplitl [Ho]; · iexact Ho
    isplitl [H0]; · iexact H0
    isplitl [H1]; · iexact H1
    isplitl [H2]; · iexact H2
    isplitl [H3]; · iexact H3
    isplitl [H4]; · iexact H4
    iexact H5

/-- Every run of the kernel's program from any memory ends, with its arrays at the contents the proof data computes and
    every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ 𝒱₀ m ρ main
    (hbody := body_obligation m)
    (hq := fun _ _ _ => rfl) (howed := fun _ _ => rfl) (V := V m) (hmain := hmain m 𝒱₀) (hA := fun _ _ => rfl)
    (hin := fun c => by
      unfold Pipeline.ΦA
      rw [scopedRest0_eq, Phi_eq]
      iintro ⟨⟨%f, H⟩, Hp⟩
      isplitl [H]
      · iexists f
        isplitl [H]; · iexact H
        ipureintro; intro h; exact absurd rfl h
      · iexact Hp)
    (hout := fun c => by
      unfold Pipeline.ΦA
      rw [scopedRest0_eq, Phi_eq]
      iintro ⟨⟨%f, H, %_h⟩, Hp⟩
      isplitl [H]
      · iexists f
        iexact H
      · iexact Hp)
    (Q' := fun r => Pipeline.FramePost cfgs (dats m) 0 (V m) r ∧ r.2.sem = fun _ => 0)
    (hQ' := fun _ h => h)

end Cert.Proof.Fox
end
-- ==== Proof.FrameIdeal.lean ====
module

public import proofs.«01_k».proof.Proof.Body

@[expose] public section

set_option maxRecDepth 16384
set_option maxHeartbeats 4000000

noncomputable section

namespace Cert.Proof.Fox

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ) (ρ : Dev nD → PrngReg)

/-- Every run of the kernel's program ends with its result array as the proof data computes it, its arguments unchanged
    and every semaphore at zero. -/
theorem run_all : θ_run defs (onTc (τ := τ) (main (F := F))) ⟨m, fun _ => 0, ρ⟩ (fun r => (∀ c : Dev nD,
      r.2.mem ((c.tc : Thread nD τ).loc main_v12) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

/-- The frame, over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_all m ρ)

end Cert.Proof.Fox
end
-- ==== Proof.FrameBits.lean ====
module

public import proofs.«01_k».proof.Defs
public import proofs.«01_k».proof.Proof.Gen.Kernel
public import proofs.«01_k».proof.Proof.FrameIdeal

@[expose] public section

set_option maxRecDepth 16384
set_option maxHeartbeats 4000000

noncomputable section

namespace Cert.Proof.Fox

open Idealize.ShloMosaic Idealize.ShloMosaic.TcCoe
open Idealize.SL Idealize.SL.Sem

/-- The words' reading of the named constants: each its own word. -/
local instance bitsNamed : Named Bits where
  named _ _ {φ} bits := Scalar.ofBits φ bits

/-- Over words the two programs' kernels are one function of the point and the buffers. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l with
  | 0 => rfl

/-- Over words the two programs' body tables are one. -/
theorem defs_eq : Cert.Kernel.defs (F := Bits) = Cert.KernelIdeal.defs (F := Bits) :=
  congrArg (Pipeline.defs (Cert.KernelIdeal.pcfgs (F := Bits))) defs₀_eq

/-- The kernel's program over words runs, leaves its arguments as they were and every semaphore at zero. -/
theorem frame_kernel : Cert.quiescent_Kernel (hKernel := Cert.Kernel.Gen.facts) := by
  intro m ρ _
  rw [defs_eq]
  exact frame_any (F := Bits) m ρ

end Cert.Proof.Fox
end
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.Ref

open Idealize.ShloMosaic Idealize.ShloMosaic.TcCoe
open Idealize.SL Idealize.SL.Sem

/-- The reference runs, leaves its arguments as they were and every semaphore at zero: it declares none. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

end Cert.Proof.Ref
end
-- ==== Proof.Pre.lean ====
/- The precondition decoded: queries, keys and cumulative log gates are real numbers. -/
module

public import proofs.«01_k».proof.Pre_finite
public import Idealize.ShloMosaic.Lib.ReduceAll
public import Idealize.ShloMosaic.Lib.Pointwise

@[expose] public section

set_option maxRecDepth 16384

noncomputable section

namespace Cert.Proof.Pre

open Cert.Pre_finite Idealize.ShloMosaic

/-- The shape facts the precondition's operations take. -/
theorem facts : Cert.Pre_finite.Facts where
  bcast_S_S4x8192x768 := by decide
  reducesTo_S4x8192x768_S_d0_1_2 := by decide
  h_S_ := by decide
  bcast_S_S4x8192x6 := by decide
  reducesTo_S4x8192x6_S_d0_1_2 := by decide

/-- An extended real whose absolute value is below infinity is a real. -/
theorem real_of_abs (x : EReal) (h : Ideal.cmp .olt (max x (-x)) (Ideal.ofBits .f32 0x7F800000#32) = 1#1) : ∃ a : ℝ, x = (a : EReal) := by
  have e : Ideal.ofBits .f32 0x7F800000#32 = ⊤ := by simp [Ideal.ofBits, Ideal.ieee]
  rw [e] at h
  induction x with
  | bot => simp [Ideal.cmp] at h
  | top => simp [Ideal.cmp] at h
  | coe a => exact ⟨a, rfl⟩

instance : Subsingleton S_.Idx := ⟨fun a b => funext fun i => i.elim0⟩

/-- Under the precondition every query, key and gate is real. -/
theorem finite [Cert.Pre_finite.Facts] (q k v : FVec Ideal S4x8192x768 .f32) (g : FVec Ideal S4x8192x6 .f32) (h : Cert.Pre_finite.fn (F := Ideal) q k v g = fun _ => 1#1) :
    (∃ f : S4x8192x768.Idx → ℝ, ∀ i, q i = (f i : EReal)) ∧ (∃ f : S4x8192x768.Idx → ℝ, ∀ i, k i = (f i : EReal))
      ∧ ∃ f : S4x8192x6.Idx → ℝ, ∀ i, g i = (f i : EReal) := by
  have h0 := congrFun h (fun i => i.elim0)
  dsimp only [Cert.Pre_finite.fn] at h0
  obtain ⟨h12, h3⟩ := IntOp.andi_eq_one.mp h0
  obtain ⟨h1, h2⟩ := IntOp.andi_eq_one.mp h12
  refine ⟨?_, ?_, ?_⟩
  · exact Classical.axiom_of_choice fun i => real_of_abs _ (Host.reduce_andi_all _ _ _ _ _ h1 i)
  · exact Classical.axiom_of_choice fun i => real_of_abs _ (Host.reduce_andi_all _ _ _ _ _ h2 i)
  · exact Classical.axiom_of_choice fun i => real_of_abs _ (Host.reduce_andi_all _ _ _ _ _ h3 i)

end Cert.Proof.Pre
end
-- ==== Proof.Eval.lean ====
module

public import proofs.«01_k».proof.Proof.Body
public import Idealize.ShloMosaic.Lib.Pointwise
public import Idealize.ShloMosaic.Lib.WordCmp

@[expose] public section

set_option maxRecDepth 16384
set_option maxHeartbeats 1000000

noncomputable section

namespace Cert.Proof.Fox

open Cert.KernelIdeal Cert.KernelIdeal.Gen
open Idealize.ShloMosaic Idealize.ShloMosaic.TcCoe

/-- A score of the kernel: the product of a row of queries and a row of keys, and the difference of their gates. -/
theorem pay15_apply (v5 : FVec Ideal S1x1 .f32) (v7 : FVec Ideal S1024x128 .bf16) (C : Vec Ideal S1x1x512 .f32) (K : Vec Ideal S512x128 .bf16)
    (r : Fin 1024) (s : Fin 512) :
    k0_pay15 v5 v7 C K (ix2 r s) = ∑ x : Fin 128, v7 (ix2 r x) * K (ix2 s x) + (v5 (ix2 0 0) - C (ix3 0 0 s)) := by
  pointwise [k0_pay15]

/-- The same for the lower 512 rows of the block. -/
theorem pay139_apply (v5 : FVec Ideal S1x1 .f32) (v7 : FVec Ideal S1024x128 .bf16) (C : Vec Ideal S1x1x512 .f32) (K : Vec Ideal S512x128 .bf16)
    (r : Fin 512) (s : Fin 512) :
    k0_pay139 v5 v7 C K (ix2 r s)
      = ∑ x : Fin 128, v7 (ix2 (⟨512 + r.val, by omega⟩ : Fin 1024) x) * K (ix2 s x) + (v5 (ix2 0 0) - C (ix3 0 0 s)) := by
  pointwise [k0_pay139]

/-- The word of minus infinity. -/
theorem ofBits_ninf : Ideal.ofBits .f32 0xFF800000#32 = ⊥ := by simp [Ideal.ofBits, Ideal.ieee]

/-- The running maximum after a block of scores. -/
theorem pay16_apply (m : FVec Ideal S1024x1 .f32) (sc : FVec Ideal S1024x512 .f32) (r : Fin 1024) :
    k0_pay16 m sc (ix2 r 0) = max (m (ix2 r 0)) (Finset.fold max ⊥ (fun x : Fin 512 => sc (ix2 r x)) Finset.univ) := by
  pointwise [k0_pay16]
  rw [ofBits_ninf]

/-- The values of a block of keys and, beside them, ones. -/
def beside (w : Vec Ideal S512x128 .bf16) (j : Fin 256) (x : Fin 512) : EReal :=
  if h : j.val < 128 then w (ix2 x ⟨j.val, h⟩) else 1

theorem p153 (r : Fin 512) (j : Fin 128) : (k0_pay153 : FVec Ideal S512x128 .bf16) (ix2 r j) = 1 := by
  pointwise [k0_pay153]

theorem beside_eq (w : Vec Ideal S512x128 .bf16) (j : Fin 256) (x : Fin 512) (h' : ¬ j.val < 128 → j.val - 128 < 128) :
    (if h : j.val < 128 then w (ix2 x ⟨j.val, h⟩) else (k0_pay153 : FVec Ideal S512x128 .bf16) (ix2 x ⟨j.val - 128, h' h⟩)) = beside w j x := by
  unfold beside
  split
  · rfl
  · exact p153 _ _

/-- The accumulated sums after a block of scores. -/
theorem pay17_apply (m : FVec Ideal S1024x1 .f32) (a : FVec Ideal S1024x256 .f32) (sc : FVec Ideal S1024x512 .f32) (w : Vec Ideal S512x128 .bf16)
    (r : Fin 1024) (j : Fin 256) :
    k0_pay17 k0_pay153 m a sc w (ix2 r j) = Ideal.exp2 (m (ix2 r 0) - k0_pay16 m sc (ix2 r 0)) * a (ix2 r j)
      + ∑ x : Fin 512, Ideal.exp2 (sc (ix2 r x) - k0_pay16 m sc (ix2 r 0)) * beside w j x := by
  simp only [← beside_eq w j _ (fun _ => by omega)]
  pointwise [k0_pay17]
  rfl

/-- The block of the lower 512 rows leaves the upper rows alone. -/
theorem half_upper (acc : FVec Ideal S1024x1 .f32 × FVec Ideal S1024x256 .f32) (sc : FVec Ideal S512x512 .f32) (w : Vec Ideal S512x128 .bf16)
    (r : Fin 1024) (j : Fin 256) (hr : r.val < 512) : half k0_pay153 acc sc w (ix2 r j) = acc.2 (ix2 r j) := by
  pointwise [half, k0_pay12, k0_pay144, k0_pay145, k0_pay150]
  rw [dif_pos hr]

/-- The maximum the lower 512 rows' block takes. -/
def maxLow (acc : FVec Ideal S1024x1 .f32 × FVec Ideal S1024x256 .f32) (sc : FVec Ideal S512x512 .f32) (r : Fin 512) : EReal :=
  max (acc.1 (ix2 (⟨512 + r.val, by omega⟩ : Fin 1024) 0)) (Finset.fold max ⊥ (fun x : Fin 512 => sc (ix2 r x)) Finset.univ)

/-- The block of the lower 512 rows, on those rows. -/
theorem half_lower (acc : FVec Ideal S1024x1 .f32 × FVec Ideal S1024x256 .f32) (sc : FVec Ideal S512x512 .f32) (w : Vec Ideal S512x128 .bf16)
    (r : Fin 512) (j : Fin 256) : half k0_pay153 acc sc w (ix2 (⟨512 + r.val, by omega⟩ : Fin 1024) j)
      = Ideal.exp2 (acc.1 (ix2 (⟨512 + r.val, by omega⟩ : Fin 1024) 0) - maxLow acc sc r) * acc.2 (ix2 (⟨512 + r.val, by omega⟩ : Fin 1024) j)
        + ∑ x : Fin 512, Ideal.exp2 (sc (ix2 r x) - maxLow acc sc r) * beside w j x := by
  simp only [← beside_eq w j _ (fun _ => by omega), maxLow, ← ofBits_ninf]
  pointwise [half, k0_pay12, k0_pay144, k0_pay145, k0_pay150]
  rfl

/-- The quotient of the sums. -/
theorem pay14_apply (a : FVec Ideal S1024x256 .f32) (r : Fin 1024) (j : Fin 128) :
    k0_pay14 a (ix2 r j) = Ideal.div (a (ix2 r (⟨j.val, by omega⟩ : Fin 256))) (a (ix2 r (⟨128 + j.val, by omega⟩ : Fin 256))) := by
  pointwise [k0_pay14]

/-- A select by the order of two small words is one by the order of the numbers. -/
theorem select_sle {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  unfold Scalar.select
  have h := WordCmp.cmpi_sle_ofNat_eq_one_iff (w := 32) ha hb
  by_cases hab : a ≤ b
  · rw [if_pos hab]; exact if_pos (h.mpr hab)
  · rw [if_neg hab]; exact if_neg fun e => hab (h.mp e)

/-- The named mask is minus infinity. -/
theorem mask_bot : (Named.named κ "mask" 0xF149F2CA#32 : Ideal .f32) = ⊥ :=
  (IdealRules.named_const.statement Cert.KernelIdeal.κ "mask" .f32 0xF149F2CA#32 ⊥ rfl).2.2

/-- The masked block of scores. -/
theorem mask1024_apply (p : ℕ) (hp : p < 2 ^ 30) (sc : FVec Ideal S1024x512 .f32) (r : Fin 1024) (s : Fin 512) :
    mask1024 (BitVec.ofNat 32 p) (BitVec.ofNat 32 p) sc (ix2 r s) = if p + s.val ≤ p + r.val then sc (ix2 r s) else ⊥ := by
  pointwise [mask1024]
  rw [mask_bot]
  unfold IntOp.addi
  rw [← BitVec.ofNat_add, ← BitVec.ofNat_add, select_sle _ _ (by omega) (by omega), Nat.add_comm s.val, Nat.add_comm r.val]

/-- The masked block of the lower rows' scores. -/
theorem mask512_apply (p : ℕ) (hp : p < 2 ^ 30) (sc : FVec Ideal S512x512 .f32) (r : Fin 512) (s : Fin 512) :
    mask512 (BitVec.ofNat 32 p) (BitVec.ofNat 32 p) sc (ix2 r s) = if p + s.val ≤ p + r.val then sc (ix2 r s) else ⊥ := by
  pointwise [mask512]
  rw [mask_bot]
  unfold IntOp.addi
  rw [← BitVec.ofNat_add, ← BitVec.ofNat_add, select_sle _ _ (by omega) (by omega), Nat.add_comm s.val, Nat.add_comm r.val]

theorem c0Blk_apply (m : (ℓ : Loc nD τ sig) → Buf (Elt Ideal) ℓ) (c : Dev nD) (b h n : ℕ) :
    c0Blk m c b h n (ix2 0 0) = c3At m c (6 * b + h) (1024 * n % 8192) := by
  pointwise [c0Blk, k0_pay151, entsAtQ, cBlk]

theorem v7Blk_apply (m : (ℓ : Loc nD τ sig) → Buf (Elt Ideal) ℓ) (c : Dev nD) (b h n : ℕ) (r : Fin 1024) (j : Fin 128) :
    v7Blk m c b h n (ix2 r j) = hqAt m c (8192 * b + 1024 * n + r.val) (128 * h + j.val) := by
  pointwise [v7Blk, k0_pay152, qBlk]

theorem p155 (r : Fin 1024) : (k0_pay155 : FVec Ideal S1024x1 .f32) (ix2 r 0) = ⊥ := by
  pointwise [k0_pay155]
  exact mask_bot

theorem p156 (r : Fin 1024) (j : Fin 256) : (k0_pay156 : FVec Ideal S1024x256 .f32) (ix2 r j) = 0 := by
  pointwise [k0_pay156]

end Cert.Proof.Fox
end
-- ==== Proof.Softmax.lean ====
module

public import Idealize.ShloMosaic.Lib.IdealHost

@[expose] public section

noncomputable section

namespace Cert.Proof.Soft

open Idealize.ShloMosaic

/-- A power of two of a number at most a finite one is not `⊤`. -/
theorem exp2_ne_top {m m' : EReal} (h2 : m ≤ m') (h3 : m' ≠ ⊤) : Ideal.exp2 (m - m') ≠ ⊤ := by
  induction m' with
  | bot => rw [le_bot_iff.mp h2, EReal.bot_sub, Ideal.exp2_bot]; exact EReal.zero_ne_top
  | top => exact absurd rfl h3
  | coe r' => induction m with
    | bot => rw [EReal.bot_sub, Ideal.exp2_bot]; exact EReal.zero_ne_top
    | top => exact absurd (top_le_iff.mp h2) (EReal.coe_ne_top r')
    | coe r => rw [← EReal.coe_sub, Ideal.exp2_coe]; exact EReal.coe_ne_top _

/-- A power of two is not negative. -/
theorem exp2_nonneg (x : EReal) : 0 ≤ Ideal.exp2 x := by
  induction x with
  | bot => rw [Ideal.exp2_bot]
  | top => rw [Ideal.exp2_top]; exact le_top
  | coe r => rw [Ideal.exp2_coe]; exact EReal.coe_nonneg.mpr (Real.rpow_nonneg (by norm_num) r)

/-- Rescaling: a weight relative to an older maximum, times the correction, is the weight relative to the newer one. -/
theorem exp2_mul {s m m' : EReal} (h1 : s ≤ m) (h2 : m ≤ m') (h3 : m' ≠ ⊤) :
    Ideal.exp2 (m - m') * Ideal.exp2 (s - m) = Ideal.exp2 (s - m') := by
  induction s with
  | bot => rw [EReal.bot_sub, EReal.bot_sub, Ideal.exp2_bot, mul_zero]
  | top => exact absurd (top_le_iff.mp (h1.trans h2)) h3
  | coe r => induction m with
    | bot => exact absurd (le_bot_iff.mp h1) (EReal.coe_ne_bot r)
    | top => exact absurd (top_le_iff.mp h2) h3
    | coe u => induction m' with
      | bot => exact absurd (le_bot_iff.mp h2) (EReal.coe_ne_bot u)
      | top => exact absurd rfl h3
      | coe w =>
        rw [← EReal.coe_sub, ← EReal.coe_sub, ← EReal.coe_sub, Ideal.exp2_coe, Ideal.exp2_coe, Ideal.exp2_coe, ← EReal.coe_mul]
        congr 1
        show (2 : ℝ) ^ (u - w) * (2 : ℝ) ^ (r - u) = (2 : ℝ) ^ (r - w)
        rw [← Real.rpow_add (by norm_num)]
        congr 1; ring

/-- A factor that is neither negative nor `⊤` goes through a finite sum. -/
theorem mul_sum' {ι : Type*} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- What the online softmax holds after the keys below `N`: the largest score, and the weighted sum of the values. -/
def Inv (S v : ℕ → EReal) (N : ℕ) (m a : EReal) : Prop :=
  m = (Finset.range N).sup S ∧ a = ∑ s ∈ Finset.range N, Ideal.exp2 (S s - m) * v s

/-- Before any key: no score, no sum. -/
theorem inv_zero (S v : ℕ → EReal) : Inv S v 0 ⊥ 0 := ⟨by simp, by simp⟩

theorem sup_ne_top {S : ℕ → EReal} (hS : ∀ s, S s ≠ ⊤) (N : ℕ) : (Finset.range N).sup S ≠ ⊤ := by
  refine ne_of_lt ((Finset.sup_lt_iff (bot_lt_top : (⊥ : EReal) < ⊤)).mpr fun s _ => lt_top_iff_ne_top.mpr (hS s))

/-- The largest of a range and of the block after it. -/
theorem sup_add (S : ℕ → EReal) (N B : ℕ) (x : Fin B → EReal) (hx : ∀ i : Fin B, x i = S (N + i.val)) :
    (Finset.range (N + B)).sup S = max ((Finset.range N).sup S) (Finset.fold max ⊥ x Finset.univ) := by
  have e : Finset.fold max ⊥ x Finset.univ = Finset.univ.sup x := rfl
  rw [e]
  apply le_antisymm
  · refine Finset.sup_le fun s hs => ?_
    rcases lt_or_ge s N with h | h
    · exact le_max_of_le_left (Finset.le_sup (f := S) (Finset.mem_range.mpr h))
    · have hs' := Finset.mem_range.mp hs
      have : S s = x ⟨s - N, by omega⟩ := by rw [hx]; congr 1; simp only []; omega
      rw [this]
      exact le_max_of_le_right (Finset.le_sup (f := x) (Finset.mem_univ _))
  · refine max_le (Finset.sup_mono fun s hs => Finset.mem_range.mpr (by have := Finset.mem_range.mp hs; omega)) (Finset.sup_le fun i _ => ?_)
    rw [hx]
    exact Finset.le_sup (f := S) (Finset.mem_range.mpr (by have := i.isLt; omega))

/-- One block of the online softmax. -/
theorem inv_step {S v : ℕ → EReal} (hS : ∀ s, S s ≠ ⊤) {N : ℕ} {m a : EReal} (h : Inv S v N m a) {B : ℕ} (x y : Fin B → EReal)
    (hx : ∀ i : Fin B, x i = S (N + i.val)) (hy : ∀ i : Fin B, y i = v (N + i.val)) {m' a' : EReal}
    (hm : m' = max m (Finset.fold max ⊥ x Finset.univ))
    (ha : a' = Ideal.exp2 (m - m') * a + ∑ i : Fin B, Ideal.exp2 (x i - m') * y i) : Inv S v (N + B) m' a' := by
  obtain ⟨h1, h2⟩ := h
  have hm' : m' = (Finset.range (N + B)).sup S := by rw [sup_add S N B x hx, hm, h1]
  have hle : m ≤ m' := by rw [hm]; exact le_max_left _ _
  have hnt : m' ≠ ⊤ := by rw [hm']; exact sup_ne_top hS _
  refine ⟨hm', ?_⟩
  rw [Finset.sum_range_add, ha]
  congr 1
  · rw [h2, mul_sum' _ _ (exp2_nonneg _) (exp2_ne_top hle hnt)]
    refine Finset.sum_congr rfl fun s hs => ?_
    rw [← mul_assoc, exp2_mul _ hle hnt]
    rw [h1]; exact Finset.le_sup (f := S) hs
  · rw [Finset.sum_range]
    exact Finset.sum_congr rfl fun i _ => by rw [hx, hy]

/-- Keys without a score add nothing. -/
theorem inv_ext {S v : ℕ → EReal} {N N' : ℕ} {m a : EReal} (h : Inv S v N m a) (hN : N ≤ N')
    (hb : ∀ s, N ≤ s → s < N' → S s = ⊥) : Inv S v N' m a := by
  obtain ⟨h1, h2⟩ := h
  have hs : (Finset.range N').sup S = (Finset.range N).sup S := by
    apply le_antisymm
    · refine Finset.sup_le fun s hs => ?_
      rcases lt_or_ge s N with h | h
      · exact Finset.le_sup (f := S) (Finset.mem_range.mpr h)
      · rw [hb s h (Finset.mem_range.mp hs)]; exact bot_le
    · exact Finset.sup_mono fun s hs => Finset.mem_range.mpr (by have := Finset.mem_range.mp hs; omega)
  refine ⟨h1.trans hs.symm, ?_⟩
  rw [h2]
  refine Finset.sum_subset (fun s hs => Finset.mem_range.mpr (by have := Finset.mem_range.mp hs; omega)) fun s hs hn => ?_
  rw [hb s (by simpa using hn) (Finset.mem_range.mp hs), EReal.bot_sub, Ideal.exp2_bot, zero_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's quotient of the two sums is the reference's sum of quotients: `r` the reference's scores of a row, `t` the
    row, the kernel's scores those times `α` (one over log 2), shifted by `β`. -/
theorem final (r : ℕ → ℝ) (t N : ℕ) (ht : t < N) (α β : ℝ) (hα : 0 < α) (h2 : α * Real.log 2 = 1)
    (S S' v : ℕ → EReal) (hS : ∀ s, S s = if s ≤ t then ((α * r s + β : ℝ) : EReal) else ⊥)
    (hS' : ∀ s, S' s = if s ≤ t then ((r s : ℝ) : EReal) else ⊥)
    {M A L M' : EReal} (hA : Inv S v N M A) (hL : Inv S (fun _ => 1) N M L)
    (hM' : M' = Finset.fold max ⊥ (fun s : Fin N => S' s.val) Finset.univ) :
    Ideal.div A L = ∑ s : Fin N, Ideal.div (Ideal.exp (S' s.val - M')) (∑ s : Fin N, Ideal.exp (S' s.val - M')) * v s.val := by
  obtain ⟨s0, hs0, hmax⟩ := Finset.exists_max_image (Finset.range (t + 1)) r ⟨0, by simp⟩
  have hs0t : s0 ≤ t := by have := Finset.mem_range.mp hs0; omega
  have hle : ∀ s, s ≤ t → r s ≤ r s0 := fun s hs => hmax s (Finset.mem_range.mpr (by omega))
  have eM' : M' = (r s0 : EReal) := by
    rw [hM']
    show Finset.univ.sup (fun s : Fin N => S' s.val) = _
    apply le_antisymm
    · refine Finset.sup_le fun s _ => ?_
      rw [hS']
      split
      · exact EReal.coe_le_coe_iff.mpr (hle _ (by assumption))
      · exact bot_le
    · have := Finset.le_sup (f := fun s : Fin N => S' s.val) (Finset.mem_univ (⟨s0, by omega⟩ : Fin N))
      simpa [hS', hs0t] using this
  have eM : M = ((α * r s0 + β : ℝ) : EReal) := by
    rw [hA.1]
    apply le_antisymm
    · refine Finset.sup_le fun s _ => ?_
      rw [hS]
      split
      · refine EReal.coe_le_coe_iff.mpr ?_
        have := mul_le_mul_of_nonneg_left (hle s (by assumption)) hα.le
        linarith
      · exact bot_le
    · have := Finset.le_sup (f := S) (Finset.mem_range.mpr (by omega : s0 < N))
      rw [hS, if_pos hs0t] at this
      exact this
  let p : ℕ → ℝ := fun s => if s ≤ t then Real.exp (r s - r s0) else 0
  have hp : ∀ s, 0 ≤ p s := fun s => by
    show 0 ≤ (if s ≤ t then Real.exp (r s - r s0) else 0)
    split
    · exact (Real.exp_pos _).le
    · exact le_refl _
  have eS : ∀ s, Ideal.exp2 (S s - M) = (p s : EReal) := fun s => by
    rw [hS, eM]
    show _ = ((if s ≤ t then Real.exp (r s - r s0) else 0 : ℝ) : EReal)
    split
    · rw [← EReal.coe_sub, Ideal.exp2_coe]
      congr 1
      show (2 : ℝ) ^ (α * r s + β - (α * r s0 + β)) = Real.exp (r s - r s0)
      rw [Real.rpow_def_of_pos (by norm_num)]
      congr 1
      linear_combination (r s - r s0) * h2
    · rw [EReal.bot_sub, Ideal.exp2_bot, EReal.coe_zero]
  have eS' : ∀ s, Ideal.exp (S' s - M') = (p s : EReal) := fun s => by
    rw [hS', eM']
    show _ = ((if s ≤ t then Real.exp (r s - r s0) else 0 : ℝ) : EReal)
    split
    · rw [← EReal.coe_sub, Ideal.exp_coe]
    · rw [EReal.bot_sub, Ideal.exp_bot, EReal.coe_zero]
  let l : ℝ := ∑ s ∈ Finset.range N, p s
  have hl : 0 < l := by
    refine Finset.sum_pos' (fun s _ => hp s) ⟨s0, Finset.mem_range.mpr (by omega), ?_⟩
    show 0 < (if s0 ≤ t then Real.exp (r s0 - r s0) else 0)
    rw [if_pos hs0t]; exact Real.exp_pos _
  have eL : L = (l : EReal) := by
    rw [hL.2]
    show _ = ((∑ s ∈ Finset.range N, p s : ℝ) : EReal)
    rw [coe_sum]
    exact Finset.sum_congr rfl fun s _ => by rw [eS, mul_one]
  have eL' : (∑ s : Fin N, Ideal.exp (S' s.val - M')) = (l : EReal) := by
    show _ = ((∑ s ∈ Finset.range N, p s : ℝ) : EReal)
    rw [coe_sum, Finset.sum_range]
    exact Finset.sum_congr rfl fun s _ => eS' _
  have hdiv : ∀ x : EReal, Ideal.div x (l : EReal) = ((l⁻¹ : ℝ) : EReal) * x := fun x => by
    unfold Ideal.div
    rw [if_neg (by simpa using hl.ne'), mul_comm, EReal.coe_inv]
  rw [eL', eL, hdiv, hA.2, mul_sum' _ _ (EReal.coe_nonneg.mpr (inv_nonneg.mpr hl.le)) (EReal.coe_ne_top _), Finset.sum_range]
  refine Finset.sum_congr rfl fun s _ => ?_
  rw [hdiv, eS, eS', mul_assoc]

end Cert.Proof.Soft
end
-- ==== Proof.Rows.lean ====
module

public import proofs.«01_k».proof.Proof.Eval
public import proofs.«01_k».proof.Proof.Softmax
public import Idealize.ShloMosaic.Lib.Pointwise
public import Idealize.ShloMosaic.Lib.WordCmp

@[expose] public section

set_option maxRecDepth 16384
set_option maxHeartbeats 1000000

noncomputable section

namespace Cert.Proof.Fox

open Cert.KernelIdeal Cert.KernelIdeal.Gen
open Idealize.ShloMosaic Idealize.ShloMosaic.TcCoe

open Cert.Proof.Soft (Inv)

section
variable (v5 : FVec Ideal S1x1 .f32) (v7 : FVec Ideal S1024x128 .bf16) (K W : Vec Ideal S8192x128 .bf16) (C : Vec Ideal S1x1x8192 .f32)

/-- The score of row `r` against key `s`. -/
def sco (r : Fin 1024) (s : ℕ) : EReal :=
  ∑ x : Fin 128, v7 (ix2 r x) * K (ix2 (⟨s % 8192, Nat.mod_lt _ (by decide)⟩ : Fin 8192) x)
    + (v5 (ix2 0 0) - C (ix3 0 0 (⟨s % 8192, Nat.mod_lt _ (by decide)⟩ : Fin 8192)))

/-- The value of key `s` in column `j`, ones from column 128 on. -/
def val (j : Fin 256) (s : ℕ) : EReal :=
  if h : j.val < 128 then W (ix2 (⟨s % 8192, Nat.mod_lt _ (by decide)⟩ : Fin 8192) ⟨j.val, h⟩) else 1

theorem rowsAt_ix (s : ℕ) (i : Fin 512) (x : Fin 128) :
    rowsAt K s (ix2 i x) = K (ix2 (⟨(s + i.val) % 8192, Nat.mod_lt _ (by decide)⟩ : Fin 8192) x) := by
  unfold rowsAt
  refine congrArg K (funext fun a => ?_)
  match a with
  | ⟨0, _⟩ => rfl
  | ⟨1, _⟩ => rfl

theorem entsAt_ix (s : ℕ) (i : Fin 512) :
    entsAt C s (ix3 0 0 i) = C (ix3 0 0 (⟨(s + i.val) % 8192, Nat.mod_lt _ (by decide)⟩ : Fin 8192)) := by
  unfold entsAt
  refine congrArg C (funext fun a => ?_)
  match a with
  | ⟨0, _⟩ => rfl
  | ⟨1, _⟩ => rfl
  | ⟨2, _⟩ => rfl

theorem score_ix (p : ℕ) (r : Fin 1024) (i : Fin 512) : score v5 v7 K C p (ix2 r i) = sco v5 v7 K C r (p + i.val) := by
  unfold score sco
  rw [pay15_apply, entsAt_ix]
  simp only [rowsAt_ix]

theorem scoreLow_ix (p : ℕ) (r : Fin 512) (i : Fin 512) :
    k0_pay139 v5 v7 (entsAt C p) (rowsAt K p) (ix2 r i) = sco v5 v7 K C (⟨512 + r.val, by omega⟩ : Fin 1024) (p + i.val) := by
  unfold sco
  rw [pay139_apply, entsAt_ix]
  simp only [rowsAt_ix]

theorem beside_ix (p : ℕ) (j : Fin 256) (i : Fin 512) : beside (rowsAt W p) j i = val W j (p + i.val) := by
  unfold beside val
  split
  · exact rowsAt_ix _ _ _ _
  · rfl

theorem low_lt (q : Fin 512) : 512 + q.val < 1024 := by omega
/-- A row of the lower half is 512 and a row of a half. -/
theorem exists_low (r : Fin 1024) (hr : 512 ≤ r.val) : ∃ q : Fin 512, r = (⟨512 + q.val, low_lt q⟩ : Fin 1024) :=
  ⟨⟨r.val - 512, by omega⟩, Fin.ext (by show r.val = 512 + (r.val - 512); omega)⟩

/-- The score of row `r` of query block `n` where the key is not after the row, else nothing. -/
def msc (n : ℕ) (r : Fin 1024) (s : ℕ) : EReal := if s ≤ 1024 * n + r.val then sco v5 v7 K C r s else ⊥

variable {v5 v7 K C} (n : ℕ) (r : Fin 1024) (hS : ∀ s, msc v5 v7 K C n r s ≠ ⊤)

include hS in
/-- One step of the walk keeps the invariant. -/
theorem inv_of_step (j : Fin 256) (p : ℕ) (acc : FVec Ideal S1024x1 .f32 × FVec Ideal S1024x256 .f32) (sc : FVec Ideal S1024x512 .f32)
    (h : Inv (msc v5 v7 K C n r) (val W j) p (acc.1 (ix2 r 0)) (acc.2 (ix2 r j)))
    (hsc : ∀ i : Fin 512, sc (ix2 r i) = msc v5 v7 K C n r (p + i.val)) :
    Inv (msc v5 v7 K C n r) (val W j) (p + 512) ((step k0_pay153 acc sc (rowsAt W p)).1 (ix2 r 0)) ((step k0_pay153 acc sc (rowsAt W p)).2 (ix2 r j)) :=
  Soft.inv_step hS h (fun i : Fin 512 => sc (ix2 r i)) (fun i : Fin 512 => beside (rowsAt W p) j i) hsc (fun i => beside_ix W p j i)
    (pay16_apply acc.1 sc r) (pay17_apply acc.1 acc.2 sc (rowsAt W p) r j)

include hS in
/-- The walk over the blocks before the query block. -/
theorem inv_walk (j : Fin 256) : ∀ k : ℕ, k ≤ 2 * n →
    Inv (msc v5 v7 K C n r) (val W j) (512 * k)
      ((walk v5 v7 k0_pay153 K W C 0 (k0_pay155, k0_pay156) k).1 (ix2 r 0)) ((walk v5 v7 k0_pay153 K W C 0 (k0_pay155, k0_pay156) k).2 (ix2 r j))
  | 0, _ => by
    have h := Soft.inv_zero (msc v5 v7 K C n r) (val W j)
    rw [← p155 r, ← p156 r j] at h
    exact h
  | k + 1, hk => by
    have h := inv_of_step W n r hS j (512 * k) _ (score v5 v7 K C (512 * k)) (inv_walk j k (by omega)) fun i => by
      rw [score_ix]; unfold msc; rw [if_pos (by omega)]
    have e : walk v5 v7 k0_pay153 K W C 0 (k0_pay155, k0_pay156) (k + 1)
        = step k0_pay153 (walk v5 v7 k0_pay153 K W C 0 (k0_pay155, k0_pay156) k) (score v5 v7 K C (512 * k)) (rowsAt W (512 * k)) := by
      rw [walk, Nat.zero_add]
    rw [e, Nat.mul_succ]
    exact h

include hS in
/-- After the masked block. -/
theorem inv_diag (hn : n < 8) (j : Fin 256) : Inv (msc v5 v7 K C n r) (val W j) (1024 * n + 512)
    ((step k0_pay153 (walk v5 v7 k0_pay153 K W C 0 (k0_pay155, k0_pay156) (2 * n))
      (mask1024 (BitVec.ofNat 32 (1024 * n)) (BitVec.ofNat 32 (1024 * n)) (score v5 v7 K C (512 * (2 * n)))) (rowsAt W (512 * (2 * n)))).1 (ix2 r 0))
    ((step k0_pay153 (walk v5 v7 k0_pay153 K W C 0 (k0_pay155, k0_pay156) (2 * n))
      (mask1024 (BitVec.ofNat 32 (1024 * n)) (BitVec.ofNat 32 (1024 * n)) (score v5 v7 K C (512 * (2 * n)))) (rowsAt W (512 * (2 * n)))).2 (ix2 r j)) := by
  have e : 1024 * n = 512 * (2 * n) := by omega
  have h := inv_of_step W n r hS j (512 * (2 * n)) _ (mask1024 (BitVec.ofNat 32 (1024 * n)) (BitVec.ofNat 32 (1024 * n)) (score v5 v7 K C (512 * (2 * n))))
    (inv_walk W n r hS j (2 * n) (le_refl _)) fun i => by
      rw [mask1024_apply _ (by omega), score_ix]; unfold msc; rw [← e]
  rw [← e] at h ⊢
  exact h

include hS in
/-- A row of the query block: its entries before the division, and the maximum they are relative to. -/
theorem inv_out (hn : n < 8) : ∃ M : EReal, ∀ j : Fin 256, Inv (msc v5 v7 K C n r) (val W j) 8192 M
    (half k0_pay153
      (step k0_pay153 (walk v5 v7 k0_pay153 K W C 0 (k0_pay155, k0_pay156) (2 * n))
        (mask1024 (BitVec.ofNat 32 (1024 * n)) (BitVec.ofNat 32 (1024 * n)) (score v5 v7 K C (512 * (2 * n)))) (rowsAt W (512 * (2 * n))))
      (mask512 (BitVec.ofNat 32 (1024 * n + 512)) (BitVec.ofNat 32 (1024 * n + 512))
        (k0_pay139 v5 v7 (entsAt C (512 * (2 * n + 1))) (rowsAt K (512 * (2 * n + 1)))))
      (rowsAt W (512 * (2 * n + 1))) (ix2 r j)) := by
  have hd := inv_diag W n r hS hn
  generalize step k0_pay153 (walk v5 v7 k0_pay153 K W C 0 (k0_pay155, k0_pay156) (2 * n))
        (mask1024 (BitVec.ofNat 32 (1024 * n)) (BitVec.ofNat 32 (1024 * n)) (score v5 v7 K C (512 * (2 * n)))) (rowsAt W (512 * (2 * n))) = acc at hd ⊢
  rcases lt_or_ge r.val 512 with hr | hr
  · refine ⟨acc.1 (ix2 r 0), fun j => ?_⟩
    rw [half_upper _ _ _ r j hr]
    refine Soft.inv_ext (hd j) (by omega) fun s h1 h2 => ?_
    unfold msc; rw [if_neg (by omega)]
  · obtain ⟨q, rfl⟩ := exists_low r hr
    have e : 512 * (2 * n + 1) = 1024 * n + 512 := by omega
    rw [e]
    refine ⟨maxLow acc (mask512 (BitVec.ofNat 32 (1024 * n + 512)) (BitVec.ofNat 32 (1024 * n + 512))
      (k0_pay139 v5 v7 (entsAt C (1024 * n + 512)) (rowsAt K (1024 * n + 512)))) q, fun j => ?_⟩
    rw [half_lower]
    refine Soft.inv_ext (Soft.inv_step hS (hd j) (B := 512) _ (fun i : Fin 512 => beside (rowsAt W (1024 * n + 512)) j i) ?_
      (fun i => beside_ix W _ j i) rfl rfl) (by omega) fun s h1 h2 => ?_
    · intro i
      rw [mask512_apply _ (by omega), scoreLow_ix]; unfold msc
      have e' : 1024 * n + 512 + i.val ≤ 1024 * n + 512 + q.val ↔ 1024 * n + 512 + i.val ≤ 1024 * n + (512 + q.val) := by omega
      simp only [e']
    · unfold msc; rw [if_neg (by have := q.isLt; simp only []; omega)]

include hS in
/-- A row of the query block ends as the quotient of its two sums. -/
theorem out_row (hn : n < 8) (j : Fin 128) : ∃ M A L : EReal, outBlk n v5 v7 K W C (ix2 r j) = Ideal.div A L
    ∧ Inv (msc v5 v7 K C n r) (fun s => W (ix2 (⟨s % 8192, Nat.mod_lt _ (by decide)⟩ : Fin 8192) j)) 8192 M A
    ∧ Inv (msc v5 v7 K C n r) (fun _ => 1) 8192 M L := by
  obtain ⟨M, h⟩ := inv_out W n r hS hn
  refine ⟨M, _, _, pay14_apply _ r j, ?_, ?_⟩
  · have h1 := h (⟨j.val, by omega⟩ : Fin 256)
    have e : val W (⟨j.val, by omega⟩ : Fin 256) = fun s => W (ix2 (⟨s % 8192, Nat.mod_lt _ (by decide)⟩ : Fin 8192) j) := by
      funext s; unfold val; rw [dif_pos j.isLt]
    rw [e] at h1
    exact h1
  · have h1 := h (⟨128 + j.val, by omega⟩ : Fin 256)
    have e : val W (⟨128 + j.val, by omega⟩ : Fin 256) = fun _ => 1 := by
      funext s; unfold val; rw [dif_neg (by simp only []; omega)]
    rw [e] at h1
    exact h1

end

end Cert.Proof.Fox
end
-- ==== Proof.HostVal.lean ====
module

public import proofs.«01_k».proof.Proof.Blocks
public import Idealize.ShloMosaic.Lib.Pointwise
public import Idealize.ShloMosaic.Lib.StableHlo.ReadAt

@[expose] public section

set_option maxRecDepth 16384
set_option maxHeartbeats 1000000

noncomputable section

namespace Cert.Proof.Fox

open Cert.KernelIdeal Cert.KernelIdeal.Gen
open Idealize.ShloMosaic Idealize.ShloMosaic.TcCoe

variable (m : (ℓ : Loc nD τ sig) → Buf (Elt Ideal) ℓ)

/-- The arguments as arrays: queries, keys, values, cumulative log gates. -/
abbrev aQ (c : Dev nD) : FVec Ideal S4x8192x768 .f32 := m ((c.tc : Thread nD τ).loc main_arg0)
abbrev aK (c : Dev nD) : FVec Ideal S4x8192x768 .f32 := m ((c.tc : Thread nD τ).loc main_arg1)
abbrev aV (c : Dev nD) : FVec Ideal S4x8192x768 .f32 := m ((c.tc : Thread nD τ).loc main_arg2)
abbrev aC (c : Dev nD) : FVec Ideal S4x8192x6 .f32 := m ((c.tc : Thread nD τ).loc main_arg3)

/-- The scale the host gives the queries, as it computes it, and the one it gives the gates: one over log 2. -/
def lam : EReal := Ideal.div 1 (Ideal.log (Ideal.ofBits .f32 0x40000000#32))

/-- The joined array holds the scaled queries, -/
theorem v7_q (c : Dev nD) (r : Fin 32768) (j : Fin 2304) (h : j.val < 768) : (V m c main_v7 : Vec Ideal S32768x2304 .bf16) (ix2 r j)
    = aQ m c (ix3 ⟨r.val / 8192, by omega⟩ ⟨r.val % 8192, by omega⟩ ⟨j.val, h⟩) * (Ideal.ofBits .f32 0x3DB504F3#32 * lam) := by
  unfold V lam
  after_reads_at
  rw [dif_pos h]
  after_reads_at

/-- the keys, -/
theorem v7_k (c : Dev nD) (r : Fin 32768) (j : Fin 2304) (h : ¬ j.val < 768) (h' : j.val - 768 < 768) : (V m c main_v7 : Vec Ideal S32768x2304 .bf16) (ix2 r j)
    = aK m c (ix3 ⟨r.val / 8192, by omega⟩ ⟨r.val % 8192, by omega⟩ ⟨j.val - 768, h'⟩) := by
  unfold V
  after_reads_at
  rw [dif_neg h, dif_pos h']
  after_reads_at

/-- and the values. -/
theorem v7_v (c : Dev nD) (r : Fin 32768) (j : Fin 2304) (h : ¬ j.val < 768) (h' : ¬ j.val - 768 < 768) : (V m c main_v7 : Vec Ideal S32768x2304 .bf16) (ix2 r j)
    = aV m c (ix3 ⟨r.val / 8192, by omega⟩ ⟨r.val % 8192, by omega⟩ ⟨j.val - 768 - 768, by omega⟩) := by
  unfold V
  after_reads_at
  rw [dif_neg h, dif_neg h']
  after_reads_at

/-- The array of gates holds the scaled gates, head by head. -/
theorem v11_apply (c : Dev nD) (r : Fin 24) (j : Fin 8192) : (V m c main_v11 : Vec Ideal S24x1x8192 .f32) (ix3 r 0 j)
    = aC m c (ix3 ⟨r.val / 6, by omega⟩ j ⟨r.val % 6, by omega⟩) * lam := by
  unfold V lam
  after_reads_at
  try rfl

/-- The same at entries given by numbers. -/
theorem hq_q (c : Dev nD) (b t j : ℕ) (hb : b < 4) (ht : t < 8192) (hj : j < 768) :
    hqAt m c (8192 * b + t) j = aQ m c (ix3 ⟨b, hb⟩ ⟨t, ht⟩ ⟨j, hj⟩) * (Ideal.ofBits .f32 0x3DB504F3#32 * lam) := by
  have e : hqAt m c (8192 * b + t) j = (V m c main_v7 : Vec Ideal S32768x2304 .bf16) (ix2 ⟨8192 * b + t, by omega⟩ ⟨j, by omega⟩) := by
    unfold hqAt
    refine congrArg (V m c main_v7) (funext fun a => ?_)
    match a with
    | ⟨0, _⟩ => exact Fin.ext (Nat.mod_eq_of_lt (by omega))
    | ⟨1, _⟩ => exact Fin.ext (Nat.mod_eq_of_lt (by omega))
  rw [e, v7_q m c _ _ hj]
  have e1 : (8192 * b + t) / 8192 = b := by omega
  have e2 : (8192 * b + t) % 8192 = t := by omega
  simp only [e1, e2]

theorem hq_k (c : Dev nD) (b t j : ℕ) (hb : b < 4) (ht : t < 8192) (hj : j < 768) :
    hqAt m c (8192 * b + t) (768 + j) = aK m c (ix3 ⟨b, hb⟩ ⟨t, ht⟩ ⟨j, hj⟩) := by
  have e : hqAt m c (8192 * b + t) (768 + j) = (V m c main_v7 : Vec Ideal S32768x2304 .bf16) (ix2 ⟨8192 * b + t, by omega⟩ ⟨768 + j, by omega⟩) := by
    unfold hqAt
    refine congrArg (V m c main_v7) (funext fun a => ?_)
    match a with
    | ⟨0, _⟩ => exact Fin.ext (Nat.mod_eq_of_lt (by omega))
    | ⟨1, _⟩ => exact Fin.ext (Nat.mod_eq_of_lt (by omega))
  rw [e, v7_k m c _ _ (by simp only []; omega) (by simp only []; omega)]
  have e1 : (8192 * b + t) / 8192 = b := by omega
  have e2 : (8192 * b + t) % 8192 = t := by omega
  have e3 : 768 + j - 768 = j := by omega
  simp only [e1, e2, e3]

theorem hq_v (c : Dev nD) (b t j : ℕ) (hb : b < 4) (ht : t < 8192) (hj : j < 768) :
    hqAt m c (8192 * b + t) (1536 + j) = aV m c (ix3 ⟨b, hb⟩ ⟨t, ht⟩ ⟨j, hj⟩) := by
  have e : hqAt m c (8192 * b + t) (1536 + j) = (V m c main_v7 : Vec Ideal S32768x2304 .bf16) (ix2 ⟨8192 * b + t, by omega⟩ ⟨1536 + j, by omega⟩) := by
    unfold hqAt
    refine congrArg (V m c main_v7) (funext fun a => ?_)
    match a with
    | ⟨0, _⟩ => exact Fin.ext (Nat.mod_eq_of_lt (by omega))
    | ⟨1, _⟩ => exact Fin.ext (Nat.mod_eq_of_lt (by omega))
  rw [e, v7_v m c _ _ (by simp only []; omega) (by simp only []; omega)]
  have e1 : (8192 * b + t) / 8192 = b := by omega
  have e2 : (8192 * b + t) % 8192 = t := by omega
  have e3 : 1536 + j - 768 - 768 = j := by omega
  simp only [e1, e2, e3]

theorem c3_c (c : Dev nD) (b h t : ℕ) (hb : b < 4) (hh : h < 6) (ht : t < 8192) :
    c3At m c (6 * b + h) t = aC m c (ix3 ⟨b, hb⟩ ⟨t, ht⟩ ⟨h, hh⟩) * lam := by
  have e : c3At m c (6 * b + h) t = (V m c main_v11 : Vec Ideal S24x1x8192 .f32) (ix3 ⟨6 * b + h, by omega⟩ 0 ⟨t, ht⟩) := by
    unfold c3At
    refine congrArg (V m c main_v11) (funext fun a => ?_)
    match a with
    | ⟨0, _⟩ => exact Fin.ext (Nat.mod_eq_of_lt (by omega))
    | ⟨1, _⟩ => rfl
    | ⟨2, _⟩ => exact Fin.ext (Nat.mod_eq_of_lt (by omega))
  rw [e, v11_apply]
  have e1 : (6 * b + h) / 6 = b := by omega
  have e2 : (6 * b + h) % 6 = h := by omega
  simp only [e1, e2]

end Cert.Proof.Fox
end
-- ==== Proof.OutArr.lean ====
module

public import proofs.«01_k».proof.Proof.FrameIdeal
public import Idealize.ShloMosaic.Lib.Pointwise
public import Idealize.ShloMosaic.Lib.Pipeline.ValueKit.Geometry
public import Idealize.ShloMosaic.Lib.StableHlo.ReadAt

@[expose] public section

set_option maxRecDepth 16384
set_option maxHeartbeats 1000000

noncomputable section

namespace Cert.Proof.Fox

open Cert.KernelIdeal Cert.KernelIdeal.Gen
open Idealize.ShloMosaic Idealize.ShloMosaic.TcCoe

variable {F : FTy → Type} [FloatOps F] [Named F]
variable (m : (ℓ : Loc nD τ sig) → Buf (Elt F) ℓ)

/-- The result array the blocks make up: entry `(i, j)` is of batch `i / 8192`, head `j / 128`, query block `i % 8192 / 1024`. -/
def resArr (c : Dev nD) : Vec F S32768x768 .bf16 := fun i =>
  resBlk m c ((i 0).val / 8192) ((i 1).val / 128) ((i 0).val % 8192 / 1024)
    (ix2 (⟨(i 0).val % 1024, Nat.mod_lt _ (by decide)⟩ : Fin 1024) (⟨(i 1).val % 128, Nat.mod_lt _ (by decide)⟩ : Fin 128))

/-- The kernel's result array, entry by entry. -/
theorem out_eq (c : Dev nD) : (dats m 0 c).arrAt 5 cfg0.N = resArr m c := by
  refine (dats m 0 c).arrAt_eq_of_covers 5 _ (by decide +kernel) fun t hf y => ?_
  have y0 : (y 0).val < 1024 := (y 0).isLt
  have y1 : (y 1).val < 128 := (y 1).isLt
  have ht := t_lt t
  obtain ⟨e0, e1⟩ := tr5 t
  have i0 : (((cfg0.win 5).blk t).view.emb y 0).val = 8192 * bOf t + 1024 * qOf t + (y 0).val := by
    show cc0_transform_5 (grid0.coords t) 0 * 1024 + 1 * (y 0).val = _
    rw [e0]; omega
  have i1 : (((cfg0.win 5).blk t).view.emb y 1).val = 128 * hOf t + (y 1).val := by
    show cc0_transform_5 (grid0.coords t) 1 * 128 + 1 * (y 1).val = _
    rw [e1]; omega
  show resBlk m c (bOf t) (hOf t) (qOf t) y = resBlk m c ((((cfg0.win 5).blk t).view.emb y 0).val / 8192)
    ((((cfg0.win 5).blk t).view.emb y 1).val / 128) ((((cfg0.win 5).blk t).view.emb y 0).val % 8192 / 1024) _
  have a0 : (8192 * bOf t + 1024 * qOf t + (y 0).val) / 8192 = bOf t := by simp only [qOf]; omega
  have a1 : (128 * hOf t + (y 1).val) / 128 = hOf t := by omega
  have a2 : (8192 * bOf t + 1024 * qOf t + (y 0).val) % 8192 / 1024 = qOf t := by simp only [qOf]; omega
  have b0 : (((cfg0.win 5).blk t).view.emb y 0).val / 8192 = bOf t := by rw [i0]; exact a0
  have b1 : (((cfg0.win 5).blk t).view.emb y 1).val / 128 = hOf t := by rw [i1]; exact a1
  have b2 : (((cfg0.win 5).blk t).view.emb y 0).val % 8192 / 1024 = qOf t := by rw [i0]; exact a2
  rw [b0, b1, b2]
  refine congrArg (resBlk m c (bOf t) (hOf t) (qOf t)) (funext fun a => ?_)
  match a with
  | ⟨0, _⟩ =>
    refine Fin.ext ?_
    show (y 0).val = (((cfg0.win 5).blk t).view.emb y 0).val % 1024
    rw [i0]; omega
  | ⟨1, _⟩ =>
    refine Fin.ext ?_
    show (y 1).val = (((cfg0.win 5).blk t).view.emb y 1).val % 128
    rw [i1]; omega

end Cert.Proof.Fox
end
-- ==== Proof.RefValue.lean ====
module

public import proofs.«01_k».proof.Defs
public import proofs.«01_k».proof.Proof.Gen.ReferenceIdeal
public import proofs.«01_k».proof.Proof.Gen.ReferenceIdeal.Run
public import Idealize.ShloMosaic.Lib.Pointwise

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

/-- The reference's masked scores, from the queries `Q`, the keys `K` and the gates `C`. -/
def lg (Q K : FVec Ideal S4x8192x768 .f32) (C : FVec Ideal S4x8192x6 .f32) : FVec Ideal S4x6x8192x8192 .f32 :=
  select (broadcastInDim S4x6x8192x8192 ![2, 3] bcast_S8192x8192_S4x6x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (addf (Host.dotGeneral dot_S4x6x8192x128_S4x6x8192x128_S4x6x8192x8192_3_3_2_2_01_01 none (mulf (transpose S4x6x8192x128 [0, 2, 1, 3] (shapeCast _ Q shapeCasts_S4x8192x768_S4x8192x6x128) transposes_S4x8192x6x128_S4x6x8192x128_0_2_1_3) (broadcastInDim S4x6x8192x128 ![] bcast_S_S4x6x8192x128 (constant S_ .f32 0x3DB504F3#32))) (transpose S4x6x8192x128 [0, 2, 1, 3] (shapeCast _ K shapeCasts_S4x8192x768_S4x8192x6x128) transposes_S4x8192x6x128_S4x6x8192x128_0_2_1_3)) (broadcastInDim S4x6x8192x8192 ![0, 1, 2, 3] bcast_S4x6x8192x1_S4x6x8192x8192_0_1_2_3 (broadcastInDim S4x6x8192x1 ![0, 1, 2] bcast_S4x6x8192_S4x6x8192x1_0_1_2 (transpose S4x6x8192 [0, 2, 1] C transposes_S4x8192x6_S4x6x8192_0_2_1)))) (broadcastInDim S4x6x8192x8192 ![0, 1, 2, 3] bcast_S4x6x1x8192_S4x6x8192x8192_0_1_2_3 (broadcastInDim S4x6x1x8192 ![0, 1, 3] bcast_S4x6x8192_S4x6x1x8192_0_1_3 (transpose S4x6x8192 [0, 2, 1] C transposes_S4x8192x6_S4x6x8192_0_2_1)))) (broadcastInDim S4x6x8192x8192 ![] bcast_S_S4x6x8192x8192 (id (constant S_ .f32 0xFF800000#32)))

/-- The largest score of each row. -/
def mx (L : FVec Ideal S4x6x8192x8192 .f32) : FVec Ideal S4x6x8192 .f32 :=
  Host.reduce FloatOps.maximumf L (constant S_ .f32 0xFF800000#32) reducesTo_S4x6x8192x8192_S4x6x8192_d3 h_S_

/-- The sum of each row. -/
def sm (E : FVec Ideal S4x6x8192x8192 .f32) : FVec Ideal S4x6x8192 .f32 :=
  Host.reduceAdd E (constant S_ .f32 0x00000000#32) reducesTo_S4x6x8192x8192_S4x6x8192_d3 h_S_

/-- The reference's exponentials of the scores less `X`, given for each row. -/
def exOf (L : FVec Ideal S4x6x8192x8192 .f32) (X : FVec Ideal S4x6x8192 .f32) : FVec Ideal S4x6x8192x8192 .f32 :=
  Host.exp (subf L (broadcastInDim S4x6x8192x8192 ![0, 1, 2, 3] bcast_S4x6x8192x1_S4x6x8192x8192_0_1_2_3 (broadcastInDim S4x6x8192x1 ![0, 1, 2] bcast_S4x6x8192_S4x6x8192x1_0_1_2 (maximumf (broadcastInDim S4x6x8192 ![] bcast_S_S4x6x8192 (constant S_ .f32 0xFF800000#32)) X))))

/-- The reference's exponentials of the scores less their row's largest. -/
def ex (L : FVec Ideal S4x6x8192x8192 .f32) : FVec Ideal S4x6x8192x8192 .f32 := exOf L (mx L)

/-- The reference's result, from the exponentials and the values `W`. -/
def fin (E : FVec Ideal S4x6x8192x8192 .f32) (W : FVec Ideal S4x8192x768 .f32) : FVec Ideal S32768x768 .bf16 :=
  truncf .bf16 (shapeCast _ (transpose S4x8192x6x128 [0, 2, 1, 3] (Host.dotGeneral dot_S4x6x8192x8192_S4x6x8192x128_S4x6x8192x128_3_2_2_3_01_01 none (Host.divf E (broadcastInDim S4x6x8192x8192 ![0, 1, 2, 3] bcast_S4x6x8192x1_S4x6x8192x8192_0_1_2_3 (broadcastInDim S4x6x8192x1 ![0, 1, 2] bcast_S4x6x8192_S4x6x8192x1_0_1_2 (sm E)))) (transpose S4x6x8192x128 [0, 2, 1, 3] (shapeCast _ W shapeCasts_S4x8192x768_S4x8192x6x128) transposes_S4x8192x6x128_S4x6x8192x128_0_2_1_3)) transposes_S4x6x8192x128_S4x8192x6x128_0_2_1_3) shapeCasts_S4x8192x6x128_S32768x768)

/-- The reference's result is these steps one after another. -/
theorem res_eq (m : (ℓ : Loc nD τ sig) → Buf (Elt Ideal) ℓ) (c : Dev nD) :
    Cert.ReferenceIdeal.Value.res_main_v37 m c
      = fin (ex (lg (m ((c.tc : Thread nD τ).loc main_arg0)) (m ((c.tc : Thread nD τ).loc main_arg1)) (m ((c.tc : Thread nD τ).loc main_arg3))))
          (m ((c.tc : Thread nD τ).loc main_arg2)) := rfl

end Cert.Proof.Ref
end
-- ==== Proof.RefLg.lean ====
module

public import proofs.«01_k».proof.Defs
public import proofs.«01_k».proof.Proof.Gen.ReferenceIdeal
public import proofs.«01_k».proof.Proof.Gen.ReferenceIdeal.Run
public import Idealize.ShloMosaic.Lib.Pointwise
public import proofs.«01_k».proof.Proof.RefValue

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

/-- A masked score of the reference at a batch, a head, a row and a key. -/
theorem lg_apply (Q K : FVec Ideal S4x8192x768 .f32) (C : FVec Ideal S4x8192x6 .f32) (b : Fin 4) (h : Fin 6) (t s : Fin 8192) :
    lg Q K C (ix4 b h t s) = Scalar.select (IntOp.cmpi CmpIPredicate.sle (BitVec.ofNat 32 s.val) (BitVec.ofNat 32 t.val))
      (∑ x : Fin 128, Q (ix3 b t ⟨h.val * 128 + x.val, by omega⟩) * Ideal.ofBits FTy.f32 0x3DB504F3#32 * K (ix3 b s ⟨h.val * 128 + x.val, by omega⟩) +
          C (ix3 b t h) - C (ix3 b s h))
      (Ideal.ofBits FTy.f32 0xFF800000#32) := by
  pointwise [lg]
  rfl

end Cert.Proof.Ref
end
-- ==== Proof.RefEx.lean ====
module

public import proofs.«01_k».proof.Defs
public import proofs.«01_k».proof.Proof.Gen.ReferenceIdeal
public import proofs.«01_k».proof.Proof.Gen.ReferenceIdeal.Run
public import Idealize.ShloMosaic.Lib.Pointwise
public import proofs.«01_k».proof.Proof.RefValue

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

/-- The largest entry of each row, over any extents. -/
theorem reduceMax_apply {n0 n1 n2 n3 : ℕ} (L : FVec Ideal ⟨4, ![n0, n1, n2, n3]⟩ .f32) (i : FVec Ideal S_ .f32)
    (hr : (⟨4, ![n0, n1, n2, n3]⟩ : Shape).ReducesTo [3] ⟨3, ![n0, n1, n2]⟩) (hu : 0 < S_.numel) (b : Fin n0) (h : Fin n1) (t : Fin n2) :
    (Host.reduce FloatOps.maximumf L i hr hu : FVec Ideal ⟨3, ![n0, n1, n2]⟩ .f32) (ix3 b h t)
      = Finset.fold max (i (Shape.Idx.first hu)) (fun x : Fin n3 => L (ix4 b h t x)) Finset.univ := by
  pointwise

theorem mx_apply (L : FVec Ideal S4x6x8192x8192 .f32) (b : Fin 4) (h : Fin 6) (t : Fin 8192) :
    mx L (ix3 b h t) = Finset.fold max (Ideal.ofBits FTy.f32 0xFF800000#32) (fun x : Fin 8192 => L (ix4 b h t x)) Finset.univ := by
  unfold mx
  exact (reduceMax_apply L (constant S_ .f32 0xFF800000#32) reducesTo_S4x6x8192x8192_S4x6x8192_d3 h_S_ b h t).trans
    (congrArg (fun z => Finset.fold max z (fun x : Fin 8192 => L (ix4 b h t x)) Finset.univ) rfl)

/-- An exponential of the reference at a batch, a head, a row and a key, from the rows' largest scores `X`. -/
theorem exOf_apply (L : FVec Ideal S4x6x8192x8192 .f32) (X : FVec Ideal S4x6x8192 .f32) (b : Fin 4) (h : Fin 6) (t s : Fin 8192) :
    exOf L X (ix4 b h t s) = Ideal.exp (L (ix4 b h t s) - max (Ideal.ofBits FTy.f32 0xFF800000#32) (X (ix3 b h t))) := by
  pointwise [exOf]

/-- An exponential of the reference at a batch, a head, a row and a key. -/
theorem ex_apply (L : FVec Ideal S4x6x8192x8192 .f32) (b : Fin 4) (h : Fin 6) (t s : Fin 8192) :
    ex L (ix4 b h t s) = Ideal.exp (L (ix4 b h t s) - max (Ideal.ofBits FTy.f32 0xFF800000#32)
      (Finset.fold max (Ideal.ofBits FTy.f32 0xFF800000#32) (fun x : Fin 8192 => L (ix4 b h t x)) Finset.univ)) := by
  unfold ex
  rw [exOf_apply, mx_apply]

end Cert.Proof.Ref
end
-- ==== Proof.RefFin.lean ====
module

public import proofs.«01_k».proof.Defs
public import proofs.«01_k».proof.Proof.Gen.ReferenceIdeal
public import proofs.«01_k».proof.Proof.Gen.ReferenceIdeal.Run
public import Idealize.ShloMosaic.Lib.Pointwise
public import proofs.«01_k».proof.Proof.RefValue

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

/-- The sum of each row, over any extents. -/
theorem reduceSum_apply {n0 n1 n2 n3 : ℕ} (L : FVec Ideal ⟨4, ![n0, n1, n2, n3]⟩ .f32) (i : FVec Ideal S_ .f32)
    (hr : (⟨4, ![n0, n1, n2, n3]⟩ : Shape).ReducesTo [3] ⟨3, ![n0, n1, n2]⟩) (hu : 0 < S_.numel) (b : Fin n0) (h : Fin n1) (t : Fin n2) :
    (Host.reduceAdd L i hr hu : FVec Ideal ⟨3, ![n0, n1, n2]⟩ .f32) (ix3 b h t)
      = i (Shape.Idx.first hu) + ∑ x : Fin n3, L (ix4 b h t x) := by
  pointwise

theorem sm_apply (E : FVec Ideal S4x6x8192x8192 .f32) (b : Fin 4) (h : Fin 6) (t : Fin 8192) :
    sm E (ix3 b h t) = Ideal.ofBits FTy.f32 0#32 + ∑ x : Fin 8192, E (ix4 b h t x) :=
  reduceSum_apply E _ _ _ b h t

/-- The reference's result at a row and a column. -/
theorem fin_apply (E : FVec Ideal S4x6x8192x8192 .f32) (W : FVec Ideal S4x8192x768 .f32) (r : Fin 32768) (l : Fin 768) :
    fin E W (ix2 r l) = ∑ x : Fin 8192,
      Ideal.div (E (ix4 ⟨r.val / 8192, by omega⟩ ⟨l.val / 128, by omega⟩ ⟨r.val % 8192, by omega⟩ x))
          (∑ y : Fin 8192, E (ix4 ⟨r.val / 8192, by omega⟩ ⟨l.val / 128, by omega⟩ ⟨r.val % 8192, by omega⟩ y)) *
        W (ix3 ⟨r.val / 8192, by omega⟩ x l) := by
  pointwise [fin, sm_apply]

end Cert.Proof.Ref
end
-- ==== Proof.Value.lean ====
/- The kernel's result array is the reference's, where queries, keys and cumulative log gates are real numbers. -/
module

public import proofs.«01_k».proof.Proof.Rows
public import proofs.«01_k».proof.Proof.HostVal
public import proofs.«01_k».proof.Proof.OutArr
public import proofs.«01_k».proof.Proof.RefLg
public import proofs.«01_k».proof.Proof.RefEx
public import proofs.«01_k».proof.Proof.RefFin

@[expose] public section

set_option maxRecDepth 16384
set_option maxHeartbeats 1000000

noncomputable section

namespace Cert.Proof.Fox

open Cert.KernelIdeal Cert.KernelIdeal.Gen Cert.Proof.Soft
open Idealize.ShloMosaic Idealize.ShloMosaic.TcCoe

/-- The kernel's change of base of the exponential is one over the logarithm of two. -/
theorem lam_eq : lam = ((1 / Real.log 2 : ℝ) : EReal) := by
  have e : Ideal.ofBits .f32 0x40000000#32 = ((2 : ℝ) : EReal) := by
    simp [Ideal.ofBits, Ideal.ieee]
    rw [← EReal.coe_mul]
    norm_num
  have hl : Real.log 2 ≠ 0 := (Real.log_pos (by norm_num)).ne'
  unfold lam
  rw [e]
  have h2 : Ideal.log ((2 : ℝ) : EReal) = ((Real.log 2 : ℝ) : EReal) := by
    show (if (2 : ℝ) ≤ 0 then (⊥ : EReal) else (Real.log 2 : ℝ)) = _
    rw [if_neg (by norm_num)]
  rw [h2]
  unfold Ideal.div
  rw [if_neg (by exact_mod_cast hl), one_mul, ← EReal.coe_inv, one_div]

/-- The queries' scale is a real number. -/
theorem sigma_real : ∃ σ : ℝ, Ideal.ofBits .f32 0x3DB504F3#32 = (σ : EReal) := by
  unfold Ideal.ofBits Ideal.ieee
  simp
  exact ⟨_, (EReal.coe_mul _ _).symm⟩

/-- The score of a row and a key as a real number. -/
def rsc (fq fk : S4x8192x768.Idx → ℝ) (fc : S4x8192x6.Idx → ℝ) (σ : ℝ) (b : Fin 4) (h : Fin 6) (t s : Fin 8192) : ℝ :=
  ∑ x : Fin 128, fq (ix3 b t ⟨h.val * 128 + x.val, by omega⟩) * σ * fk (ix3 b s ⟨h.val * 128 + x.val, by omega⟩)
    + fc (ix3 b t h) - fc (ix3 b s h)

variable (m : (ℓ : Loc nD τ sig) → Buf (Elt Ideal) ℓ) (c : Dev nD)
variable {fq fk : S4x8192x768.Idx → ℝ} {fc : S4x8192x6.Idx → ℝ} {σ : ℝ}
variable (hQ : ∀ i, aQ m c i = (fq i : EReal)) (hK : ∀ i, aK m c i = (fk i : EReal)) (hC : ∀ i, aC m c i = (fc i : EReal))
  (hσ : Ideal.ofBits .f32 0x3DB504F3#32 = (σ : EReal))

include hQ hK hC hσ in
/-- The kernel's score of a row and a key is the real score in base two, moved by a number of the row. -/
theorem sco_eq (b : Fin 4) (h : Fin 6) (n : ℕ) (hn : n < 8) (r : Fin 1024) (s : ℕ) :
    sco (c0Blk m c b h n) (v7Blk m c b h n) (kBlk m c b h) (cBlk m c b h) r s
      = ((1 / Real.log 2 * rsc fq fk fc σ b h ⟨1024 * n + r.val, by omega⟩ ⟨s % 8192, Nat.mod_lt _ (by decide)⟩
          + 1 / Real.log 2 * (fc (ix3 b ⟨1024 * n, by omega⟩ h) - fc (ix3 b ⟨1024 * n + r.val, by omega⟩ h)) : ℝ) : EReal) := by
  unfold sco
  have hs : s % 8192 < 8192 := Nat.mod_lt _ (by decide)
  have hb := b.isLt
  have hh := h.isLt
  have e1 : c0Blk m c b h n (ix2 0 0) = ((fc (ix3 b ⟨1024 * n, by omega⟩ h) * (1 / Real.log 2) : ℝ) : EReal) := by
    rw [c0Blk_apply, Nat.mod_eq_of_lt (by omega : 1024 * n < 8192), c3_c m c b h _ hb hh (by omega), hC, lam_eq, EReal.coe_mul]
  have e2 : cBlk m c b h (ix3 0 0 (⟨s % 8192, hs⟩ : Fin 8192)) = ((fc (ix3 b ⟨s % 8192, hs⟩ h) * (1 / Real.log 2) : ℝ) : EReal) := by
    show c3At m c (6 * b + h) (s % 8192) = _
    rw [c3_c m c b h _ hb hh hs, hC, lam_eq, EReal.coe_mul]
  have e3 : ∀ x : Fin 128, v7Blk m c b h n (ix2 r x) = ((fq (ix3 b ⟨1024 * n + r.val, by omega⟩ ⟨h.val * 128 + x.val, by omega⟩) * (σ * (1 / Real.log 2)) : ℝ) : EReal) := by
    intro x
    rw [v7Blk_apply, Nat.add_assoc, hq_q m c b (1024 * n + r.val) (128 * h + x.val) hb (by omega) (by omega), hQ, lam_eq, hσ, EReal.coe_mul, EReal.coe_mul]
    simp only [Nat.mul_comm 128]
  have e4 : ∀ x : Fin 128, kBlk m c b h (ix2 (⟨s % 8192, hs⟩ : Fin 8192) x) = (fk (ix3 b ⟨s % 8192, hs⟩ ⟨h.val * 128 + x.val, by omega⟩) : EReal) := by
    intro x
    show hqAt m c (8192 * b + s % 8192) (768 + 128 * h + x.val) = _
    rw [Nat.add_assoc 768, hq_k m c b (s % 8192) (128 * h + x.val) hb hs (by omega), hK]
    simp only [Nat.mul_comm 128]
  rw [e1, e2]
  simp only [e3, e4, ← EReal.coe_mul]
  rw [← coe_sum, ← EReal.coe_sub, ← EReal.coe_add]
  refine congrArg _ ?_
  unfold rsc
  rw [mul_sub, mul_add, Finset.mul_sum]
  have : ∀ x : Fin 128, fq (ix3 b ⟨1024 * n + r.val, by omega⟩ ⟨h.val * 128 + x.val, by omega⟩) * (σ * (1 / Real.log 2)) * fk (ix3 b ⟨s % 8192, hs⟩ ⟨h.val * 128 + x.val, by omega⟩)
      = 1 / Real.log 2 * (fq (ix3 b ⟨1024 * n + r.val, by omega⟩ ⟨h.val * 128 + x.val, by omega⟩) * σ * fk (ix3 b ⟨s % 8192, hs⟩ ⟨h.val * 128 + x.val, by omega⟩)) := fun x => by ring
  simp only [this]
  ring

include hQ hK hC hσ in
/-- The reference's masked score of a row and a key. -/
theorem lg_eq (b : Fin 4) (h : Fin 6) (t s : Fin 8192) :
    Ref.lg (aQ m c) (aK m c) (aC m c) (ix4 b h t s) = if s.val ≤ t.val then ((rsc fq fk fc σ b h t s : ℝ) : EReal) else ⊥ := by
  rw [Ref.lg_apply, select_sle _ _ (by omega) (by omega), ofBits_ninf]
  refine if_congr Iff.rfl ?_ rfl
  simp only [hQ, hK, hC, hσ, ← EReal.coe_mul]
  rw [← coe_sum, ← EReal.coe_add, ← EReal.coe_sub]
  rfl

include hQ hK hC hσ in
/-- The kernel's result array is the reference's. -/
theorem res_eq : resArr m c = Ref.fin (Ref.ex (Ref.lg (aQ m c) (aK m c) (aC m c))) (aV m c) := by
  funext i
  obtain ⟨R, l, rfl⟩ : ∃ (R : Fin 32768) (l : Fin 768), i = ix2 R l := ⟨i 0, i 1, funext fun a => by match a with | ⟨0, _⟩ => rfl | ⟨1, _⟩ => rfl⟩
  have hR := R.isLt
  have hl := l.isLt
  let b : Fin 4 := ⟨R.val / 8192, by omega⟩
  let h : Fin 6 := ⟨l.val / 128, by omega⟩
  let t : Fin 8192 := ⟨R.val % 8192, by omega⟩
  let n : ℕ := R.val % 8192 / 1024
  let r : Fin 1024 := ⟨R.val % 1024, by omega⟩
  have hn : n < 8 := by show R.val % 8192 / 1024 < 8; omega
  have htr : 1024 * n + r.val = t.val := by show 1024 * (R.val % 8192 / 1024) + R.val % 1024 = R.val % 8192; omega
  have hS : ∀ s, msc (c0Blk m c b h n) (v7Blk m c b h n) (kBlk m c b h) (cBlk m c b h) n r s
      = if s ≤ t.val then ((1 / Real.log 2 * rsc fq fk fc σ b h t ⟨s % 8192, Nat.mod_lt _ (by decide)⟩
          + 1 / Real.log 2 * (fc (ix3 b ⟨1024 * n, by omega⟩ h) - fc (ix3 b t h)) : ℝ) : EReal) else ⊥ := by
    intro s
    unfold msc
    rw [sco_eq m c hQ hK hC hσ b h n hn r s]
    simp only [htr]
  have hT : ∀ s, msc (c0Blk m c b h n) (v7Blk m c b h n) (kBlk m c b h) (cBlk m c b h) n r s ≠ ⊤ := by
    intro s
    rw [hS]
    split
    · exact EReal.coe_ne_top _
    · exact bot_ne_top
  obtain ⟨M, A, L, e, hA, hL⟩ := out_row (vBlk m c b h) n r hT hn (⟨l.val % 128, by omega⟩ : Fin 128)
  rw [Ref.fin_apply]
  refine Eq.trans e ?_
  have hl2 : 0 < Real.log 2 := Real.log_pos (by norm_num)
  have hm : ∀ s : Fin 8192, (⟨s.val % 8192, Nat.mod_lt _ (by decide)⟩ : Fin 8192) = s := fun s => Fin.ext (Nat.mod_eq_of_lt s.isLt)
  let S' : ℕ → EReal := fun s => if s ≤ t.val then ((rsc fq fk fc σ b h t ⟨s % 8192, Nat.mod_lt _ (by decide)⟩ : ℝ) : EReal) else ⊥
  have hg : ∀ s : Fin 8192, Ref.lg (aQ m c) (aK m c) (aC m c) (ix4 b h t s) = S' s.val := by
    intro s
    rw [lg_eq m c hQ hK hC hσ]
    simp only [S', hm]
  have ee : ∀ y : Fin 8192, Ref.ex (Ref.lg (aQ m c) (aK m c) (aC m c)) (ix4 b h t y) = Ideal.exp (S' y.val
      - Finset.fold max ⊥ (fun s : Fin 8192 => S' s.val) Finset.univ) := by
    intro y
    rw [Ref.ex_apply, ofBits_ninf, max_eq_right bot_le]
    simp only [hg]
  rw [Soft.final (fun s => rsc fq fk fc σ b h t ⟨s % 8192, Nat.mod_lt _ (by decide)⟩) t.val 8192 t.isLt (1 / Real.log 2) _
    (by positivity) (by field_simp) _ S' _ hS (fun s => rfl) hA hL rfl]
  refine Finset.sum_congr rfl fun s _ => ?_
  have ev : vBlk m c b h (ix2 (⟨s.val % 8192, Nat.mod_lt _ (by decide)⟩ : Fin 8192) (⟨l.val % 128, by omega⟩ : Fin 128))
      = aV m c (ix3 b s l) := by
    show hqAt m c (8192 * b.val + s.val % 8192) (1536 + 128 * (l.val / 128) + l.val % 128) = _
    have e5 : 1536 + 128 * (l.val / 128) + l.val % 128 = 1536 + l.val := by omega
    rw [e5, Nat.mod_eq_of_lt s.isLt, hq_v m c _ _ _ b.isLt s.isLt hl]
  show Ideal.div _ _ * vBlk m c b h (ix2 (⟨s.val % 8192, _⟩ : Fin 8192) (⟨l.val % 128, _⟩ : Fin 128))
    = Ideal.div (Ref.ex (Ref.lg (aQ m c) (aK m c) (aC m c)) (ix4 b h t s)) (∑ y : Fin 8192, Ref.ex (Ref.lg (aQ m c) (aK m c) (aC m c)) (ix4 b h t y)) * aV m c (ix3 b s l)
  rw [ev]
  simp only [ee]

end Cert.Proof.Fox
end
-- ==== Proof.Frames.lean ====
/- The frames of the further calls: each kernel's program runs, leaves its arguments as they were and every semaphore at zero. -/
module

public import proofs.«01_k».proof.Defs
public import Idealize.ShloMosaic.Lib.Quiescent
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run

@[expose] public section

set_option maxRecDepth 16384
set_option maxHeartbeats 1000000

noncomputable section

namespace Cert.Proof.Calls

open Idealize.ShloMosaic Idealize.ShloMosaic.TcCoe
open Idealize.SL Idealize.SL.Sem

/-- Over words the two programs' body tables are one. -/
theorem defs_eq2 : Cert.Kernel2.defs (F := Bits) = Cert.Kernel2Ideal.defs (F := Bits) := by
  refine congrArg (Pipeline.defs (Cert.Kernel2Ideal.pcfgs (F := Bits))) ?_
  unfold Cert.Kernel2.defs₀ Cert.Kernel2Ideal.defs₀
  refine congrArg Defs.onTc (funext fun l => funext fun a => ?_)
  match l with
  | 0 => rfl

theorem frame_kernel2 : Cert.quiescent_Kernel2 (hKernel2 := Cert.Kernel2.Gen.facts) := by
  intro m ρ _
  rw [defs_eq2]
  exact Cert.Kernel2Ideal.Gen.frame (F := Bits) m ρ

theorem frame_ideal2 : Cert.quiescent_Kernel2Ideal (hKernel2Ideal := Cert.Kernel2Ideal.Gen.facts) :=
  fun m ρ _ => Cert.Kernel2Ideal.Gen.frame (F := Ideal) m ρ

theorem frame_reference2 : Cert.quiescent_Reference2Ideal (hReference2Ideal := Cert.Reference2Ideal.Gen.facts) :=
  fun m ρ _ => (θ_run Cert.Reference2Ideal.defs _ _).mono
    (fun r h => ⟨fun c => (h c).2.2, sem_eq_zero_of_no_sems (by decide) r.2⟩)
    (Cert.Reference2Ideal.Value.run (F := Ideal) m ρ)

/-- Over words the two programs' body tables are one. -/
theorem defs_eq3 : Cert.Kernel3.defs (F := Bits) = Cert.Kernel3Ideal.defs (F := Bits) := by
  refine congrArg (Pipeline.defs (Cert.Kernel3Ideal.pcfgs (F := Bits))) ?_
  unfold Cert.Kernel3.defs₀ Cert.Kernel3Ideal.defs₀
  refine congrArg Defs.onTc (funext fun l => funext fun a => ?_)
  match l with
  | 0 => rfl

theorem frame_kernel3 : Cert.quiescent_Kernel3 (hKernel3 := Cert.Kernel3.Gen.facts) := by
  intro m ρ _
  rw [defs_eq3]
  exact Cert.Kernel3Ideal.Gen.frame (F := Bits) m ρ

theorem frame_ideal3 : Cert.quiescent_Kernel3Ideal (hKernel3Ideal := Cert.Kernel3Ideal.Gen.facts) :=
  fun m ρ _ => Cert.Kernel3Ideal.Gen.frame (F := Ideal) m ρ

theorem frame_reference3 : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run (F := Ideal) m ρ)

/-- Over words the two programs' body tables are one. -/
theorem defs_eq4 : Cert.Kernel4.defs (F := Bits) = Cert.Kernel4Ideal.defs (F := Bits) := by
  refine congrArg (Pipeline.defs (Cert.Kernel4Ideal.pcfgs (F := Bits))) ?_
  unfold Cert.Kernel4.defs₀ Cert.Kernel4Ideal.defs₀
  refine congrArg Defs.onTc (funext fun l => funext fun a => ?_)
  match l with
  | 0 => rfl

theorem frame_kernel4 : Cert.quiescent_Kernel4 (hKernel4 := Cert.Kernel4.Gen.facts) := by
  intro m ρ _
  rw [defs_eq4]
  exact Cert.Kernel4Ideal.Gen.frame (F := Bits) m ρ

theorem frame_ideal4 : Cert.quiescent_Kernel4Ideal (hKernel4Ideal := Cert.Kernel4Ideal.Gen.facts) :=
  fun m ρ _ => Cert.Kernel4Ideal.Gen.frame (F := Ideal) m ρ

theorem frame_reference4 : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩)
    (Cert.Reference4Ideal.Value.run (F := Ideal) m ρ)

/-- Over words the two programs' body tables are one. -/
theorem defs_eq5 : Cert.Kernel5.defs (F := Bits) = Cert.Kernel5Ideal.defs (F := Bits) := by
  refine congrArg (Pipeline.defs (Cert.Kernel5Ideal.pcfgs (F := Bits))) ?_
  unfold Cert.Kernel5.defs₀ Cert.Kernel5Ideal.defs₀
  refine congrArg Defs.onTc (funext fun l => funext fun a => ?_)
  match l with
  | 0 => rfl

theorem frame_kernel5 : Cert.quiescent_Kernel5 (hKernel5 := Cert.Kernel5.Gen.facts) := by
  intro m ρ _
  rw [defs_eq5]
  exact Cert.Kernel5Ideal.Gen.frame (F := Bits) m ρ

theorem frame_ideal5 : Cert.quiescent_Kernel5Ideal (hKernel5Ideal := Cert.Kernel5Ideal.Gen.facts) :=
  fun m ρ _ => Cert.Kernel5Ideal.Gen.frame (F := Ideal) m ρ

theorem frame_reference5 : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩)
    (Cert.Reference5Ideal.Value.run (F := Ideal) m ρ)

/-- Over words the two programs' body tables are one. -/
theorem defs_eq6 : Cert.Kernel6.defs (F := Bits) = Cert.Kernel6Ideal.defs (F := Bits) := by
  refine congrArg (Pipeline.defs (Cert.Kernel6Ideal.pcfgs (F := Bits))) ?_
  unfold Cert.Kernel6.defs₀ Cert.Kernel6Ideal.defs₀
  refine congrArg Defs.onTc (funext fun l => funext fun a => ?_)
  match l with
  | 0 => rfl

theorem frame_kernel6 : Cert.quiescent_Kernel6 (hKernel6 := Cert.Kernel6.Gen.facts) := by
  intro m ρ _
  rw [defs_eq6]
  exact Cert.Kernel6Ideal.Gen.frame (F := Bits) m ρ

theorem frame_ideal6 : Cert.quiescent_Kernel6Ideal (hKernel6Ideal := Cert.Kernel6Ideal.Gen.facts) :=
  fun m ρ _ => Cert.Kernel6Ideal.Gen.frame (F := Ideal) m ρ

theorem frame_reference6 : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩)
    (Cert.Reference6Ideal.Value.run (F := Ideal) m ρ)

/-- Over words the two programs' body tables are one. -/
theorem defs_eq7 : Cert.Kernel7.defs (F := Bits) = Cert.Kernel7Ideal.defs (F := Bits) := by
  refine congrArg (Pipeline.defs (Cert.Kernel7Ideal.pcfgs (F := Bits))) ?_
  unfold Cert.Kernel7.defs₀ Cert.Kernel7Ideal.defs₀
  refine congrArg Defs.onTc (funext fun l => funext fun a => ?_)
  match l with
  | 0 => rfl

theorem frame_kernel7 : Cert.quiescent_Kernel7 (hKernel7 := Cert.Kernel7.Gen.facts) := by
  intro m ρ _
  rw [defs_eq7]
  exact Cert.Kernel7Ideal.Gen.frame (F := Bits) m ρ

theorem frame_ideal7 : Cert.quiescent_Kernel7Ideal (hKernel7Ideal := Cert.Kernel7Ideal.Gen.facts) :=
  fun m ρ _ => Cert.Kernel7Ideal.Gen.frame (F := Ideal) m ρ

theorem frame_reference7 : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩)
    (Cert.Reference7Ideal.Value.run (F := Ideal) m ρ)

end Cert.Proof.Calls
end
-- ==== Proof.Ffn.lean ====
/- The feed-forward part: what one grid point leaves, in the terms of the stored values. -/
module

public import proofs.«01_k».proof.Proof.Gen.Kernel2Ideal.Value

@[expose] public section

set_option maxRecDepth 16384
set_option maxHeartbeats 1000000

noncomputable section

namespace Cert.Proof.Ffn

open Cert.Kernel2Ideal Cert.Kernel2Ideal.Gen
open Idealize.ShloMosaic Idealize.ShloMosaic.TcCoe

variable {F : FTy → Type} [FloatOps F]

theorem z2 : (![0, 0] : Fin 2 → ℕ) = fun _ => 0 := by decide
theorem z3 : (![0, 0, 0] : Fin 3 → ℕ) = fun _ => 0 := by decide

section Body

variable (c : Dev nD) (i : grid0.Coords)
  (a2 : Memref sig .tc .vmem S512x2048 .f32) (h2 : a2.IsWhole) (a3 : Memref sig .tc .vmem S1x2048x1024 .bf16) (h3 : a3.IsWhole) (a4 : Memref sig .tc .vmem S1x1024x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole) (a10 : Memref sig .tc .vmem S512x2048 .bf16) (h10 : a10.IsWhole)
  (x0 : Vec F S512x2048 .f32) (x1 : Vec F S1x2048x1024 .bf16) (x2 : Vec F S1x1024x2048 .bf16) (x3 : Vec F S1x2048 .f32) (x4 : Vec F S1x2048 .f32)
  (xs0 : Vec F S512x2048 .f32) (xs1 : Vec F S512x2048 .bf16)

/-- The first point of a row block: the rows, cast. -/
theorem cast_A (hc0 : cond0_0 i) (hc1 : ¬cond0_1 i) : sout0_A_1 c i a2 h2 a3 h3 a4 h4 a5 h5 a6 h6 a7 h7 a8 h8 a9 h9 a10 h10 hc0 hc1 x0 x1 x2 x3 x4 = k0_pay2 x0 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4)]
  unfold kernelRun0_A
  dsimp only
  unfold kernelRun0_A.sl.HS1_1
  rw [View.canon_unit_zero z2]
  simp only [View.readAt_eq_ld, h2.read_unread, h3.read_unread, h4.read_unread, View.ld_unit_zero (S := S512x2048) z2, View.ld_unit_zero (S := S1x2048x1024) z3, View.ld_unit_zero (S := S1x1024x2048) z3]

/-- The first point of a row block: the residual and the first columns. -/
theorem acc_A (hc0 : cond0_0 i) (hc1 : ¬cond0_1 i) : sout0_A_0 c i a2 h2 a3 h3 a4 h4 a5 h5 a6 h6 a7 h7 a8 h8 a9 h9 a10 h10 hc0 hc1 x0 x1 x2 x3 x4 = k0_pay4 (k0_pay2 x0) x1 (k0_pay3 x0) x2 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  rw [View.canon_cons_unit_zero (S := S512x2048) z2]
  unfold kernelRun0_A.sl.v3 kernelRun0_A.sl.v9
  unfold kernelRun0_A.sl.HS1_1 kernelRun0_A.sl.HS0_1
  simp only [View.readAt_eq_ld, View.readCov_unit_zero (S := S512x2048) _ z2, h2.read_unread, h3.read_unread, h4.read_unread, View.ld_unit_zero (S := S512x2048) z2, View.ld_unit_zero (S := S1x2048x1024) z3, View.ld_unit_zero (S := S1x1024x2048) z3]

/-- A middle point: the next columns added. -/
theorem acc_B (hc0 : ¬cond0_0 i) (hc1 : ¬cond0_1 i) : sout0_B_0 c i a2 h2 a3 h3 a4 h4 a5 h5 a6 h6 a7 h7 a8 h8 a9 h9 a10 h10 hc0 hc1 x0 x1 x2 x3 x4 xs0 xs1 = k0_pay4 xs1 x1 xs0 x2 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0 xs1)]
  unfold kernelRun0_B
  dsimp only
  rw [View.canon_unit_zero z2]
  simp only [View.readAt_eq_ld, h3.read_unread, h4.read_unread, h9.read_unread, h10.read_unread, View.ld_unit_zero (S := S512x2048) z2, View.ld_unit_zero (S := S1x2048x1024) z3, View.ld_unit_zero (S := S1x1024x2048) z3]

/-- The last point: the normalised rows. -/
theorem out_C (hc0 : ¬cond0_0 i) (hc1 : cond0_1 i) : out0_C_5 c i a2 h2 a3 h3 a4 h4 a5 h5 a6 h6 a7 h7 a8 h8 a9 h9 a10 h10 hc0 hc1 x0 x1 x2 x3 x4 xs0 xs1 = k0_pay5 (k0_pay4 xs1 x1 xs0 x2) x3 x4 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0 xs1)]
  unfold kernelRun0_C
  dsimp only
  rw [View.canon_unit_zero z2]
  unfold kernelRun0_C.sl.v22
  unfold kernelRun0_C.sl.HS0_1
  simp only [View.readAt_eq_ld, View.readCov_unit_zero (S := S512x2048) _ z2, h3.read_unread, h4.read_unread, h5.read_unread, h6.read_unread, h9.read_unread, h10.read_unread, View.ld_unit_zero (S := S512x2048) z2, View.ld_unit_zero (S := S1x2048x1024) z3, View.ld_unit_zero (S := S1x1024x2048) z3, View.ld_unit_zero (S := S1x2048) z2]

/-- The last point: the same rows, cast. -/
theorem outB_C (hc0 : ¬cond0_0 i) (hc1 : cond0_1 i) : out0_C_6 c i a2 h2 a3 h3 a4 h4 a5 h5 a6 h6 a7 h7 a8 h8 a9 h9 a10 h10 hc0 hc1 x0 x1 x2 x3 x4 xs0 xs1 = k0_pay6 (k0_pay4 xs1 x1 xs0 x2) x3 x4 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xs0 xs1)]
  unfold kernelRun0_C
  dsimp only
  rw [View.canon_unit_zero z2]
  unfold kernelRun0_C.sl.v22
  unfold kernelRun0_C.sl.HS0_1
  simp only [View.readAt_eq_ld, View.readCov_unit_zero (S := S512x2048) _ z2, h3.read_unread, h4.read_unread, h5.read_unread, h6.read_unread, h9.read_unread, h10.read_unread, View.ld_unit_zero (S := S512x2048) z2, View.ld_unit_zero (S := S1x2048x1024) z3, View.ld_unit_zero (S := S1x1024x2048) z3, View.ld_unit_zero (S := S1x2048) z2]

end Body

variable (m : (ℓ : Loc nD τ sig) → Buf (Elt F) ℓ) (c : Dev nD)

/-- The carried sum after the first `f + 1` column blocks of row block `b`. -/
def acc (b : ℕ) : (f : ℕ) → 8 * b + f < cfg0.N → FVec F S512x2048 .f32
  | 0, h => k0_pay4 (k0_pay2 (iblk m c 0 ⟨8 * b, h⟩)) (iblk m c 1 ⟨8 * b, h⟩) (k0_pay3 (iblk m c 0 ⟨8 * b, h⟩)) (iblk m c 2 ⟨8 * b, h⟩)
  | f + 1, h => k0_pay4 (k0_pay2 (iblk m c 0 ⟨8 * b, by omega⟩)) (iblk m c 1 ⟨8 * b + (f + 1), h⟩) (acc b f (by omega)) (iblk m c 2 ⟨8 * b + (f + 1), h⟩)

/-- The state does not depend on how its point is written. -/
theorem at_eq {n k : ℕ} (e : n = k) (hn : n < cfg0.N) (hk : k < cfg0.N) : outsAt0 m c n hn = outsAt0 m c k hk := by subst e; rfl

theorem stA0 (t : Fin cfg0.N) (h0 : t.val % 8 = 0) (h1 : ¬t.val % 8 = 7) :
    (outsAt0 m c t.val t.isLt).2.2.1 = k0_pay4 (k0_pay2 (iblk m c 0 t)) (iblk m c 1 t) (k0_pay3 (iblk m c 0 t)) (iblk m c 2 t) := by
  rw [outsAt0_A m c t h0 h1]; dsimp only; rw [acc_A]

theorem stA1 (t : Fin cfg0.N) (h0 : t.val % 8 = 0) (h1 : ¬t.val % 8 = 7) :
    (outsAt0 m c t.val t.isLt).2.2.2 = k0_pay2 (iblk m c 0 t) := by
  rw [outsAt0_A m c t h0 h1]; dsimp only; rw [cast_A]

theorem stB0 (t : Fin cfg0.N) (h0 : ¬t.val % 8 = 0) (h1 : ¬t.val % 8 = 7) (n : ℕ) (hn : n < cfg0.N) (e : t.val - 1 = n) :
    (outsAt0 m c t.val t.isLt).2.2.1 = k0_pay4 (outsAt0 m c n hn).2.2.2 (iblk m c 1 t) (outsAt0 m c n hn).2.2.1 (iblk m c 2 t) := by
  subst e
  rw [outsAt0_B m c t h0 h1]; dsimp only; rw [acc_B]

theorem stB1 (t : Fin cfg0.N) (h0 : ¬t.val % 8 = 0) (h1 : ¬t.val % 8 = 7) (n : ℕ) (hn : n < cfg0.N) (e : t.val - 1 = n) :
    (outsAt0 m c t.val t.isLt).2.2.2 = (outsAt0 m c n hn).2.2.2 := by
  subst e
  rw [outsAt0_B m c t h0 h1]; dsimp only; unfold sout0_B_1; rfl

theorem stC5 (t : Fin cfg0.N) (h0 : ¬t.val % 8 = 0) (h1 : t.val % 8 = 7) (n : ℕ) (hn : n < cfg0.N) (e : t.val - 1 = n) :
    (outsAt0 m c t.val t.isLt).1 = k0_pay5 (k0_pay4 (outsAt0 m c n hn).2.2.2 (iblk m c 1 t) (outsAt0 m c n hn).2.2.1 (iblk m c 2 t)) (iblk m c 3 t) (iblk m c 4 t) := by
  subst e
  rw [outsAt0_C m c t h0 h1]; dsimp only; rw [out_C]

theorem stC6 (t : Fin cfg0.N) (h0 : ¬t.val % 8 = 0) (h1 : t.val % 8 = 7) (n : ℕ) (hn : n < cfg0.N) (e : t.val - 1 = n) :
    (outsAt0 m c t.val t.isLt).2.1 = k0_pay6 (k0_pay4 (outsAt0 m c n hn).2.2.2 (iblk m c 1 t) (outsAt0 m c n hn).2.2.1 (iblk m c 2 t)) (iblk m c 3 t) (iblk m c 4 t) := by
  subst e
  rw [outsAt0_C m c t h0 h1]; dsimp only; rw [outB_C]

/-- What is carried after column block `f` of row block `b`, but for the last. -/
theorem carried (b : ℕ) : ∀ (f : ℕ) (h : 8 * b + f < cfg0.N), f < 7 →
    (outsAt0 m c (8 * b + f) h).2.2.1 = acc m c b f h ∧ (outsAt0 m c (8 * b + f) h).2.2.2 = k0_pay2 (iblk m c 0 ⟨8 * b, by omega⟩)
  | 0, h, _ => ⟨stA0 m c ⟨8 * b, h⟩ (by dsimp only; omega) (by dsimp only; omega), stA1 m c ⟨8 * b, h⟩ (by dsimp only; omega) (by dsimp only; omega)⟩
  | f + 1, h, hf => by
    obtain ⟨i0, i1⟩ := carried b f (by omega) (by omega)
    have e0 := stB0 m c ⟨8 * b + (f + 1), h⟩ (by dsimp only; omega) (by dsimp only; omega) (8 * b + f) (by omega) (by dsimp only; omega)
    have e1 := stB1 m c ⟨8 * b + (f + 1), h⟩ (by dsimp only; omega) (by dsimp only; omega) (8 * b + f) (by omega) (by dsimp only; omega)
    rw [i0, i1] at e0
    exact ⟨e0, e1.trans i1⟩

/-- The two blocks written back at the end of row block `b`. -/
theorem written (b : ℕ) (h : 8 * b + 7 < cfg0.N) :
    (outsAt0 m c (8 * b + 7) h).1 = k0_pay5 (acc m c b 7 h) (iblk m c 3 ⟨8 * b + 7, h⟩) (iblk m c 4 ⟨8 * b + 7, h⟩)
    ∧ (outsAt0 m c (8 * b + 7) h).2.1 = k0_pay6 (acc m c b 7 h) (iblk m c 3 ⟨8 * b + 7, h⟩) (iblk m c 4 ⟨8 * b + 7, h⟩) := by
  obtain ⟨i0, i1⟩ := carried m c b 6 (by omega) (by omega)
  have e0 := stC5 m c ⟨8 * b + 7, h⟩ (by dsimp only; omega) (by dsimp only; omega) (8 * b + 6) (by omega) (by dsimp only; omega)
  have e1 := stC6 m c ⟨8 * b + 7, h⟩ (by dsimp only; omega) (by dsimp only; omega) (8 * b + 6) (by omega) (by dsimp only; omega)
  rw [i0, i1] at e0 e1
  exact ⟨e0, e1⟩

end Cert.Proof.Ffn
end
-- ==== Proof.FfnVal.lean ====
/- The feed-forward part: the kernel's two result arrays are the layer norm of the residual and the two products. -/
module

public import proofs.«01_k».proof.Proof.Ffn
public import proofs.«01_k».proof.Proof.Gen.Reference2Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.Ffn

open Cert.Kernel2Ideal Cert.Kernel2Ideal.Gen
open Idealize.ShloMosaic Idealize.ShloMosaic.TcCoe

/-- The normalisation of a row, with its gain and its shift at the entry. -/
def lnf (z : Fin 2048 → EReal) (g b : EReal) (j : Fin 2048) : EReal :=
  (z j - Ideal.div (∑ x, z x) (Ideal.ofBits .f32 0x45000000#32))
    * Ideal.rsqrt (Ideal.div (∑ x, (z x - Ideal.div (∑ y, z y) (Ideal.ofBits .f32 0x45000000#32)) * (z x - Ideal.div (∑ y, z y) (Ideal.ofBits .f32 0x45000000#32)))
        (Ideal.ofBits .f32 0x45000000#32) + Ideal.ofBits .f32 0x3727C5AC#32) * g + b

section Payloads

theorem pay2_apply (v : FVec Ideal S512x2048 .f32) (r : Fin 512) (j : Fin 2048) : (k0_pay2 (F := Ideal) v (ix2 r j) : EReal) = v (ix2 r j) := by
  pointwise [k0_pay2, k0_pay1]

theorem pay3_apply (v : FVec Ideal S512x2048 .f32) (r : Fin 512) (j : Fin 2048) :
    (k0_pay3 (F := Ideal) v (ix2 r j) : EReal) = Ideal.ofBits .f32 0x3FD744FD#32 * v (ix2 r j) := by
  pointwise [k0_pay3, k0_pay1]

theorem pay4_apply (v3 : FVec Ideal S512x2048 .bf16) (v4 : FVec Ideal S1x2048x1024 .bf16) (v9 : FVec Ideal S512x2048 .f32) (v12 : FVec Ideal S1x1024x2048 .bf16) (r : Fin 512) (j : Fin 2048) :
    (k0_pay4 (F := Ideal) v3 v4 v9 v12 (ix2 r j) : EReal) = v9 (ix2 r j)
      + ∑ x : Fin 1024, max (∑ d : Fin 2048, (v3 (ix2 r d) : EReal) * (v4 (ix3 0 d x) : EReal)) 0 * max (∑ d : Fin 2048, (v3 (ix2 r d) : EReal) * (v4 (ix3 0 d x) : EReal)) 0 * (v12 (ix3 0 x j) : EReal) := by
  pointwise [k0_pay4]

theorem pay5_apply (v : FVec Ideal S512x2048 .f32) (g b : FVec Ideal S1x2048 .f32) (r : Fin 512) (j : Fin 2048) :
    (k0_pay5 (F := Ideal) v g b (ix2 r j) : EReal) = lnf (fun x => v (ix2 r x)) (g (ix2 0 j)) (b (ix2 0 j)) j := by
  unfold lnf
  pointwise [k0_pay5]

theorem pay6_apply (v : FVec Ideal S512x2048 .f32) (g b : FVec Ideal S1x2048 .f32) (r : Fin 512) (j : Fin 2048) :
    (k0_pay6 (F := Ideal) v g b (ix2 r j) : EReal) = lnf (fun x => v (ix2 r x)) (g (ix2 0 j)) (b (ix2 0 j)) j := by
  refine Eq.trans ?_ (pay5_apply v g b r j)
  unfold k0_pay6
  rfl

end Payloads

section Spec

variable (X : FVec Ideal S4x8192x2048 .f32) (WU : FVec Ideal S4x2048x8192 .f32) (WD : FVec Ideal S4x8192x2048 .f32) (G B : FVec Ideal S4x2048 .f32)

/-- A row of the input. -/
def row (R : Fin 32768) (d : Fin 2048) : EReal := X (ix3 ⟨R.val / 8192, by omega⟩ ⟨R.val % 8192, by omega⟩ d)

/-- The hidden value before its square. -/
def hid (R : Fin 32768) (K : Fin 8192) : EReal := max (∑ d : Fin 2048, row X R d * (WU (ix3 3 d K) : EReal)) 0

/-- What one hidden column adds to an entry; nothing from columns that are not there. -/
def part (R : Fin 32768) (j : Fin 2048) (K : ℕ) : EReal :=
  if h : K < 8192 then hid X WU R ⟨K, h⟩ * hid X WU R ⟨K, h⟩ * (WD (ix3 3 ⟨K, h⟩ j) : EReal) else 0

/-- The residual and the products of the first `n` hidden columns. -/
def upto (R : Fin 32768) (n : ℕ) (j : Fin 2048) : EReal :=
  Ideal.ofBits .f32 0x3FD744FD#32 * row X R j + ∑ K ∈ Finset.range n, part X WU WD R j K

/-- The result. -/
def ffn : FVec Ideal S32768x2048 .f32 := fun i => lnf (upto X WU WD (i 0) 8192) (G (ix2 3 (i 1))) (B (ix2 3 (i 1))) (i 1)

/-- The result is the same rows in the narrower format. -/
def ffnB : FVec Ideal S32768x2048 .bf16 := fun i => lnf (upto X WU WD (i 0) 8192) (G (ix2 3 (i 1))) (B (ix2 3 (i 1))) (i 1)

theorem upto_step (R : Fin 32768) (f : ℕ) (hf : f < 8) (j : Fin 2048) :
    upto X WU WD R (1024 * (f + 1)) j = upto X WU WD R (1024 * f) j
      + ∑ x : Fin 1024, hid X WU R ⟨1024 * f + x.val, by omega⟩ * hid X WU R ⟨1024 * f + x.val, by omega⟩ * (WD (ix3 3 ⟨1024 * f + x.val, by omega⟩ j) : EReal) := by
  unfold upto
  rw [show 1024 * (f + 1) = 1024 * f + 1024 by omega, Finset.sum_range_add, add_assoc, Finset.sum_range (fun x => part X WU WD R j (1024 * f + x))]
  refine congrArg (fun q : EReal => Ideal.ofBits .f32 0x3FD744FD#32 * row X R j + (∑ K ∈ Finset.range (1024 * f), part X WU WD R j K + q)) (Finset.sum_congr rfl fun x _ => ?_)
  unfold part
  rw [dif_pos (by omega)]

theorem upto_zero (R : Fin 32768) (j : Fin 2048) : upto X WU WD R 0 j = Ideal.ofBits .f32 0x3FD744FD#32 * row X R j := by
  unfold upto
  rw [Finset.range_zero, Finset.sum_empty, add_zero]

theorem upto_all (R : Fin 32768) (j : Fin 2048) : upto X WU WD R 8192 j = Ideal.ofBits .f32 0x3FD744FD#32 * row X R j
    + ∑ K : Fin 8192, hid X WU R K * hid X WU R K * (WD (ix3 3 K j) : EReal) := by
  unfold upto
  rw [Finset.sum_range (fun K => part X WU WD R j K)]
  refine congrArg (fun q : EReal => Ideal.ofBits .f32 0x3FD744FD#32 * row X R j + q) (Finset.sum_congr rfl fun K _ => ?_)
  unfold part
  rw [dif_pos K.isLt]

end Spec

variable (m : (ℓ : Loc nD τ sig) → Buf (Elt Ideal) ℓ) (c : Dev nD)

/-- The arguments as arrays. -/
abbrev aX : FVec Ideal S4x8192x2048 .f32 := m ((c.tc : Thread nD τ).loc main_arg0)
abbrev aU : FVec Ideal S4x2048x8192 .f32 := m ((c.tc : Thread nD τ).loc main_arg1)
abbrev aD : FVec Ideal S4x8192x2048 .f32 := m ((c.tc : Thread nD τ).loc main_arg2)
abbrev aG : FVec Ideal S4x2048 .f32 := m ((c.tc : Thread nD τ).loc main_arg3)
abbrev aB : FVec Ideal S4x2048 .f32 := m ((c.tc : Thread nD τ).loc main_arg4)

/-- The inputs of the kernel. -/
abbrev vX : FVec Ideal S32768x2048 .f32 := V m c main_v0
abbrev vU : FVec Ideal S4x2048x8192 .bf16 := V m c main_v1
abbrev vD : FVec Ideal S4x8192x2048 .bf16 := V m c main_v2
abbrev vG : FVec Ideal S1x2048 .f32 := V m c main_v5
abbrev vB : FVec Ideal S1x2048 .f32 := V m c main_v8

theorem x_apply (R : Fin 32768) (d : Fin 2048) : (vX m c (ix2 R d) : EReal) = row (aX m c) R d := by
  unfold vX V row
  after_reads_at

theorem u_apply (l : Fin 4) (d : Fin 2048) (K : Fin 8192) : (vU m c (ix3 l d K) : EReal) = aU m c (ix3 l d K) := by
  unfold vU V
  after_reads_at

theorem d_apply (l : Fin 4) (K : Fin 8192) (j : Fin 2048) : (vD m c (ix3 l K j) : EReal) = aD m c (ix3 l K j) := by
  unfold vD V
  after_reads_at

theorem g_apply (j : Fin 2048) : (vG m c (ix2 0 j) : EReal) = aG m c (ix2 3 j) := by
  unfold vG V
  after_reads_at

theorem b_apply (j : Fin 2048) : (vB m c (ix2 0 j) : EReal) = aB m c (ix2 3 j) := by
  unfold vB V
  after_reads_at

theorem t_lt (t : Fin cfg0.N) : t.val < 512 := N_0 ▸ t.isLt
theorem tr0 : ∀ t : Fin cfg0.N, cc0_transform_0 (grid0.coords t) 0 = t.val / 8 ∧ cc0_transform_0 (grid0.coords t) 1 = 0 := by decide +kernel
theorem tr1 : ∀ t : Fin cfg0.N, cc0_transform_1 (grid0.coords t) 0 = 3 ∧ cc0_transform_1 (grid0.coords t) 1 = 0 ∧ cc0_transform_1 (grid0.coords t) 2 = t.val % 8 := by decide +kernel
theorem tr2 : ∀ t : Fin cfg0.N, cc0_transform_2 (grid0.coords t) 0 = 3 ∧ cc0_transform_2 (grid0.coords t) 1 = t.val % 8 ∧ cc0_transform_2 (grid0.coords t) 2 = 0 := by decide +kernel
theorem tr3 : ∀ t : Fin cfg0.N, cc0_transform_3 (grid0.coords t) 0 = 0 ∧ cc0_transform_3 (grid0.coords t) 1 = 0 := by decide +kernel
theorem tr4 : ∀ t : Fin cfg0.N, cc0_transform_4 (grid0.coords t) 0 = 0 ∧ cc0_transform_4 (grid0.coords t) 1 = 0 := by decide +kernel
theorem tr5 : ∀ t : Fin cfg0.N, cc0_transform_5 (grid0.coords t) 0 = t.val / 8 ∧ cc0_transform_5 (grid0.coords t) 1 = 0 := by decide +kernel
theorem tr6 : ∀ t : Fin cfg0.N, cc0_transform_6 (grid0.coords t) 0 = t.val / 8 ∧ cc0_transform_6 (grid0.coords t) 1 = 0 := by decide +kernel

theorem iblk_0 (t : Fin cfg0.N) (r : Fin 512) (d : Fin 2048) (R : Fin 32768) (hR : R.val = 512 * (t.val / 8) + r.val) :
    (iblk m c 0 t (ix2 r d) : EReal) = row (aX m c) R d := by
  obtain ⟨e0, e1⟩ := tr0 t
  rw [← x_apply]
  unfold iblk
  rw [View.read_apply]
  refine congrArg (V m c main_v0) (funext fun a => ?_)
  match a with
  | ⟨0, _⟩ =>
    refine Fin.ext ?_
    show cc0_transform_0 (grid0.coords t) 0 * 512 + 1 * r.val = R.val
    rw [e0, hR]; omega
  | ⟨1, _⟩ =>
    refine Fin.ext ?_
    show cc0_transform_0 (grid0.coords t) 1 * 2048 + 1 * d.val = d.val
    rw [e1]; omega

theorem iblk_1 (t : Fin cfg0.N) (d : Fin 2048) (x : Fin 1024) (K : Fin 8192) (hK : K.val = 1024 * (t.val % 8) + x.val) :
    (iblk m c 1 t (ix3 0 d x) : EReal) = aU m c (ix3 3 d K) := by
  obtain ⟨e0, e1, e2⟩ := tr1 t
  rw [← u_apply]
  unfold iblk
  rw [View.read_apply]
  refine congrArg (V m c main_v1) (funext fun a => ?_)
  match a with
  | ⟨0, _⟩ =>
    refine Fin.ext ?_
    show cc0_transform_1 (grid0.coords t) 0 * 1 + 1 * 0 = 3
    rw [e0]
  | ⟨1, _⟩ =>
    refine Fin.ext ?_
    show cc0_transform_1 (grid0.coords t) 1 * 2048 + 1 * d.val = d.val
    rw [e1]; omega
  | ⟨2, _⟩ =>
    refine Fin.ext ?_
    show cc0_transform_1 (grid0.coords t) 2 * 1024 + 1 * x.val = K.val
    rw [e2, hK]; omega

theorem iblk_2 (t : Fin cfg0.N) (x : Fin 1024) (j : Fin 2048) (K : Fin 8192) (hK : K.val = 1024 * (t.val % 8) + x.val) :
    (iblk m c 2 t (ix3 0 x j) : EReal) = aD m c (ix3 3 K j) := by
  obtain ⟨e0, e1, e2⟩ := tr2 t
  rw [← d_apply]
  unfold iblk
  rw [View.read_apply]
  refine congrArg (V m c main_v2) (funext fun a => ?_)
  match a with
  | ⟨0, _⟩ =>
    refine Fin.ext ?_
    show cc0_transform_2 (grid0.coords t) 0 * 1 + 1 * 0 = 3
    rw [e0]
  | ⟨1, _⟩ =>
    refine Fin.ext ?_
    show cc0_transform_2 (grid0.coords t) 1 * 1024 + 1 * x.val = K.val
    rw [e1, hK]; omega
  | ⟨2, _⟩ =>
    refine Fin.ext ?_
    show cc0_transform_2 (grid0.coords t) 2 * 2048 + 1 * j.val = j.val
    rw [e2]; omega

theorem iblk_3 (t : Fin cfg0.N) (j : Fin 2048) : (iblk m c 3 t (ix2 0 j) : EReal) = aG m c (ix2 3 j) := by
  obtain ⟨e0, e1⟩ := tr3 t
  rw [← g_apply]
  unfold iblk
  rw [View.read_apply]
  refine congrArg (V m c main_v5) (funext fun a => ?_)
  match a with
  | ⟨0, _⟩ =>
    refine Fin.ext ?_
    show cc0_transform_3 (grid0.coords t) 0 * 1 + 1 * 0 = 0
    rw [e0]
  | ⟨1, _⟩ =>
    refine Fin.ext ?_
    show cc0_transform_3 (grid0.coords t) 1 * 2048 + 1 * j.val = j.val
    rw [e1]; omega

theorem iblk_4 (t : Fin cfg0.N) (j : Fin 2048) : (iblk m c 4 t (ix2 0 j) : EReal) = aB m c (ix2 3 j) := by
  obtain ⟨e0, e1⟩ := tr4 t
  rw [← b_apply]
  unfold iblk
  rw [View.read_apply]
  refine congrArg (V m c main_v8) (funext fun a => ?_)
  match a with
  | ⟨0, _⟩ =>
    refine Fin.ext ?_
    show cc0_transform_4 (grid0.coords t) 0 * 1 + 1 * 0 = 0
    rw [e0]
  | ⟨1, _⟩ =>
    refine Fin.ext ?_
    show cc0_transform_4 (grid0.coords t) 1 * 2048 + 1 * j.val = j.val
    rw [e1]; omega

/-- One step of the accumulation. -/
theorem step (b f : ℕ) (hf : f < 8) (h : 8 * b + f < cfg0.N) (v : FVec Ideal S512x2048 .f32) (r : Fin 512) (j : Fin 2048) (R : Fin 32768) (hR : R.val = 512 * b + r.val)
    (hv : (v (ix2 r j) : EReal) = upto (aX m c) (aU m c) (aD m c) R (1024 * f) j) :
    (k0_pay4 (F := Ideal) (k0_pay2 (iblk m c 0 ⟨8 * b, by omega⟩)) (iblk m c 1 ⟨8 * b + f, h⟩) v (iblk m c 2 ⟨8 * b + f, h⟩) (ix2 r j) : EReal)
      = upto (aX m c) (aU m c) (aD m c) R (1024 * (f + 1)) j := by
  rw [pay4_apply, upto_step _ _ _ _ _ hf, hv]
  refine congrArg (fun q : EReal => upto (aX m c) (aU m c) (aD m c) R (1024 * f) j + q) (Finset.sum_congr rfl fun x _ => ?_)
  have e : (∑ d : Fin 2048, (k0_pay2 (F := Ideal) (iblk m c 0 ⟨8 * b, by omega⟩) (ix2 r d) : EReal) * (iblk m c 1 ⟨8 * b + f, h⟩ (ix3 0 d x) : EReal))
      = ∑ d : Fin 2048, row (aX m c) R d * (aU m c (ix3 3 d ⟨1024 * f + x.val, by omega⟩) : EReal) :=
    Finset.sum_congr rfl fun d _ => by
      rw [pay2_apply, iblk_0 m c _ r d R (by rw [hR]; dsimp only; omega), iblk_1 m c _ d x ⟨1024 * f + x.val, by omega⟩ (by dsimp only; omega)]
  rw [e, iblk_2 m c _ x j ⟨1024 * f + x.val, by omega⟩ (by dsimp only; omega)]
  rfl

/-- The carried sum, entry by entry. -/
theorem acc_apply (b : ℕ) (r : Fin 512) (j : Fin 2048) (R : Fin 32768) (hR : R.val = 512 * b + r.val) : ∀ (f : ℕ) (hf : f < 8) (h : 8 * b + f < cfg0.N),
    (acc m c b f h (ix2 r j) : EReal) = upto (aX m c) (aU m c) (aD m c) R (1024 * (f + 1)) j
  | 0, hf, h => by
    refine step m c b 0 hf h _ r j R hR ?_
    rw [pay3_apply, upto_zero, iblk_0 m c _ r j R (by rw [hR]; dsimp only; omega)]
  | f + 1, hf, h => by
    refine step m c b (f + 1) hf h _ r j R hR ?_
    exact acc_apply b r j R hR f (by omega) (by omega)

/-- The block written back at the end of a row block. -/
theorem out_apply (t : Fin cfg0.N) (h7 : t.val % 8 = 7) (r : Fin 512) (j : Fin 2048) (R : Fin 32768) (hR : R.val = 512 * (t.val / 8) + r.val) :
    ((outsAt0 m c t.val t.isLt).1 (ix2 r j) : EReal) = ffn (aX m c) (aU m c) (aD m c) (aG m c) (aB m c) (ix2 R j)
    ∧ ((outsAt0 m c t.val t.isLt).2.1 (ix2 r j) : EReal) = ffn (aX m c) (aU m c) (aD m c) (aG m c) (aB m c) (ix2 R j) := by
  have hb : 8 * (t.val / 8) + 7 < cfg0.N := by have := t.isLt; omega
  have e := at_eq m c (show t.val = 8 * (t.val / 8) + 7 by omega) t.isLt hb
  obtain ⟨w0, w1⟩ := written m c (t.val / 8) hb
  have z : (fun x : Fin 2048 => (acc m c (t.val / 8) 7 hb (ix2 r x) : EReal)) = upto (aX m c) (aU m c) (aD m c) R 8192 :=
    funext fun x => acc_apply m c (t.val / 8) r x R hR 7 (by omega) hb
  rw [e, w0, w1]
  constructor
  · rw [pay5_apply, iblk_3, iblk_4]
    exact congrArg (fun q => lnf q _ _ j) z
  · rw [pay6_apply, iblk_3, iblk_4]
    exact congrArg (fun q => lnf q _ _ j) z

theorem emb_5 (t : Fin cfg0.N) (r : Fin 512) (j : Fin 2048) :
    ((cfg0.win 5).blk t).view.emb (ix2 r j) = ix2 (⟨512 * (t.val / 8) + r.val, by have := t_lt t; omega⟩ : Fin 32768) j := by
  obtain ⟨e0, e1⟩ := tr5 t
  refine funext fun a => ?_
  match a with
  | ⟨0, _⟩ =>
    refine Fin.ext ?_
    show cc0_transform_5 (grid0.coords t) 0 * 512 + 1 * r.val = 512 * (t.val / 8) + r.val
    rw [e0]; omega
  | ⟨1, _⟩ =>
    refine Fin.ext ?_
    show cc0_transform_5 (grid0.coords t) 1 * 2048 + 1 * j.val = j.val
    rw [e1]; omega

theorem emb_6 (t : Fin cfg0.N) (r : Fin 512) (j : Fin 2048) :
    ((cfg0.win 6).blk t).view.emb (ix2 r j) = ix2 (⟨512 * (t.val / 8) + r.val, by have := t_lt t; omega⟩ : Fin 32768) j := by
  obtain ⟨e0, e1⟩ := tr6 t
  refine funext fun a => ?_
  match a with
  | ⟨0, _⟩ =>
    refine Fin.ext ?_
    show cc0_transform_6 (grid0.coords t) 0 * 512 + 1 * r.val = 512 * (t.val / 8) + r.val
    rw [e0]; omega
  | ⟨1, _⟩ =>
    refine Fin.ext ?_
    show cc0_transform_6 (grid0.coords t) 1 * 2048 + 1 * j.val = j.val
    rw [e1]; omega

theorem blk5_eq (t : Fin cfg0.N) (h7 : t.val % 8 = 7) (y : S512x2048.Idx) :
    (outsAt0 m c t.val t.isLt).1 y = ffn (aX m c) (aU m c) (aD m c) (aG m c) (aB m c) (((cfg0.win 5).blk t).view.emb y) := by
  obtain ⟨r, j, rfl⟩ : ∃ (r : Fin 512) (j : Fin 2048), y = ix2 r j := ⟨y 0, y 1, funext fun a => by match a with | ⟨0, _⟩ => rfl | ⟨1, _⟩ => rfl⟩
  rw [emb_5]
  exact (out_apply m c t h7 r j _ rfl).1

theorem blk6_eq (t : Fin cfg0.N) (h7 : t.val % 8 = 7) (y : S512x2048.Idx) :
    (outsAt0 m c t.val t.isLt).2.1 y = ffnB (aX m c) (aU m c) (aD m c) (aG m c) (aB m c) (((cfg0.win 6).blk t).view.emb y) := by
  obtain ⟨r, j, rfl⟩ : ∃ (r : Fin 512) (j : Fin 2048), y = ix2 r j := ⟨y 0, y 1, funext fun a => by match a with | ⟨0, _⟩ => rfl | ⟨1, _⟩ => rfl⟩
  rw [emb_6]
  exact (out_apply m c t h7 r j _ rfl).2

/-- The kernel's first result array. -/
theorem out5_eq : (dats m 0 c).arrAt 5 cfg0.N = ffn (aX m c) (aU m c) (aD m c) (aG m c) (aB m c) := by
  refine (dats m 0 c).arrAt_eq_of_covers 5 _ (by decide +kernel) fun t hf y => ?_
  show (cfg0.win 5).cut (grid0.coords t) ((dats m 0 c).after 5 t) y = _
  rw [after0_5]
  exact blk5_eq m c t ((flush0_5 t).mp hf) y

/-- The kernel's second result array. -/
theorem out6_eq : (dats m 0 c).arrAt 6 cfg0.N = ffnB (aX m c) (aU m c) (aD m c) (aG m c) (aB m c) := by
  refine (dats m 0 c).arrAt_eq_of_covers 6 _ (by decide +kernel) fun t hf y => ?_
  show (cfg0.win 6).cut (grid0.coords t) ((dats m 0 c).after 6 t) y = _
  rw [after0_6]
  exact blk6_eq m c t ((flush0_6 t).mp hf) y

end Cert.Proof.Ffn
end
-- ==== Proof.FfnRef.lean ====
/- The feed-forward part: the reference's two results are the layer norm of the residual and the two products. -/
module

public import proofs.«01_k».proof.Proof.FfnVal

@[expose] public section

set_option maxRecDepth 16384
set_option maxHeartbeats 1000000

noncomputable section

namespace Cert.Proof.Ffn

open Cert.Reference2Ideal
open Idealize.ShloMosaic Idealize.ShloMosaic.TcCoe

variable (m : (ℓ : Loc nD τ sig) → Buf (Elt Ideal) ℓ) (c : Dev nD)

/-- The reference's arguments as arrays. -/
abbrev rX : FVec Ideal S4x8192x2048 .f32 := m ((c.tc : Thread nD τ).loc main_arg0)
abbrev rU : FVec Ideal S4x2048x8192 .f32 := m ((c.tc : Thread nD τ).loc main_arg1)
abbrev rD : FVec Ideal S4x8192x2048 .f32 := m ((c.tc : Thread nD τ).loc main_arg2)
abbrev rG : FVec Ideal S4x2048 .f32 := m ((c.tc : Thread nD τ).loc main_arg3)
abbrev rB : FVec Ideal S4x2048 .f32 := m ((c.tc : Thread nD τ).loc main_arg4)

/-- The reference's results. -/
def res0 : FVec Ideal S32768x2048 .f32 := Value.res_main_v39 (F := Ideal) m c
def res1 : FVec Ideal S32768x2048 .bf16 := Value.res_main_v40 (F := Ideal) m c

theorem res0_apply (R : Fin 32768) (j : Fin 2048) : (res0 m c (ix2 R j) : EReal) = ffn (rX m c) (rU m c) (rD m c) (rG m c) (rB m c) (ix2 R j) := by
  have e : upto (rX m c) (rU m c) (rD m c) R 8192 = fun j => Ideal.ofBits .f32 0x3FD744FD#32 * row (rX m c) R j
    + ∑ K : Fin 8192, hid (rX m c) (rU m c) R K * hid (rX m c) (rU m c) R K * (rD m c (ix3 3 K j) : EReal) := funext fun j => upto_all ..
  show _ = lnf (upto (rX m c) (rU m c) (rD m c) R 8192) (rG m c (ix2 3 j)) (rB m c (ix2 3 j)) j
  rw [e]
  unfold lnf hid row
  pointwise [res0, Value.res_main_v39]

theorem res1_apply (R : Fin 32768) (j : Fin 2048) : (res1 m c (ix2 R j) : EReal) = res0 m c (ix2 R j) := by
  unfold res1 res0 Value.res_main_v40 Value.res_main_v39
  rfl

theorem res0_eq : res0 m c = ffn (rX m c) (rU m c) (rD m c) (rG m c) (rB m c) := by
  funext i
  obtain ⟨R, j, rfl⟩ : ∃ (R : Fin 32768) (j : Fin 2048), i = ix2 R j := ⟨i 0, i 1, funext fun a => by match a with | ⟨0, _⟩ => rfl | ⟨1, _⟩ => rfl⟩
  exact res0_apply m c R j

theorem res1_eq : res1 m c = ffnB (rX m c) (rU m c) (rD m c) (rG m c) (rB m c) := by
  funext i
  obtain ⟨R, j, rfl⟩ : ∃ (R : Fin 32768) (j : Fin 2048), i = ix2 R j := ⟨i 0, i 1, funext fun a => by match a with | ⟨0, _⟩ => rfl | ⟨1, _⟩ => rfl⟩
  exact (res1_apply m c R j).trans (res0_apply m c R j)

end Cert.Proof.Ffn
end
-- ==== Proof.OutProj.lean ====
/- The output projection with its layer norm: the kernel's blocks are the normalised rows of the residual and the three products. -/
module

public import proofs.«01_k».proof.Proof.FfnVal
public import proofs.«01_k».proof.Proof.Gen.Kernel3Ideal.Value
public import proofs.«01_k».proof.Proof.Gen.Reference3Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.OutProj

open Cert.Kernel3Ideal Cert.Kernel3Ideal.Gen
open Idealize.ShloMosaic Idealize.ShloMosaic.TcCoe
open Cert.Proof.Ffn (lnf)

section Payloads

theorem pay2_apply (v : FVec Ideal S1x2048 .f32) (j : Fin 2048) : (k0_pay2 (F := Ideal) v (ix2 0 j) : EReal) = v (ix2 0 j) := by
  pointwise [k0_pay2]

theorem pay3_apply (v : FVec Ideal S1x2048 .f32) (j : Fin 2048) : (k0_pay3 (F := Ideal) v (ix2 0 j) : EReal) = v (ix2 0 j) := by
  pointwise [k0_pay3]

/-- A row of the residual and the three products, in the blocks the body loads. -/
def zb (v0 : FVec Ideal S512x768 .bf16) (v2 : FVec Ideal S1x768x2048 .bf16) (v5 : FVec Ideal S512x640 .bf16) (v7 : FVec Ideal S1x640x2048 .bf16)
    (v11 : FVec Ideal S512x640 .bf16) (v13 : FVec Ideal S1x640x2048 .bf16) (v17 : FVec Ideal S512x2048 .f32) (r : Fin 512) (j : Fin 2048) : EReal :=
  Ideal.ofBits .f32 0x3FD744FD#32 * v17 (ix2 r j) + (∑ k : Fin 768, (v0 (ix2 r k) : EReal) * (v2 (ix3 0 k j) : EReal)
    + ∑ k : Fin 640, (v5 (ix2 r k) : EReal) * (v7 (ix3 0 k j) : EReal) + ∑ k : Fin 640, (v11 (ix2 r k) : EReal) * (v13 (ix3 0 k j) : EReal))

theorem pay4_apply (v0 : FVec Ideal S512x768 .bf16) (v2 : FVec Ideal S1x768x2048 .bf16) (v5 : FVec Ideal S512x640 .bf16) (v7 : FVec Ideal S1x640x2048 .bf16)
    (v11 : FVec Ideal S512x640 .bf16) (v13 : FVec Ideal S1x640x2048 .bf16) (v17 : FVec Ideal S512x2048 .f32) (r : Fin 512) (j : Fin 2048) :
    (k0_pay4 (F := Ideal) v0 v2 v5 v7 v11 v13 v17 (ix2 r j) : EReal)
      = zb v0 v2 v5 v7 v11 v13 v17 r j - Ideal.div (∑ x : Fin 2048, zb v0 v2 v5 v7 v11 v13 v17 r x) (Ideal.ofBits .f32 0x45000000#32) := by
  unfold zb
  pointwise [k0_pay4]

theorem pay1_apply (g b : FVec Ideal S1x2048 .f32) (v : FVec Ideal S512x2048 .f32) (r : Fin 512) (j : Fin 2048) :
    (k0_pay1 (F := Ideal) g b v (ix2 r j) : EReal) = v (ix2 r j)
      * Ideal.rsqrt (Ideal.div (∑ x : Fin 2048, (v (ix2 r x) : EReal) * (v (ix2 r x) : EReal)) (Ideal.ofBits .f32 0x45000000#32) + Ideal.ofBits .f32 0x3727C5AC#32)
      * g (ix2 0 j) + b (ix2 0 j) := by
  pointwise [k0_pay1]

/-- The three row blocks of the weight the body loads. -/
theorem ld_1 (W : FVec Ideal S1x2048x2048 .bf16) (k : Fin 768) (j : Fin 2048) : (View.ld (Val := Elt Ideal) (e' := .bf16) W r0_1 (ix3 0 k j) : EReal) = W (ix3 0 ⟨k.val, by omega⟩ j) := by
  refine congrArg W (funext fun a => ?_)
  match a with
  | ⟨0, _⟩ => rfl
  | ⟨1, _⟩ => exact Fin.ext (show 0 + 1 * k.val = k.val by omega)
  | ⟨2, _⟩ => exact Fin.ext (show 0 + 1 * j.val = j.val by omega)

theorem ld_3 (W : FVec Ideal S1x2048x2048 .bf16) (k : Fin 640) (j : Fin 2048) : (View.ld (Val := Elt Ideal) (e' := .bf16) W r0_3 (ix3 0 k j) : EReal) = W (ix3 0 ⟨768 + k.val, by omega⟩ j) := by
  refine congrArg W (funext fun a => ?_)
  match a with
  | ⟨0, _⟩ => rfl
  | ⟨1, _⟩ => exact Fin.ext (show 768 + 1 * k.val = 768 + k.val by omega)
  | ⟨2, _⟩ => exact Fin.ext (show 0 + 1 * j.val = j.val by omega)

theorem ld_4 (W : FVec Ideal S1x2048x2048 .bf16) (k : Fin 640) (j : Fin 2048) : (View.ld (Val := Elt Ideal) (e' := .bf16) W r0_4 (ix3 0 k j) : EReal) = W (ix3 0 ⟨1408 + k.val, by omega⟩ j) := by
  refine congrArg W (funext fun a => ?_)
  match a with
  | ⟨0, _⟩ => rfl
  | ⟨1, _⟩ => exact Fin.ext (show 1408 + 1 * k.val = 1408 + k.val by omega)
  | ⟨2, _⟩ => exact Fin.ext (show 0 + 1 * j.val = j.val by omega)

/-- The residual and the three products of a row, in the whole blocks. -/
def zw (x : FVec Ideal S512x2048 .f32) (yf : FVec Ideal S512x768 .bf16) (yr yt : FVec Ideal S512x640 .bf16) (W : FVec Ideal S1x2048x2048 .bf16) (r : Fin 512) (j : Fin 2048) : EReal :=
  Ideal.ofBits .f32 0x3FD744FD#32 * x (ix2 r j) + (∑ k : Fin 768, (yf (ix2 r k) : EReal) * (W (ix3 0 ⟨k.val, by omega⟩ j) : EReal)
    + ∑ k : Fin 640, (yr (ix2 r k) : EReal) * (W (ix3 0 ⟨768 + k.val, by omega⟩ j) : EReal) + ∑ k : Fin 640, (yt (ix2 r k) : EReal) * (W (ix3 0 ⟨1408 + k.val, by omega⟩ j) : EReal))

/-- What the body leaves, entry by entry. -/
theorem out_apply (x : FVec Ideal S512x2048 .f32) (yf : FVec Ideal S512x768 .bf16) (yr yt : FVec Ideal S512x640 .bf16) (W : FVec Ideal S1x2048x2048 .bf16)
    (g b : FVec Ideal S1x2048 .f32) (r : Fin 512) (j : Fin 2048) :
    (out0_7 (F := Ideal) x yf yr yt W g b (ix2 r j) : EReal) = lnf (zw x yf yr yt W r) (g (ix2 0 j)) (b (ix2 0 j)) j := by
  unfold out0_7
  rw [View.canon_unit_zero (S := S512x2048) (by decide), View.ld_unit_zero (S := S512x2048) (by decide), View.ld_unit_zero (S := S512x768) (by decide)]
  simp only [View.ld_unit_zero (S := S512x640) (by decide : (![0, 0] : Fin 2 → ℕ) = fun _ => 0), View.ld_unit_zero (S := S1x2048) (by decide : (![0, 0] : Fin 2 → ℕ) = fun _ => 0)]
  rw [pay1_apply, pay2_apply, pay3_apply]
  have e : ∀ q : Fin 2048, zb yf (View.ld (Val := Elt Ideal) (e' := .bf16) W r0_1) yr (View.ld (Val := Elt Ideal) (e' := .bf16) W r0_3) yt (View.ld (Val := Elt Ideal) (e' := .bf16) W r0_4) x r q = zw x yf yr yt W r q := fun q => by
    unfold zb zw
    exact congrArg (fun a : EReal => _ + a) (congrArg₂ (fun a b : EReal => a + b) (congrArg₂ (fun a b : EReal => a + b)
      (Finset.sum_congr rfl fun k _ => congrArg (fun a : EReal => _ * a) (ld_1 W k q)) (Finset.sum_congr rfl fun k _ => congrArg (fun a : EReal => _ * a) (ld_3 W k q)))
      (Finset.sum_congr rfl fun k _ => congrArg (fun a : EReal => _ * a) (ld_4 W k q)))
  simp only [pay4_apply, e]
  rfl

end Payloads

section Spec

variable (X : FVec Ideal S4x8192x2048 .f32) (YF : FVec Ideal S4x8192x768 .f32) (YR YT : FVec Ideal S4x8192x640 .f32) (W : FVec Ideal S4x2048x2048 .f32) (G B : FVec Ideal S4x2048 .f32)

/-- The residual and the three products of a row. -/
def z (R : Fin 32768) (j : Fin 2048) : EReal :=
  Ideal.ofBits .f32 0x3FD744FD#32 * X (ix3 ⟨R.val / 8192, by omega⟩ ⟨R.val % 8192, by omega⟩ j)
    + (∑ k : Fin 768, (YF (ix3 ⟨R.val / 8192, by omega⟩ ⟨R.val % 8192, by omega⟩ k) : EReal) * (W (ix3 3 ⟨k.val, by omega⟩ j) : EReal)
    + ∑ k : Fin 640, (YR (ix3 ⟨R.val / 8192, by omega⟩ ⟨R.val % 8192, by omega⟩ k) : EReal) * (W (ix3 3 ⟨768 + k.val, by omega⟩ j) : EReal)
    + ∑ k : Fin 640, (YT (ix3 ⟨R.val / 8192, by omega⟩ ⟨R.val % 8192, by omega⟩ k) : EReal) * (W (ix3 3 ⟨1408 + k.val, by omega⟩ j) : EReal))

/-- The result. -/
def spec : FVec Ideal S32768x2048 .f32 := fun i => lnf (z X YF YR YT W (i 0)) (G (ix2 3 (i 1))) (B (ix2 3 (i 1))) (i 1)

end Spec

variable (m : (ℓ : Loc nD τ sig) → Buf (Elt Ideal) ℓ) (c : Dev nD)

/-- The arguments as arrays. -/
abbrev aX : FVec Ideal S4x8192x2048 .f32 := m ((c.tc : Thread nD τ).loc main_arg0)
abbrev aF : FVec Ideal S4x8192x768 .f32 := m ((c.tc : Thread nD τ).loc main_arg1)
abbrev aR : FVec Ideal S4x8192x640 .f32 := m ((c.tc : Thread nD τ).loc main_arg2)
abbrev aT : FVec Ideal S4x8192x640 .f32 := m ((c.tc : Thread nD τ).loc main_arg3)
abbrev aW : FVec Ideal S4x2048x2048 .f32 := m ((c.tc : Thread nD τ).loc main_arg4)
abbrev aG : FVec Ideal S4x2048 .f32 := m ((c.tc : Thread nD τ).loc main_arg5)
abbrev aB : FVec Ideal S4x2048 .f32 := m ((c.tc : Thread nD τ).loc main_arg6)

/-- The inputs of the kernel. -/
abbrev vX : FVec Ideal S32768x2048 .f32 := V m c main_v0
abbrev vF : FVec Ideal S32768x768 .bf16 := V m c main_v2
abbrev vR : FVec Ideal S32768x640 .bf16 := V m c main_v4
abbrev vT : FVec Ideal S32768x640 .bf16 := V m c main_v6
abbrev vW : FVec Ideal S4x2048x2048 .bf16 := V m c main_v7
abbrev vG : FVec Ideal S1x2048 .f32 := V m c main_v10
abbrev vB : FVec Ideal S1x2048 .f32 := V m c main_v13

theorem x_apply (R : Fin 32768) (d : Fin 2048) : (vX m c (ix2 R d) : EReal) = aX m c (ix3 ⟨R.val / 8192, by omega⟩ ⟨R.val % 8192, by omega⟩ d) := by
  unfold vX V
  after_reads_at

theorem f_apply (R : Fin 32768) (d : Fin 768) : (vF m c (ix2 R d) : EReal) = aF m c (ix3 ⟨R.val / 8192, by omega⟩ ⟨R.val % 8192, by omega⟩ d) := by
  unfold vF V
  after_reads_at

theorem r_apply (R : Fin 32768) (d : Fin 640) : (vR m c (ix2 R d) : EReal) = aR m c (ix3 ⟨R.val / 8192, by omega⟩ ⟨R.val % 8192, by omega⟩ d) := by
  unfold vR V
  after_reads_at

theorem t_apply (R : Fin 32768) (d : Fin 640) : (vT m c (ix2 R d) : EReal) = aT m c (ix3 ⟨R.val / 8192, by omega⟩ ⟨R.val % 8192, by omega⟩ d) := by
  unfold vT V
  after_reads_at

theorem w_apply (l : Fin 4) (k j : Fin 2048) : (vW m c (ix3 l k j) : EReal) = aW m c (ix3 l k j) := by
  unfold vW V
  after_reads_at

theorem g_apply (j : Fin 2048) : (vG m c (ix2 0 j) : EReal) = aG m c (ix2 3 j) := by
  unfold vG V
  after_reads_at

theorem b_apply (j : Fin 2048) : (vB m c (ix2 0 j) : EReal) = aB m c (ix2 3 j) := by
  unfold vB V
  after_reads_at

theorem t_lt (t : Fin cfg0.N) : t.val < 64 := N_0 ▸ t.isLt
theorem tr0 : ∀ t : Fin cfg0.N, cc0_transform_0 (grid0.coords t) 0 = t.val ∧ cc0_transform_0 (grid0.coords t) 1 = 0 := by decide +kernel
theorem tr1 : ∀ t : Fin cfg0.N, cc0_transform_1 (grid0.coords t) 0 = t.val ∧ cc0_transform_1 (grid0.coords t) 1 = 0 := by decide +kernel
theorem tr2 : ∀ t : Fin cfg0.N, cc0_transform_2 (grid0.coords t) 0 = t.val ∧ cc0_transform_2 (grid0.coords t) 1 = 0 := by decide +kernel
theorem tr3 : ∀ t : Fin cfg0.N, cc0_transform_3 (grid0.coords t) 0 = t.val ∧ cc0_transform_3 (grid0.coords t) 1 = 0 := by decide +kernel
theorem tr7 : ∀ t : Fin cfg0.N, cc0_transform_7 (grid0.coords t) 0 = t.val ∧ cc0_transform_7 (grid0.coords t) 1 = 0 := by decide +kernel
theorem tr4 : ∀ t : Fin cfg0.N, cc0_transform_4 (grid0.coords t) 0 = 3 ∧ cc0_transform_4 (grid0.coords t) 1 = 0 ∧ cc0_transform_4 (grid0.coords t) 2 = 0 := by decide +kernel
theorem tr5 : ∀ t : Fin cfg0.N, cc0_transform_5 (grid0.coords t) 0 = 0 ∧ cc0_transform_5 (grid0.coords t) 1 = 0 := by decide +kernel
theorem tr6 : ∀ t : Fin cfg0.N, cc0_transform_6 (grid0.coords t) 0 = 0 ∧ cc0_transform_6 (grid0.coords t) 1 = 0 := by decide +kernel

theorem iblk_0 (t : Fin cfg0.N) (r : Fin 512) (d : Fin 2048) (R : Fin 32768) (hR : R.val = 512 * t.val + r.val) :
    (iblk m c 0 t (ix2 r d) : EReal) = aX m c (ix3 ⟨R.val / 8192, by omega⟩ ⟨R.val % 8192, by omega⟩ d) := by
  obtain ⟨e0, e1⟩ := tr0 t
  rw [← x_apply]
  unfold iblk
  rw [View.read_apply]
  refine congrArg (V m c main_v0) (funext fun a => ?_)
  match a with
  | ⟨0, _⟩ =>
    refine Fin.ext ?_
    show cc0_transform_0 (grid0.coords t) 0 * 512 + 1 * r.val = R.val
    rw [e0, hR]; omega
  | ⟨1, _⟩ =>
    refine Fin.ext ?_
    show cc0_transform_0 (grid0.coords t) 1 * 2048 + 1 * d.val = d.val
    rw [e1]; omega

theorem iblk_1 (t : Fin cfg0.N) (r : Fin 512) (d : Fin 768) (R : Fin 32768) (hR : R.val = 512 * t.val + r.val) :
    (iblk m c 1 t (ix2 r d) : EReal) = aF m c (ix3 ⟨R.val / 8192, by omega⟩ ⟨R.val % 8192, by omega⟩ d) := by
  obtain ⟨e0, e1⟩ := tr1 t
  rw [← f_apply]
  unfold iblk
  rw [View.read_apply]
  refine congrArg (V m c main_v2) (funext fun a => ?_)
  match a with
  | ⟨0, _⟩ =>
    refine Fin.ext ?_
    show cc0_transform_1 (grid0.coords t) 0 * 512 + 1 * r.val = R.val
    rw [e0, hR]; omega
  | ⟨1, _⟩ =>
    refine Fin.ext ?_
    show cc0_transform_1 (grid0.coords t) 1 * 768 + 1 * d.val = d.val
    rw [e1]; omega

theorem iblk_2 (t : Fin cfg0.N) (r : Fin 512) (d : Fin 640) (R : Fin 32768) (hR : R.val = 512 * t.val + r.val) :
    (iblk m c 2 t (ix2 r d) : EReal) = aR m c (ix3 ⟨R.val / 8192, by omega⟩ ⟨R.val % 8192, by omega⟩ d) := by
  obtain ⟨e0, e1⟩ := tr2 t
  rw [← r_apply]
  unfold iblk
  rw [View.read_apply]
  refine congrArg (V m c main_v4) (funext fun a => ?_)
  match a with
  | ⟨0, _⟩ =>
    refine Fin.ext ?_
    show cc0_transform_2 (grid0.coords t) 0 * 512 + 1 * r.val = R.val
    rw [e0, hR]; omega
  | ⟨1, _⟩ =>
    refine Fin.ext ?_
    show cc0_transform_2 (grid0.coords t) 1 * 640 + 1 * d.val = d.val
    rw [e1]; omega

theorem iblk_3 (t : Fin cfg0.N) (r : Fin 512) (d : Fin 640) (R : Fin 32768) (hR : R.val = 512 * t.val + r.val) :
    (iblk m c 3 t (ix2 r d) : EReal) = aT m c (ix3 ⟨R.val / 8192, by omega⟩ ⟨R.val % 8192, by omega⟩ d) := by
  obtain ⟨e0, e1⟩ := tr3 t
  rw [← t_apply]
  unfold iblk
  rw [View.read_apply]
  refine congrArg (V m c main_v6) (funext fun a => ?_)
  match a with
  | ⟨0, _⟩ =>
    refine Fin.ext ?_
    show cc0_transform_3 (grid0.coords t) 0 * 512 + 1 * r.val = R.val
    rw [e0, hR]; omega
  | ⟨1, _⟩ =>
    refine Fin.ext ?_
    show cc0_transform_3 (grid0.coords t) 1 * 640 + 1 * d.val = d.val
    rw [e1]; omega

theorem iblk_4 (t : Fin cfg0.N) (k j : Fin 2048) : (iblk m c 4 t (ix3 0 k j) : EReal) = aW m c (ix3 3 k j) := by
  obtain ⟨e0, e1, e2⟩ := tr4 t
  rw [← w_apply]
  unfold iblk
  rw [View.read_apply]
  refine congrArg (V m c main_v7) (funext fun a => ?_)
  match a with
  | ⟨0, _⟩ =>
    refine Fin.ext ?_
    show cc0_transform_4 (grid0.coords t) 0 * 1 + 1 * 0 = 3
    rw [e0]
  | ⟨1, _⟩ =>
    refine Fin.ext ?_
    show cc0_transform_4 (grid0.coords t) 1 * 2048 + 1 * k.val = k.val
    rw [e1]; omega
  | ⟨2, _⟩ =>
    refine Fin.ext ?_
    show cc0_transform_4 (grid0.coords t) 2 * 2048 + 1 * j.val = j.val
    rw [e2]; omega

theorem iblk_5 (t : Fin cfg0.N) (j : Fin 2048) : (iblk m c 5 t (ix2 0 j) : EReal) = aG m c (ix2 3 j) := by
  obtain ⟨e0, e1⟩ := tr5 t
  rw [← g_apply]
  unfold iblk
  rw [View.read_apply]
  refine congrArg (V m c main_v10) (funext fun a => ?_)
  match a with
  | ⟨0, _⟩ =>
    refine Fin.ext ?_
    show cc0_transform_5 (grid0.coords t) 0 * 1 + 1 * 0 = 0
    rw [e0]
  | ⟨1, _⟩ =>
    refine Fin.ext ?_
    show cc0_transform_5 (grid0.coords t) 1 * 2048 + 1 * j.val = j.val
    rw [e1]; omega

theorem iblk_6 (t : Fin cfg0.N) (j : Fin 2048) : (iblk m c 6 t (ix2 0 j) : EReal) = aB m c (ix2 3 j) := by
  obtain ⟨e0, e1⟩ := tr6 t
  rw [← b_apply]
  unfold iblk
  rw [View.read_apply]
  refine congrArg (V m c main_v13) (funext fun a => ?_)
  match a with
  | ⟨0, _⟩ =>
    refine Fin.ext ?_
    show cc0_transform_6 (grid0.coords t) 0 * 1 + 1 * 0 = 0
    rw [e0]
  | ⟨1, _⟩ =>
    refine Fin.ext ?_
    show cc0_transform_6 (grid0.coords t) 1 * 2048 + 1 * j.val = j.val
    rw [e1]; omega

theorem emb_7 (t : Fin cfg0.N) (r : Fin 512) (j : Fin 2048) :
    ((cfg0.win 7).blk t).view.emb (ix2 r j) = ix2 (⟨512 * t.val + r.val, by have := t_lt t; omega⟩ : Fin 32768) j := by
  obtain ⟨e0, e1⟩ := tr7 t
  refine funext fun a => ?_
  match a with
  | ⟨0, _⟩ =>
    refine Fin.ext ?_
    show cc0_transform_7 (grid0.coords t) 0 * 512 + 1 * r.val = 512 * t.val + r.val
    rw [e0]; omega
  | ⟨1, _⟩ =>
    refine Fin.ext ?_
    show cc0_transform_7 (grid0.coords t) 1 * 2048 + 1 * j.val = j.val
    rw [e1]; omega

/-- A row of the point's blocks is a row of the arguments. -/
theorem zw_eq (t : Fin cfg0.N) (r : Fin 512) (R : Fin 32768) (hR : R.val = 512 * t.val + r.val) :
    zw (iblk m c 0 t) (iblk m c 1 t) (iblk m c 2 t) (iblk m c 3 t) (iblk m c 4 t) r = z (aX m c) (aF m c) (aR m c) (aT m c) (aW m c) R := by
  funext j
  unfold zw z
  refine congrArg₂ (fun a b : EReal => a + b) (congrArg (fun a : EReal => _ * a) (iblk_0 m c t r j R hR))
    (congrArg₂ (fun a b : EReal => a + b) (congrArg₂ (fun a b : EReal => a + b) (Finset.sum_congr rfl fun k _ => ?_) (Finset.sum_congr rfl fun k _ => ?_)) (Finset.sum_congr rfl fun k _ => ?_))
  · exact congrArg₂ (fun a b : EReal => a * b) (iblk_1 m c t r k R hR) (iblk_4 m c t _ j)
  · exact congrArg₂ (fun a b : EReal => a * b) (iblk_2 m c t r k R hR) (iblk_4 m c t _ j)
  · exact congrArg₂ (fun a b : EReal => a * b) (iblk_3 m c t r k R hR) (iblk_4 m c t _ j)

theorem blk_eq (t : Fin cfg0.N) (y : S512x2048.Idx) :
    out0_7 (iblk m c 0 t) (iblk m c 1 t) (iblk m c 2 t) (iblk m c 3 t) (iblk m c 4 t) (iblk m c 5 t) (iblk m c 6 t) y
      = spec (aX m c) (aF m c) (aR m c) (aT m c) (aW m c) (aG m c) (aB m c) (((cfg0.win 7).blk t).view.emb y) := by
  obtain ⟨r, j, rfl⟩ : ∃ (r : Fin 512) (j : Fin 2048), y = ix2 r j := ⟨y 0, y 1, funext fun a => by match a with | ⟨0, _⟩ => rfl | ⟨1, _⟩ => rfl⟩
  rw [emb_7]
  refine (out_apply _ _ _ _ _ _ _ r j).trans ?_
  rw [iblk_5, iblk_6]
  exact congrArg (fun q => lnf q _ _ j) (zw_eq m c t r _ rfl)

/-- The kernel's result array. -/
theorem out_eq : (dats m 0 c).arrAt 7 cfg0.N = spec (aX m c) (aF m c) (aR m c) (aT m c) (aW m c) (aG m c) (aB m c) := by
  refine (dats m 0 c).arrAt_eq_of_covers 7 _ (by decide +kernel) fun t hf y => ?_
  show (cfg0.win 7).cut (grid0.coords t) ((dats m 0 c).after 7 t) y = _
  rw [after0_7]
  exact blk_eq m c t y

end Cert.Proof.OutProj
end
-- ==== Proof.OutProjRef.lean ====
/- The output projection with its layer norm: the reference's result is the same normalised rows. -/
module

public import proofs.«01_k».proof.Proof.OutProj

@[expose] public section

set_option maxRecDepth 16384
set_option maxHeartbeats 1000000

noncomputable section

namespace Cert.Proof.OutProj

open Cert.Reference3Ideal
open Idealize.ShloMosaic Idealize.ShloMosaic.TcCoe
open Cert.Proof.Ffn (lnf)

section Join

variable (X : FVec Ideal S4x8192x2048 .f32) (YF : FVec Ideal S4x8192x768 .f32) (YR YT : FVec Ideal S4x8192x640 .f32) (W : FVec Ideal S4x2048x2048 .f32)

/-- The joined outputs of the three mixers at a position. -/
def joined (s : Fin 4) (p : Fin 8192) (k : Fin 2048) : EReal :=
  if h : k.val < 768 then YF (ix3 s p ⟨k.val, h⟩) else if h' : k.val - 768 < 640 then YR (ix3 s p ⟨k.val - 768, h'⟩) else YT (ix3 s p ⟨k.val - 768 - 640, by omega⟩)

/-- The product with the joined outputs is the sum of the three products. -/
theorem joined_sum (s : Fin 4) (p : Fin 8192) (j : Fin 2048) :
    ∑ k : Fin 2048, joined YF YR YT s p k * (W (ix3 3 k j) : EReal)
      = ∑ k : Fin 768, (YF (ix3 s p k) : EReal) * (W (ix3 3 ⟨k.val, by omega⟩ j) : EReal)
        + ∑ k : Fin 640, (YR (ix3 s p k) : EReal) * (W (ix3 3 ⟨768 + k.val, by omega⟩ j) : EReal)
        + ∑ k : Fin 640, (YT (ix3 s p k) : EReal) * (W (ix3 3 ⟨1408 + k.val, by omega⟩ j) : EReal) := by
  let f : ℕ → EReal := fun n => if h : n < 2048 then joined YF YR YT s p ⟨n, h⟩ * (W (ix3 3 ⟨n, h⟩ j) : EReal) else 0
  have e : ∑ k : Fin 2048, joined YF YR YT s p k * (W (ix3 3 k j) : EReal) = ∑ n ∈ Finset.range (768 + 640 + 640), f n := by
    rw [Finset.sum_range]
    refine Finset.sum_congr rfl fun k _ => ?_
    show _ = dite (k.val < 2048) _ _
    rw [dif_pos k.isLt]
  rw [e, Finset.sum_range_add, Finset.sum_range_add, Finset.sum_range, Finset.sum_range (fun x => f (768 + x)), Finset.sum_range (fun x => f (768 + 640 + x))]
  refine congrArg₂ (fun a b : EReal => a + b) (congrArg₂ (fun a b : EReal => a + b) (Finset.sum_congr rfl fun k _ => ?_) (Finset.sum_congr rfl fun k _ => ?_)) (Finset.sum_congr rfl fun k _ => ?_)
  · refine (dif_pos (show k.val < 2048 by omega)).trans ?_
    unfold joined
    rw [dif_pos (show k.val < 768 by omega)]
  · refine (dif_pos (show 768 + k.val < 2048 by omega)).trans ?_
    unfold joined
    rw [dif_neg (show ¬ 768 + k.val < 768 by omega), dif_pos (show 768 + k.val - 768 < 640 by omega)]
    exact congrArg (fun q : Fin 640 => (YR (ix3 s p q) : EReal) * _) (Fin.ext (show 768 + k.val - 768 = k.val by omega))
  · refine (dif_pos (show 768 + 640 + k.val < 2048 by omega)).trans ?_
    unfold joined
    rw [dif_neg (show ¬ 768 + 640 + k.val < 768 by omega), dif_neg (show ¬ 768 + 640 + k.val - 768 < 640 by omega)]
    exact congrArg (fun q : Fin 640 => (YT (ix3 s p q) : EReal) * _) (Fin.ext (show 768 + 640 + k.val - 768 - 640 = k.val by omega))

theorem z_joined (R : Fin 32768) (j : Fin 2048) : z X YF YR YT W R j
    = Ideal.ofBits .f32 0x3FD744FD#32 * X (ix3 ⟨R.val / 8192, by omega⟩ ⟨R.val % 8192, by omega⟩ j)
      + ∑ k : Fin 2048, joined YF YR YT ⟨R.val / 8192, by omega⟩ ⟨R.val % 8192, by omega⟩ k * (W (ix3 3 k j) : EReal) := by
  rw [joined_sum]
  rfl

end Join

variable (m : (ℓ : Loc nD τ sig) → Buf (Elt Ideal) ℓ) (c : Dev nD)

/-- The reference's arguments as arrays. -/
abbrev rX : FVec Ideal S4x8192x2048 .f32 := m ((c.tc : Thread nD τ).loc main_arg0)
abbrev rF : FVec Ideal S4x8192x768 .f32 := m ((c.tc : Thread nD τ).loc main_arg1)
abbrev rR : FVec Ideal S4x8192x640 .f32 := m ((c.tc : Thread nD τ).loc main_arg2)
abbrev rT : FVec Ideal S4x8192x640 .f32 := m ((c.tc : Thread nD τ).loc main_arg3)
abbrev rW : FVec Ideal S4x2048x2048 .f32 := m ((c.tc : Thread nD τ).loc main_arg4)
abbrev rG : FVec Ideal S4x2048 .f32 := m ((c.tc : Thread nD τ).loc main_arg5)
abbrev rB : FVec Ideal S4x2048 .f32 := m ((c.tc : Thread nD τ).loc main_arg6)

/-- The reference's result. -/
def res : FVec Ideal S32768x2048 .f32 := Value.res_main_v35 (F := Ideal) m c

theorem res_apply (R : Fin 32768) (j : Fin 2048) :
    (res m c (ix2 R j) : EReal) = spec (rX m c) (rF m c) (rR m c) (rT m c) (rW m c) (rG m c) (rB m c) (ix2 R j) := by
  have e : z (rX m c) (rF m c) (rR m c) (rT m c) (rW m c) R = _ := funext fun j => z_joined ..
  show _ = lnf (z (rX m c) (rF m c) (rR m c) (rT m c) (rW m c) R) (rG m c (ix2 3 j)) (rB m c (ix2 3 j)) j
  rw [e]
  unfold lnf joined
  pointwise [res, Value.res_main_v35]

theorem res_eq : res m c = spec (rX m c) (rF m c) (rR m c) (rT m c) (rW m c) (rG m c) (rB m c) := by
  funext i
  obtain ⟨R, j, rfl⟩ : ∃ (R : Fin 32768) (j : Fin 2048), i = ix2 R j := ⟨i 0, i 1, funext fun a => by match a with | ⟨0, _⟩ => rfl | ⟨1, _⟩ => rfl⟩
  exact res_apply m c R j

end Cert.Proof.OutProj
end
-- ==== Proof.Proj4.lean ====
/- The input projection's columns of the attention: the kernel's blocks are the whole product, its first columns scaled. -/
module

public import proofs.«01_k».proof.Proof.Gen.Kernel4Ideal.Value
public import proofs.«01_k».proof.Proof.Gen.Reference4Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.Proj4

open Cert.Kernel4Ideal Cert.Kernel4Ideal.Gen
open Idealize.ShloMosaic Idealize.ShloMosaic.TcCoe

/-- The product of the rows with the last layer's columns, each column scaled. -/
def prod (X : FVec Ideal S32768x2048 .bf16) (W : FVec Ideal S4x2048x2304 .bf16) (C : FVec Ideal S1x2304 .f32) : FVec Ideal S32768x2304 .bf16 := fun i =>
  (∑ k : Fin 2048, (X (ix2 (i 0) k) : EReal) * (W (ix3 3 k (i 1)) : EReal)) * (C (ix2 0 (i 1)) : EReal)

/-- What the body leaves, entry by entry. -/
theorem out_apply (X : FVec Ideal S1024x2048 .bf16) (W : FVec Ideal S1x2048x2304 .bf16) (C : FVec Ideal S1x2304 .f32) (r : Fin 1024) (j : Fin 2304) :
    (out0_3 (F := Ideal) X W C (ix2 r j) : EReal) = (∑ k : Fin 2048, (X (ix2 r k) : EReal) * (W (ix3 0 k j) : EReal)) * (C (ix2 0 j) : EReal) := by
  unfold out0_3
  rw [View.canon_unit_zero (S := S1024x2304) (by decide), View.ld_unit_zero (S := S1024x2048) (by decide), View.ld_unit_zero (S := S1x2048x2304) (by decide), View.ld_unit_zero (S := S1x2304) (by decide)]
  pointwise [k0_pay1]

variable (m : (ℓ : Loc nD τ sig) → Buf (Elt Ideal) ℓ) (c : Dev nD)

/-- The three inputs of the kernel. -/
abbrev vX : FVec Ideal S32768x2048 .bf16 := V m c main_v12
abbrev vW : FVec Ideal S4x2048x2304 .bf16 := V m c main_v6
abbrev vC : FVec Ideal S1x2304 .f32 := V m c main_v10

theorem t_lt (t : Fin cfg0.N) : t.val < 32 := N_0 ▸ t.isLt
theorem tr0 : ∀ t : Fin cfg0.N, cc0_transform_0 (grid0.coords t) 0 = t.val ∧ cc0_transform_0 (grid0.coords t) 1 = 0 := by decide +kernel
theorem tr1 : ∀ t : Fin cfg0.N, cc0_transform_1 (grid0.coords t) 0 = 3 ∧ cc0_transform_1 (grid0.coords t) 1 = 0 ∧ cc0_transform_1 (grid0.coords t) 2 = 0 := by decide +kernel
theorem tr2 : ∀ t : Fin cfg0.N, cc0_transform_2 (grid0.coords t) 0 = 0 ∧ cc0_transform_2 (grid0.coords t) 1 = 0 := by decide +kernel
theorem tr3 : ∀ t : Fin cfg0.N, cc0_transform_3 (grid0.coords t) 0 = t.val ∧ cc0_transform_3 (grid0.coords t) 1 = 0 := by decide +kernel

/-- The block of rows at a point. -/
theorem iblk_0 (t : Fin cfg0.N) (r : Fin 1024) (k : Fin 2048) :
    iblk m c 0 t (ix2 r k) = vX m c (ix2 ⟨1024 * t.val + r.val, by have := t_lt t; omega⟩ k) := by
  obtain ⟨e0, e1⟩ := tr0 t
  unfold iblk
  rw [View.read_apply]
  refine congrArg (V m c main_v12) (funext fun a => ?_)
  match a with
  | ⟨0, _⟩ =>
    refine Fin.ext ?_
    show cc0_transform_0 (grid0.coords t) 0 * 1024 + 1 * r.val = 1024 * t.val + r.val
    rw [e0]; omega
  | ⟨1, _⟩ =>
    refine Fin.ext ?_
    show cc0_transform_0 (grid0.coords t) 1 * 2048 + 1 * k.val = k.val
    rw [e1]; omega

/-- The columns at a point: the last layer's. -/
theorem iblk_1 (t : Fin cfg0.N) (k : Fin 2048) (j : Fin 2304) :
    iblk m c 1 t (ix3 0 k j) = vW m c (ix3 3 k j) := by
  obtain ⟨e0, e1, e2⟩ := tr1 t
  unfold iblk
  rw [View.read_apply]
  refine congrArg (V m c main_v6) (funext fun a => ?_)
  match a with
  | ⟨0, _⟩ =>
    refine Fin.ext ?_
    show cc0_transform_1 (grid0.coords t) 0 * 1 + 1 * 0 = 3
    rw [e0]
  | ⟨1, _⟩ =>
    refine Fin.ext ?_
    show cc0_transform_1 (grid0.coords t) 1 * 2048 + 1 * k.val = k.val
    rw [e1]; omega
  | ⟨2, _⟩ =>
    refine Fin.ext ?_
    show cc0_transform_1 (grid0.coords t) 2 * 2304 + 1 * j.val = j.val
    rw [e2]; omega

/-- The scales at a point. -/
theorem iblk_2 (t : Fin cfg0.N) (j : Fin 2304) : iblk m c 2 t (ix2 0 j) = vC m c (ix2 0 j) := by
  obtain ⟨e0, e1⟩ := tr2 t
  unfold iblk
  rw [View.read_apply]
  refine congrArg (V m c main_v10) (funext fun a => ?_)
  match a with
  | ⟨0, _⟩ =>
    refine Fin.ext ?_
    show cc0_transform_2 (grid0.coords t) 0 * 1 + 1 * 0 = 0
    rw [e0]
  | ⟨1, _⟩ =>
    refine Fin.ext ?_
    show cc0_transform_2 (grid0.coords t) 1 * 2304 + 1 * j.val = j.val
    rw [e1]; omega

/-- Where a block's entry lies in the result. -/
theorem emb_3 (t : Fin cfg0.N) (r : Fin 1024) (j : Fin 2304) :
    ((cfg0.win 3).blk t).view.emb (ix2 r j) = ix2 (⟨1024 * t.val + r.val, by have := t_lt t; omega⟩ : Fin 32768) j := by
  obtain ⟨e0, e1⟩ := tr3 t
  refine funext fun a => ?_
  match a with
  | ⟨0, _⟩ =>
    refine Fin.ext ?_
    show cc0_transform_3 (grid0.coords t) 0 * 1024 + 1 * r.val = 1024 * t.val + r.val
    rw [e0]; omega
  | ⟨1, _⟩ =>
    refine Fin.ext ?_
    show cc0_transform_3 (grid0.coords t) 1 * 2304 + 1 * j.val = j.val
    rw [e1]; omega

/-- A point's block is the product's. -/
theorem blk_eq (t : Fin cfg0.N) (y : S1024x2304.Idx) :
    out0_3 (iblk m c 0 t) (iblk m c 1 t) (iblk m c 2 t) y = prod (vX m c) (vW m c) (vC m c) (((cfg0.win 3).blk t).view.emb y) := by
  obtain ⟨r, j, rfl⟩ : ∃ (r : Fin 1024) (j : Fin 2304), y = ix2 r j := ⟨y 0, y 1, funext fun a => by match a with | ⟨0, _⟩ => rfl | ⟨1, _⟩ => rfl⟩
  rw [emb_3]
  refine (out_apply _ _ _ r j).trans (congrArg₂ (fun a b : EReal => a * b) (Finset.sum_congr rfl fun k _ => ?_) (iblk_2 m c t j))
  exact congrArg₂ (fun a b : EReal => a * b) (iblk_0 m c t r k) (iblk_1 m c t k j)

/-- The kernel's result array is the product. -/
theorem out_eq : (dats m 0 c).arrAt 3 cfg0.N = prod (vX m c) (vW m c) (vC m c) := by
  refine (dats m 0 c).arrAt_eq_of_covers 3 _ (by decide +kernel) fun t hf y => ?_
  show (cfg0.win 3).cut (grid0.coords t) ((dats m 0 c).after 3 t) y = _
  rw [after0_3]
  exact blk_eq m c t y

/-- The arguments as arrays. -/
abbrev aX : FVec Ideal S4x8192x2048 .f32 := m ((c.tc : Thread nD τ).loc main_arg0)
abbrev aW : FVec Ideal S4x2048x7046 .f32 := m ((c.tc : Thread nD τ).loc main_arg1)

theorem x_apply (R : Fin 32768) (k : Fin 2048) : vX m c (ix2 R k)
    = aX m c (ix3 ⟨R.val / 8192, by omega⟩ ⟨R.val % 8192, by omega⟩ k) := by
  unfold vX V
  after_reads_at

theorem w_apply (l : Fin 4) (k : Fin 2048) (j : Fin 2304) : vW m c (ix3 l k j)
    = aW m c (ix3 l k ⟨j.val, by omega⟩) := by
  unfold vW V
  after_reads_at

/-- The scale of a column. -/
def scale (j : Fin 2304) : EReal := if j.val < 768 then Ideal.ofBits .f32 0x3E0293EE#32 else 1

theorem c_apply (j : Fin 2304) : (vC m c (ix2 0 j) : EReal) = scale j := by
  unfold vC V scale
  after_reads_at
  by_cases h : j.val < 768
  · rw [dif_pos h, if_pos h]
  · rw [dif_neg h, if_neg h]

/-- The reference's result as a function of its arguments. -/
def ref (X : FVec Ideal S4x8192x2048 .f32) (W : FVec Ideal S4x2048x7046 .f32) : FVec Ideal S32768x2304 .bf16 :=
  truncf .bf16 ((concatenate Cert.Reference4Ideal.S32768x2304 1 [⟨Cert.Reference4Ideal.S32768x768, ((mulf (extractStridedSlice Cert.Reference4Ideal.S32768x768 ![0, 0] (extractStridedSlice Cert.Reference4Ideal.S32768x2310 ![0, 0] (shapeCast _ (Host.dotGeneral Cert.Reference4Ideal.dot_S4x8192x2048_S2048x7046_S4x8192x7046_2_0_01_1_n_n none X (shapeCast _ (extractStridedSlice Cert.Reference4Ideal.S1x2048x7046 ![3, 0, 0] W Cert.Reference4Ideal.Gen.slices_S4x2048x7046_S1x2048x7046_3_0_0) Cert.Reference4Ideal.Gen.shapeCasts_S1x2048x7046_S2048x7046)) Cert.Reference4Ideal.Gen.shapeCasts_S4x8192x7046_S32768x7046) Cert.Reference4Ideal.Gen.slices_S32768x7046_S32768x2310_0_0) Cert.Reference4Ideal.Gen.slices_S32768x2310_S32768x768_0_0) (broadcastInDim Cert.Reference4Ideal.S32768x768 ![] Cert.Reference4Ideal.Gen.bcast_S_S32768x768 (constant Cert.Reference4Ideal.S_ .f32 0x3E0293EE#32))) : (⟨Cert.Reference4Ideal.S32768x768, .f32⟩ : BufTy).Contents (Elt Ideal))⟩, ⟨Cert.Reference4Ideal.S32768x768, ((extractStridedSlice Cert.Reference4Ideal.S32768x768 ![0, 768] (extractStridedSlice Cert.Reference4Ideal.S32768x2310 ![0, 0] (shapeCast _ (Host.dotGeneral Cert.Reference4Ideal.dot_S4x8192x2048_S2048x7046_S4x8192x7046_2_0_01_1_n_n none X (shapeCast _ (extractStridedSlice Cert.Reference4Ideal.S1x2048x7046 ![3, 0, 0] W Cert.Reference4Ideal.Gen.slices_S4x2048x7046_S1x2048x7046_3_0_0) Cert.Reference4Ideal.Gen.shapeCasts_S1x2048x7046_S2048x7046)) Cert.Reference4Ideal.Gen.shapeCasts_S4x8192x7046_S32768x7046) Cert.Reference4Ideal.Gen.slices_S32768x7046_S32768x2310_0_0) Cert.Reference4Ideal.Gen.slices_S32768x2310_S32768x768_0_768) : (⟨Cert.Reference4Ideal.S32768x768, .f32⟩ : BufTy).Contents (Elt Ideal))⟩, ⟨Cert.Reference4Ideal.S32768x768, ((extractStridedSlice Cert.Reference4Ideal.S32768x768 ![0, 1536] (extractStridedSlice Cert.Reference4Ideal.S32768x2310 ![0, 0] (shapeCast _ (Host.dotGeneral Cert.Reference4Ideal.dot_S4x8192x2048_S2048x7046_S4x8192x7046_2_0_01_1_n_n none X (shapeCast _ (extractStridedSlice Cert.Reference4Ideal.S1x2048x7046 ![3, 0, 0] W Cert.Reference4Ideal.Gen.slices_S4x2048x7046_S1x2048x7046_3_0_0) Cert.Reference4Ideal.Gen.shapeCasts_S1x2048x7046_S2048x7046)) Cert.Reference4Ideal.Gen.shapeCasts_S4x8192x7046_S32768x7046) Cert.Reference4Ideal.Gen.slices_S32768x7046_S32768x2310_0_0) Cert.Reference4Ideal.Gen.slices_S32768x2310_S32768x768_0_1536) : (⟨Cert.Reference4Ideal.S32768x768, .f32⟩ : BufTy).Contents (Elt Ideal))⟩] Cert.Reference4Ideal.Gen.concatenates_S32768x768_S32768x768_S32768x768_S32768x2304_d1 : (⟨Cert.Reference4Ideal.S32768x2304, .f32⟩ : BufTy).Contents (Elt Ideal))) Cert.Reference4Ideal.Gen.bitsLt_bf16_f32

theorem ref_apply (X : FVec Ideal S4x8192x2048 .f32) (W : FVec Ideal S4x2048x7046 .f32) (R : Fin 32768) (j : Fin 2304) :
    (ref X W (ix2 R j) : EReal) = (∑ k : Fin 2048, (X (ix3 ⟨R.val / 8192, by omega⟩ ⟨R.val % 8192, by omega⟩ k) : EReal) * (W (ix3 3 k ⟨j.val, by omega⟩) : EReal)) * scale j := by
  unfold scale
  pointwise [ref]
  by_cases h : j.val < 768
  · rw [dif_pos h, if_pos h]
  · rw [dif_neg h, if_neg h, mul_one]
    by_cases h' : j.val - 768 < 768
    · rw [dif_pos h']
      refine Finset.sum_congr rfl fun k _ => ?_
      exact congrArg (fun q : Fin 7046 => (X (ix3 ⟨R.val / 8192, by omega⟩ ⟨R.val % 8192, by omega⟩ k) : EReal) * (W (ix3 3 k q) : EReal)) (Fin.ext (by dsimp only; omega))
    · rw [dif_neg h']
      refine Finset.sum_congr rfl fun k _ => ?_
      exact congrArg (fun q : Fin 7046 => (X (ix3 ⟨R.val / 8192, by omega⟩ ⟨R.val % 8192, by omega⟩ k) : EReal) * (W (ix3 3 k q) : EReal)) (Fin.ext (by dsimp only; omega))

/-- Kernel and reference agree. -/
theorem res_eq : prod (vX m c) (vW m c) (vC m c) = ref (aX m c) (aW m c) := by
  funext i
  obtain ⟨R, j, rfl⟩ : ∃ (R : Fin 32768) (j : Fin 2304), i = ix2 R j := ⟨i 0, i 1, funext fun a => by match a with | ⟨0, _⟩ => rfl | ⟨1, _⟩ => rfl⟩
  refine Eq.trans ?_ (ref_apply _ _ R j).symm
  show (∑ k : Fin 2048, (vX m c (ix2 R k) : EReal) * (vW m c (ix3 3 k j) : EReal)) * (vC m c (ix2 0 j) : EReal) = _
  rw [c_apply]
  refine congrArg (fun q : EReal => q * scale j) (Finset.sum_congr rfl fun k _ => ?_)
  rw [x_apply, w_apply]

end Cert.Proof.Proj4
end
-- ==== Proof.Proj5.lean ====
/- The input projection's columns of the RWKV part and the forget gates: the kernel's blocks are the whole product. -/
module

public import proofs.«01_k».proof.Proof.Gen.Kernel5Ideal.Value
public import proofs.«01_k».proof.Proof.Gen.Reference5Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.Proj5

open Cert.Kernel5Ideal Cert.Kernel5Ideal.Gen
open Idealize.ShloMosaic Idealize.ShloMosaic.TcCoe

/-- The product of the rows with the last layer's columns. -/
def prod (X : FVec Ideal S32768x2048 .bf16) (W : FVec Ideal S4x2048x2304 .bf16) : FVec Ideal S32768x2304 .f32 := fun i =>
  ∑ k : Fin 2048, (X (ix2 (i 0) k) : EReal) * (W (ix3 3 k (i 1)) : EReal)

/-- What the body leaves, entry by entry. -/
theorem out_apply (X : FVec Ideal S1024x2048 .bf16) (W : FVec Ideal S1x2048x2304 .bf16) (r : Fin 1024) (j : Fin 2304) :
    (out0_2 (F := Ideal) X W (ix2 r j) : EReal) = ∑ k : Fin 2048, (X (ix2 r k) : EReal) * (W (ix3 0 k j) : EReal) := by
  unfold out0_2
  rw [View.canon_unit_zero (S := S1024x2304) (by decide), View.ld_unit_zero (S := S1024x2048) (by decide), View.ld_unit_zero (S := S1x2048x2304) (by decide)]
  pointwise [k0_pay1]

variable (m : (ℓ : Loc nD τ sig) → Buf (Elt Ideal) ℓ) (c : Dev nD)

/-- The two inputs of the kernel. -/
abbrev vX : FVec Ideal S32768x2048 .bf16 := V m c main_v9
abbrev vW : FVec Ideal S4x2048x2304 .bf16 := V m c main_v7

theorem t_lt (t : Fin cfg0.N) : t.val < 32 := N_0 ▸ t.isLt
theorem tr0 : ∀ t : Fin cfg0.N, cc0_transform_0 (grid0.coords t) 0 = t.val ∧ cc0_transform_0 (grid0.coords t) 1 = 0 := by decide +kernel
theorem tr1 : ∀ t : Fin cfg0.N, cc0_transform_1 (grid0.coords t) 0 = 3 ∧ cc0_transform_1 (grid0.coords t) 1 = 0 ∧ cc0_transform_1 (grid0.coords t) 2 = 0 := by decide +kernel
theorem tr2 : ∀ t : Fin cfg0.N, cc0_transform_2 (grid0.coords t) 0 = t.val ∧ cc0_transform_2 (grid0.coords t) 1 = 0 := by decide +kernel

/-- The block of rows at a point. -/
theorem iblk_0 (t : Fin cfg0.N) (r : Fin 1024) (k : Fin 2048) :
    iblk m c 0 t (ix2 r k) = vX m c (ix2 ⟨1024 * t.val + r.val, by have := t_lt t; omega⟩ k) := by
  obtain ⟨e0, e1⟩ := tr0 t
  unfold iblk
  rw [View.read_apply]
  refine congrArg (V m c main_v9) (funext fun a => ?_)
  match a with
  | ⟨0, _⟩ =>
    refine Fin.ext ?_
    show cc0_transform_0 (grid0.coords t) 0 * 1024 + 1 * r.val = 1024 * t.val + r.val
    rw [e0]; omega
  | ⟨1, _⟩ =>
    refine Fin.ext ?_
    show cc0_transform_0 (grid0.coords t) 1 * 2048 + 1 * k.val = k.val
    rw [e1]; omega

/-- The columns at a point: the last layer's. -/
theorem iblk_1 (t : Fin cfg0.N) (k : Fin 2048) (j : Fin 2304) :
    iblk m c 1 t (ix3 0 k j) = vW m c (ix3 3 k j) := by
  obtain ⟨e0, e1, e2⟩ := tr1 t
  unfold iblk
  rw [View.read_apply]
  refine congrArg (V m c main_v7) (funext fun a => ?_)
  match a with
  | ⟨0, _⟩ =>
    refine Fin.ext ?_
    show cc0_transform_1 (grid0.coords t) 0 * 1 + 1 * 0 = 3
    rw [e0]
  | ⟨1, _⟩ =>
    refine Fin.ext ?_
    show cc0_transform_1 (grid0.coords t) 1 * 2048 + 1 * k.val = k.val
    rw [e1]; omega
  | ⟨2, _⟩ =>
    refine Fin.ext ?_
    show cc0_transform_1 (grid0.coords t) 2 * 2304 + 1 * j.val = j.val
    rw [e2]; omega

/-- Where a block's entry lies in the result. -/
theorem emb_2 (t : Fin cfg0.N) (r : Fin 1024) (j : Fin 2304) :
    ((cfg0.win 2).blk t).view.emb (ix2 r j) = ix2 (⟨1024 * t.val + r.val, by have := t_lt t; omega⟩ : Fin 32768) j := by
  obtain ⟨e0, e1⟩ := tr2 t
  refine funext fun a => ?_
  match a with
  | ⟨0, _⟩ =>
    refine Fin.ext ?_
    show cc0_transform_2 (grid0.coords t) 0 * 1024 + 1 * r.val = 1024 * t.val + r.val
    rw [e0]; omega
  | ⟨1, _⟩ =>
    refine Fin.ext ?_
    show cc0_transform_2 (grid0.coords t) 1 * 2304 + 1 * j.val = j.val
    rw [e1]; omega

/-- A point's block is the product's. -/
theorem blk_eq (t : Fin cfg0.N) (y : S1024x2304.Idx) :
    out0_2 (iblk m c 0 t) (iblk m c 1 t) y = prod (vX m c) (vW m c) (((cfg0.win 2).blk t).view.emb y) := by
  obtain ⟨r, j, rfl⟩ : ∃ (r : Fin 1024) (j : Fin 2304), y = ix2 r j := ⟨y 0, y 1, funext fun a => by match a with | ⟨0, _⟩ => rfl | ⟨1, _⟩ => rfl⟩
  rw [emb_2]
  refine (out_apply _ _ r j).trans (Finset.sum_congr rfl fun k _ => ?_)
  exact congrArg₂ (fun a b : EReal => a * b) (iblk_0 m c t r k) (iblk_1 m c t k j)

/-- The kernel's result array is the product. -/
theorem out_eq : (dats m 0 c).arrAt 2 cfg0.N = prod (vX m c) (vW m c) := by
  refine (dats m 0 c).arrAt_eq_of_covers 2 _ (by decide +kernel) fun t hf y => ?_
  show (cfg0.win 2).cut (grid0.coords t) ((dats m 0 c).after 2 t) y = _
  rw [after0_2]
  exact blk_eq m c t y

/-- The arguments as arrays. -/
abbrev aX : FVec Ideal S4x8192x2048 .f32 := m ((c.tc : Thread nD τ).loc main_arg0)
abbrev aW : FVec Ideal S4x2048x7046 .f32 := m ((c.tc : Thread nD τ).loc main_arg1)

theorem x_apply (R : Fin 32768) (k : Fin 2048) : vX m c (ix2 R k)
    = aX m c (ix3 ⟨R.val / 8192, by omega⟩ ⟨R.val % 8192, by omega⟩ k) := by
  unfold vX V
  after_reads_at

theorem w_rwkv (l : Fin 4) (k : Fin 2048) (j : Fin 2304) (h : j.val < 2176) : vW m c (ix3 l k j)
    = aW m c (ix3 l k ⟨2310 + j.val, by omega⟩) := by
  unfold vW V
  after_reads_at
  rw [dif_pos h]
  after_reads_at

theorem w_forget (l : Fin 4) (k : Fin 2048) (j : Fin 2304) (h : ¬j.val < 2176) (h' : j.val < 2182) : vW m c (ix3 l k j)
    = aW m c (ix3 l k ⟨2304 + (j.val - 2176), by omega⟩) := by
  unfold vW V
  after_reads_at
  rw [dif_neg h, dif_pos (by omega)]
  after_reads_at

theorem w_zero (l : Fin 4) (k : Fin 2048) (j : Fin 2304) (h : ¬j.val < 2182) : (vW m c (ix3 l k j) : EReal) = 0 := by
  unfold vW V
  after_reads_at
  rw [dif_neg (by omega), dif_neg (by omega)]
  after_reads_at

/-- The reference's result as a function of its arguments. -/
def ref (X : FVec Ideal Cert.Reference5Ideal.S4x8192x2048 .f32) (W : FVec Ideal Cert.Reference5Ideal.S4x2048x7046 .f32) : FVec Ideal Cert.Reference5Ideal.S32768x2304 .f32 :=
  pad Cert.Reference5Ideal.S32768x2304 ![0, 0] ![0, 122] ![0, 0] (concatenate Cert.Reference5Ideal.S32768x2182 1 [⟨Cert.Reference5Ideal.S32768x2176, (extractStridedSlice Cert.Reference5Ideal.S32768x2176 ![0, 2310] (shapeCast _ (Host.dotGeneral Cert.Reference5Ideal.dot_S4x8192x2048_S2048x7046_S4x8192x7046_2_0_01_1_n_n none X (shapeCast _ (extractStridedSlice Cert.Reference5Ideal.S1x2048x7046 ![3, 0, 0] W Cert.Reference5Ideal.Gen.slices_S4x2048x7046_S1x2048x7046_3_0_0) Cert.Reference5Ideal.Gen.shapeCasts_S1x2048x7046_S2048x7046)) Cert.Reference5Ideal.Gen.shapeCasts_S4x8192x7046_S32768x7046) Cert.Reference5Ideal.Gen.slices_S32768x7046_S32768x2176_0_2310)⟩, ⟨Cert.Reference5Ideal.S32768x6, (extractStridedSlice Cert.Reference5Ideal.S32768x6 ![0, 2304] (extractStridedSlice Cert.Reference5Ideal.S32768x2310 ![0, 0] (shapeCast _ (Host.dotGeneral Cert.Reference5Ideal.dot_S4x8192x2048_S2048x7046_S4x8192x7046_2_0_01_1_n_n none X (shapeCast _ (extractStridedSlice Cert.Reference5Ideal.S1x2048x7046 ![3, 0, 0] W Cert.Reference5Ideal.Gen.slices_S4x2048x7046_S1x2048x7046_3_0_0) Cert.Reference5Ideal.Gen.shapeCasts_S1x2048x7046_S2048x7046)) Cert.Reference5Ideal.Gen.shapeCasts_S4x8192x7046_S32768x7046) Cert.Reference5Ideal.Gen.slices_S32768x7046_S32768x2310_0_0) Cert.Reference5Ideal.Gen.slices_S32768x2310_S32768x6_0_2304)⟩] Cert.Reference5Ideal.Gen.concatenates_S32768x2176_S32768x6_S32768x2182_d1) (sitofp .f32 (constantI Cert.Reference5Ideal.S_ 32 0#32)) Cert.Reference5Ideal.Gen.pads_S32768x2182_S32768x2304_000_01220 Cert.Reference5Ideal.Gen.h_S_

/-- The converted word of zero. -/
theorem zero_word : (FloatOps.sitofp (F := Ideal) .f32 (0#32) : EReal) = 0 := by
  show (((0#32 : BitVec 32).toInt : ℝ) : EReal) = 0
  simp

/-- Kernel and reference agree. -/
theorem res_eq : prod (vX m c) (vW m c) = ref (aX m c) (aW m c) := by
  funext i
  obtain ⟨R, j, rfl⟩ : ∃ (R : Fin 32768) (j : Fin 2304), i = ix2 R j := ⟨i 0, i 1, funext fun a => by match a with | ⟨0, _⟩ => rfl | ⟨1, _⟩ => rfl⟩
  show ∑ k : Fin 2048, (vX m c (ix2 R k) : EReal) * (vW m c (ix3 3 k j) : EReal) = _
  pointwise [ref]
  split
  next h =>
    split
    next h' =>
      refine Finset.sum_congr rfl fun k _ => ?_
      rw [x_apply, w_rwkv m c 3 k j h']
    next h' =>
      refine Finset.sum_congr rfl fun k _ => ?_
      rw [x_apply, w_forget m c 3 k j h' h]
  next h =>
    rw [zero_word]
    refine Finset.sum_eq_zero fun k _ => ?_
    rw [w_zero m c 3 k j h, mul_zero]

end Cert.Proof.Proj5
end
-- ==== Proof.Proj6.lean ====
/- The input projection's columns of the retention: the kernel's blocks are the whole product. -/
module

public import proofs.«01_k».proof.Proof.Gen.Kernel6Ideal.Value
public import proofs.«01_k».proof.Proof.Gen.Reference6Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.Proj6

open Cert.Kernel6Ideal Cert.Kernel6Ideal.Gen
open Idealize.ShloMosaic Idealize.ShloMosaic.TcCoe

/-- The product of the rows with the last layer's columns. -/
def prod (X : FVec Ideal S32768x2048 .bf16) (W : FVec Ideal S4x2048x2560 .bf16) : FVec Ideal S32768x2560 .f32 := fun i =>
  ∑ k : Fin 2048, (X (ix2 (i 0) k) : EReal) * (W (ix3 3 k (i 1)) : EReal)

/-- What the body leaves, entry by entry. -/
theorem out_apply (X : FVec Ideal S1024x2048 .bf16) (W : FVec Ideal S1x2048x2560 .bf16) (r : Fin 1024) (j : Fin 2560) :
    (out0_2 (F := Ideal) X W (ix2 r j) : EReal) = ∑ k : Fin 2048, (X (ix2 r k) : EReal) * (W (ix3 0 k j) : EReal) := by
  unfold out0_2
  rw [View.canon_unit_zero (S := S1024x2560) (by decide), View.ld_unit_zero (S := S1024x2048) (by decide), View.ld_unit_zero (S := S1x2048x2560) (by decide)]
  pointwise [k0_pay1]

variable (m : (ℓ : Loc nD τ sig) → Buf (Elt Ideal) ℓ) (c : Dev nD)

/-- The two inputs of the kernel. -/
abbrev vX : FVec Ideal S32768x2048 .bf16 := V m c main_v9
abbrev vW : FVec Ideal S4x2048x2560 .bf16 := V m c main_v3

theorem t_lt (t : Fin cfg0.N) : t.val < 32 := N_0 ▸ t.isLt
theorem tr0 : ∀ t : Fin cfg0.N, cc0_transform_0 (grid0.coords t) 0 = t.val ∧ cc0_transform_0 (grid0.coords t) 1 = 0 := by decide +kernel
theorem tr1 : ∀ t : Fin cfg0.N, cc0_transform_1 (grid0.coords t) 0 = 3 ∧ cc0_transform_1 (grid0.coords t) 1 = 0 ∧ cc0_transform_1 (grid0.coords t) 2 = 0 := by decide +kernel
theorem tr2 : ∀ t : Fin cfg0.N, cc0_transform_2 (grid0.coords t) 0 = t.val ∧ cc0_transform_2 (grid0.coords t) 1 = 0 := by decide +kernel

/-- The block of rows at a point. -/
theorem iblk_0 (t : Fin cfg0.N) (r : Fin 1024) (k : Fin 2048) :
    iblk m c 0 t (ix2 r k) = vX m c (ix2 ⟨1024 * t.val + r.val, by have := t_lt t; omega⟩ k) := by
  obtain ⟨e0, e1⟩ := tr0 t
  unfold iblk
  rw [View.read_apply]
  refine congrArg (V m c main_v9) (funext fun a => ?_)
  match a with
  | ⟨0, _⟩ =>
    refine Fin.ext ?_
    show cc0_transform_0 (grid0.coords t) 0 * 1024 + 1 * r.val = 1024 * t.val + r.val
    rw [e0]; omega
  | ⟨1, _⟩ =>
    refine Fin.ext ?_
    show cc0_transform_0 (grid0.coords t) 1 * 2048 + 1 * k.val = k.val
    rw [e1]; omega

/-- The columns at a point: the last layer's. -/
theorem iblk_1 (t : Fin cfg0.N) (k : Fin 2048) (j : Fin 2560) :
    iblk m c 1 t (ix3 0 k j) = vW m c (ix3 3 k j) := by
  obtain ⟨e0, e1, e2⟩ := tr1 t
  unfold iblk
  rw [View.read_apply]
  refine congrArg (V m c main_v3) (funext fun a => ?_)
  match a with
  | ⟨0, _⟩ =>
    refine Fin.ext ?_
    show cc0_transform_1 (grid0.coords t) 0 * 1 + 1 * 0 = 3
    rw [e0]
  | ⟨1, _⟩ =>
    refine Fin.ext ?_
    show cc0_transform_1 (grid0.coords t) 1 * 2048 + 1 * k.val = k.val
    rw [e1]; omega
  | ⟨2, _⟩ =>
    refine Fin.ext ?_
    show cc0_transform_1 (grid0.coords t) 2 * 2560 + 1 * j.val = j.val
    rw [e2]; omega

/-- Where a block's entry lies in the result. -/
theorem emb_2 (t : Fin cfg0.N) (r : Fin 1024) (j : Fin 2560) :
    ((cfg0.win 2).blk t).view.emb (ix2 r j) = ix2 (⟨1024 * t.val + r.val, by have := t_lt t; omega⟩ : Fin 32768) j := by
  obtain ⟨e0, e1⟩ := tr2 t
  refine funext fun a => ?_
  match a with
  | ⟨0, _⟩ =>
    refine Fin.ext ?_
    show cc0_transform_2 (grid0.coords t) 0 * 1024 + 1 * r.val = 1024 * t.val + r.val
    rw [e0]; omega
  | ⟨1, _⟩ =>
    refine Fin.ext ?_
    show cc0_transform_2 (grid0.coords t) 1 * 2560 + 1 * j.val = j.val
    rw [e1]; omega

/-- A point's block is the product's. -/
theorem blk_eq (t : Fin cfg0.N) (y : S1024x2560.Idx) :
    out0_2 (iblk m c 0 t) (iblk m c 1 t) y = prod (vX m c) (vW m c) (((cfg0.win 2).blk t).view.emb y) := by
  obtain ⟨r, j, rfl⟩ : ∃ (r : Fin 1024) (j : Fin 2560), y = ix2 r j := ⟨y 0, y 1, funext fun a => by match a with | ⟨0, _⟩ => rfl | ⟨1, _⟩ => rfl⟩
  rw [emb_2]
  refine (out_apply _ _ r j).trans (Finset.sum_congr rfl fun k _ => ?_)
  exact congrArg₂ (fun a b : EReal => a * b) (iblk_0 m c t r k) (iblk_1 m c t k j)

/-- The kernel's result array is the product. -/
theorem out_eq : (dats m 0 c).arrAt 2 cfg0.N = prod (vX m c) (vW m c) := by
  refine (dats m 0 c).arrAt_eq_of_covers 2 _ (by decide +kernel) fun t hf y => ?_
  show (cfg0.win 2).cut (grid0.coords t) ((dats m 0 c).after 2 t) y = _
  rw [after0_2]
  exact blk_eq m c t y

/-- The arguments as arrays. -/
abbrev aX : FVec Ideal S4x8192x2048 .f32 := m ((c.tc : Thread nD τ).loc main_arg0)
abbrev aW : FVec Ideal S4x2048x7046 .f32 := m ((c.tc : Thread nD τ).loc main_arg1)

theorem x_apply (R : Fin 32768) (k : Fin 2048) : vX m c (ix2 R k)
    = aX m c (ix3 ⟨R.val / 8192, by omega⟩ ⟨R.val % 8192, by omega⟩ k) := by
  unfold vX V
  after_reads_at

theorem w_apply (l : Fin 4) (k : Fin 2048) (j : Fin 2560) : vW m c (ix3 l k j)
    = aW m c (ix3 l k ⟨4486 + j.val, by omega⟩) := by
  unfold vW V
  after_reads_at

/-- The reference's result as a function of its arguments. -/
def ref (X : FVec Ideal S4x8192x2048 .f32) (W : FVec Ideal S4x2048x7046 .f32) : FVec Ideal S32768x2560 .f32 :=
  extractStridedSlice S32768x2560 ![0, 4486] (shapeCast _ (Host.dotGeneral Cert.Reference6Ideal.dot_S4x8192x2048_S2048x7046_S4x8192x7046_2_0_01_1_n_n none X (shapeCast _ (extractStridedSlice Cert.Reference6Ideal.S1x2048x7046 ![3, 0, 0] W Cert.Reference6Ideal.Gen.slices_S4x2048x7046_S1x2048x7046_3_0_0) Cert.Reference6Ideal.Gen.shapeCasts_S1x2048x7046_S2048x7046)) Cert.Reference6Ideal.Gen.shapeCasts_S4x8192x7046_S32768x7046) Cert.Reference6Ideal.Gen.slices_S32768x7046_S32768x2560_0_4486

theorem ref_apply (X : FVec Ideal S4x8192x2048 .f32) (W : FVec Ideal S4x2048x7046 .f32) (R : Fin 32768) (j : Fin 2560) :
    ref X W (ix2 R j) = ∑ k : Fin 2048, X (ix3 ⟨R.val / 8192, by omega⟩ ⟨R.val % 8192, by omega⟩ k) * W (ix3 3 k ⟨4486 + j.val, by omega⟩) := by
  pointwise [ref]

/-- Kernel and reference agree. -/
theorem res_eq : prod (vX m c) (vW m c) = ref (aX m c) (aW m c) := by
  funext i
  obtain ⟨R, j, rfl⟩ : ∃ (R : Fin 32768) (j : Fin 2560), i = ix2 R j := ⟨i 0, i 1, funext fun a => by match a with | ⟨0, _⟩ => rfl | ⟨1, _⟩ => rfl⟩
  rw [ref_apply]
  show ∑ k : Fin 2048, (vX m c (ix2 R k) : EReal) * (vW m c (ix3 3 k j) : EReal) = _
  refine Finset.sum_congr rfl fun k _ => ?_
  rw [x_apply, w_apply]

end Cert.Proof.Proj6
end
-- ==== Proof.Gates.lean ====
/- The cumulative log forget gates: the kernel's blocks of 256 rows, each a product with a triangle of ones, are the prefix sums. -/
module

public import proofs.«01_k».proof.Proof.Gen.Kernel7Ideal.Value
public import proofs.«01_k».proof.Proof.Gen.Reference7Ideal.Run
public import Idealize.ShloMosaic.Lib.Pointwise
public import Idealize.ShloMosaic.Lib.StableHlo.ReadAt
public import Idealize.ShloMosaic.Lib.Pipeline.ValueKit.Geometry

@[expose] public section

set_option maxRecDepth 16384
set_option maxHeartbeats 1000000

noncomputable section

namespace Cert.Proof.Gates

open Cert.Kernel7Ideal Cert.Kernel7Ideal.Gen
open Idealize.ShloMosaic Idealize.ShloMosaic.TcCoe

section
variable {F : FTy → Type} [FloatOps F]

/-- The rows of block `n`. -/
abbrev R (n : Nat) : Rect S8192x128 := Rect.unit (s := S8192x128) ![256 * (n % 32), 0] S256x128.size
  (fun a => by match a with | ⟨0, _⟩ => show 256 * (n % 32) + 256 ≤ 8192; omega | ⟨1, _⟩ => show 0 + 128 ≤ 128; omega)

/-- The columns of the result that block `n` fills. -/
abbrev R' (n : Nat) : Rect S1x8x8192 := Rect.unit (s := S1x8x8192) ![0, 0, 256 * (n % 32)] S1x8x256.size
  (fun a => by match a with | ⟨0, _⟩ => show 0 + 1 ≤ 1; omega | ⟨1, _⟩ => show 0 + 8 ≤ 8; omega | ⟨2, _⟩ => show 256 * (n % 32) + 256 ≤ 8192; omega)

/-- The sums within block `n`. -/
def cs (x0 : Vec F S8192x128 .f32) (x1 : Vec F S1x128 .f32) (n : Nat) : FVec F S256x128 .f32 :=
  k0_pay84 (k0_pay2 (F := F)) (k0_pay3 (View.ld x1 r0_0)) (View.ld x0 (R n))

/-- The sum of the blocks before. -/
def car (f : Nat → FVec F S256x128 .f32) : Nat → FVec F S1x128 .f32
  | 0 => k0_pay87 (F := F)
  | n + 1 => k0_pay135 (f n) (car f n)

/-- What is stored of a block. -/
def st (s : FVec F S256x128 .f32) (a : FVec F S1x128 .f32) : FVec F S1x8x256 .f32 :=
  k0_pay143 (addf s (broadcastTo S256x128 a broadcasts_S1x128_S256x128)) (Scalar.ofBits .f32 0x3FB8AA3B#32)

variable (x0 : Vec F S8192x128 .f32) (x1 : Vec F S1x128 .f32)

/-- The piece of the result stored for block `n`. -/
abbrev piece (n : Nat) : View.Piece (Elt F) S1x8x8192 .f32 := ⟨R' n, st (cs x0 x1 n) (car (cs x0 x1) n)⟩

theorem cs_0 : k0_pay160 x0 x1 = cs x0 x1 0 := rfl
theorem cs_1 : k0_pay161 x0 x1 = cs x0 x1 1 := rfl
theorem cs_2 : k0_pay162 x0 x1 = cs x0 x1 2 := rfl
theorem cs_3 : k0_pay163 x0 x1 = cs x0 x1 3 := rfl
theorem cs_4 : k0_pay164 x0 x1 = cs x0 x1 4 := rfl
theorem cs_5 : k0_pay165 x0 x1 = cs x0 x1 5 := rfl
theorem cs_6 : k0_pay166 x0 x1 = cs x0 x1 6 := rfl
theorem cs_7 : k0_pay167 x0 x1 = cs x0 x1 7 := rfl
theorem cs_8 : k0_pay168 x0 x1 = cs x0 x1 8 := rfl
theorem cs_9 : k0_pay169 x0 x1 = cs x0 x1 9 := rfl
theorem cs_10 : k0_pay170 x0 x1 = cs x0 x1 10 := rfl
theorem cs_11 : k0_pay171 x0 x1 = cs x0 x1 11 := rfl
theorem cs_12 : k0_pay172 x0 x1 = cs x0 x1 12 := rfl
theorem cs_13 : k0_pay173 x0 x1 = cs x0 x1 13 := rfl
theorem cs_14 : k0_pay174 x0 x1 = cs x0 x1 14 := rfl
theorem cs_15 : k0_pay175 x0 x1 = cs x0 x1 15 := rfl
theorem cs_16 : k0_pay176 x0 x1 = cs x0 x1 16 := rfl
theorem cs_17 : k0_pay177 x0 x1 = cs x0 x1 17 := rfl
theorem cs_18 : k0_pay178 x0 x1 = cs x0 x1 18 := rfl
theorem cs_19 : k0_pay179 x0 x1 = cs x0 x1 19 := rfl
theorem cs_20 : k0_pay180 x0 x1 = cs x0 x1 20 := rfl
theorem cs_21 : k0_pay181 x0 x1 = cs x0 x1 21 := rfl
theorem cs_22 : k0_pay182 x0 x1 = cs x0 x1 22 := rfl
theorem cs_23 : k0_pay183 x0 x1 = cs x0 x1 23 := rfl
theorem cs_24 : k0_pay184 x0 x1 = cs x0 x1 24 := rfl
theorem cs_25 : k0_pay185 x0 x1 = cs x0 x1 25 := rfl
theorem cs_26 : k0_pay186 x0 x1 = cs x0 x1 26 := rfl
theorem cs_27 : k0_pay187 x0 x1 = cs x0 x1 27 := rfl
theorem cs_28 : k0_pay188 x0 x1 = cs x0 x1 28 := rfl
theorem cs_29 : k0_pay189 x0 x1 = cs x0 x1 29 := rfl
theorem cs_30 : k0_pay190 x0 x1 = cs x0 x1 30 := rfl
theorem cs_31 : k0_pay86 (k0_pay158 x0 x1) (k0_pay85 (k0_pay159 x0 x1) (View.ld x0 r0_32)) = cs x0 x1 31 := rfl
theorem car_191 : k0_pay191 x0 x1 = car (cs x0 x1) 1 := by unfold k0_pay191; rw [cs_0]; rfl
theorem car_192 : k0_pay192 x0 x1 = car (cs x0 x1) 5 := by unfold k0_pay192; rw [cs_1, cs_2, cs_3, cs_4, car_191]; rfl
theorem car_193 : k0_pay193 x0 x1 = car (cs x0 x1) 9 := by unfold k0_pay193; rw [cs_5, cs_6, cs_7, cs_8, car_192]; rfl
theorem car_194 : k0_pay194 x0 x1 = car (cs x0 x1) 12 := by unfold k0_pay194; rw [cs_9, cs_10, cs_11, car_193]; rfl
theorem car_195 : k0_pay195 x0 x1 = extractStridedSlice S1x128 ![255, 0] (cs x0 x1 12) slices_S256x128_o255_0_S1x128 := rfl
theorem car_196 : k0_pay196 x0 x1 = car (cs x0 x1) 16 := by unfold k0_pay196; rw [cs_13, cs_14, cs_15, car_194, car_195]; rfl
theorem car_197 : k0_pay197 x0 x1 = car (cs x0 x1) 20 := by unfold k0_pay197; rw [cs_16, cs_17, cs_18, cs_19, car_196]; rfl
theorem car_198 : k0_pay198 x0 x1 = car (cs x0 x1) 24 := by unfold k0_pay198; rw [cs_20, cs_21, cs_22, cs_23, car_197]; rfl
theorem car_199 : k0_pay199 x0 x1 = car (cs x0 x1) 27 := by unfold k0_pay199; rw [cs_24, cs_25, cs_26, car_198]; rfl
theorem car_200 : k0_pay200 x0 x1 = extractStridedSlice S1x128 ![255, 0] (cs x0 x1 27) slices_S256x128_o255_0_S1x128 := rfl
theorem st_31 : k0_pay1 (k0_pay157 (k0_pay188 x0 x1) (k0_pay189 x0 x1) (k0_pay190 x0 x1) (k0_pay86 (k0_pay158 x0 x1) (k0_pay85 (k0_pay159 x0 x1) (View.ld x0 r0_32))) (k0_pay199 x0 x1) (k0_pay200 x0 x1)) = st (cs x0 x1 31) (car (cs x0 x1) 31) := by rw [cs_31, cs_28, cs_29, cs_30, car_199, car_200]; rfl
theorem st_30 : k0_pay156 (k0_pay188 x0 x1) (k0_pay189 x0 x1) (k0_pay190 x0 x1) (k0_pay199 x0 x1) (k0_pay200 x0 x1) = st (cs x0 x1 30) (car (cs x0 x1) 30) := by rw [cs_28, cs_29, cs_30, car_199, car_200]; rfl
theorem st_29 : k0_pay154 (k0_pay188 x0 x1) (k0_pay189 x0 x1) (k0_pay199 x0 x1) (k0_pay200 x0 x1) = st (cs x0 x1 29) (car (cs x0 x1) 29) := by rw [cs_28, cs_29, car_199, car_200]; rfl
theorem st_28 : k0_pay152 (k0_pay188 x0 x1) (k0_pay199 x0 x1) (k0_pay200 x0 x1) = st (cs x0 x1 28) (car (cs x0 x1) 28) := by rw [cs_28, car_199, car_200]; rfl
theorem st_27 : k0_pay149 (k0_pay184 x0 x1) (k0_pay185 x0 x1) (k0_pay186 x0 x1) (k0_pay187 x0 x1) (k0_pay198 x0 x1) = st (cs x0 x1 27) (car (cs x0 x1) 27) := by rw [cs_24, cs_25, cs_26, cs_27, car_198]; rfl
theorem st_26 : k0_pay147 (k0_pay184 x0 x1) (k0_pay185 x0 x1) (k0_pay186 x0 x1) (k0_pay198 x0 x1) = st (cs x0 x1 26) (car (cs x0 x1) 26) := by rw [cs_24, cs_25, cs_26, car_198]; rfl
theorem st_25 : k0_pay145 (k0_pay184 x0 x1) (k0_pay185 x0 x1) (k0_pay198 x0 x1) = st (cs x0 x1 25) (car (cs x0 x1) 25) := by rw [cs_24, cs_25, car_198]; rfl
theorem st_24 : k0_pay143 (k0_pay142 (k0_pay180 x0 x1) (k0_pay181 x0 x1) (k0_pay182 x0 x1) (k0_pay183 x0 x1) (k0_pay184 x0 x1) (k0_pay197 x0 x1)) (Scalar.ofBits .f32 0x3FB8AA3B#32) = st (cs x0 x1 24) (car (cs x0 x1) 24) := by rw [cs_20, cs_21, cs_22, cs_23, cs_24, car_197]; rfl
theorem st_23 : k0_pay140 (k0_pay180 x0 x1) (k0_pay181 x0 x1) (k0_pay182 x0 x1) (k0_pay183 x0 x1) (k0_pay197 x0 x1) = st (cs x0 x1 23) (car (cs x0 x1) 23) := by rw [cs_20, cs_21, cs_22, cs_23, car_197]; rfl
theorem st_22 : k0_pay138 (k0_pay180 x0 x1) (k0_pay181 x0 x1) (k0_pay182 x0 x1) (k0_pay197 x0 x1) = st (cs x0 x1 22) (car (cs x0 x1) 22) := by rw [cs_20, cs_21, cs_22, car_197]; rfl
theorem st_21 : k0_pay136 (k0_pay180 x0 x1) (k0_pay181 x0 x1) (k0_pay197 x0 x1) = st (cs x0 x1 21) (car (cs x0 x1) 21) := by rw [cs_20, cs_21, car_197]; rfl
theorem st_20 : k0_pay134 (k0_pay133 (k0_pay176 x0 x1) (k0_pay177 x0 x1) (k0_pay178 x0 x1) (k0_pay179 x0 x1) (k0_pay180 x0 x1) (k0_pay196 x0 x1)) = st (cs x0 x1 20) (car (cs x0 x1) 20) := by rw [cs_16, cs_17, cs_18, cs_19, cs_20, car_196]; rfl
theorem st_19 : k0_pay131 (k0_pay176 x0 x1) (k0_pay177 x0 x1) (k0_pay178 x0 x1) (k0_pay179 x0 x1) (k0_pay196 x0 x1) = st (cs x0 x1 19) (car (cs x0 x1) 19) := by rw [cs_16, cs_17, cs_18, cs_19, car_196]; rfl
theorem st_18 : k0_pay129 (k0_pay176 x0 x1) (k0_pay177 x0 x1) (k0_pay178 x0 x1) (k0_pay196 x0 x1) = st (cs x0 x1 18) (car (cs x0 x1) 18) := by rw [cs_16, cs_17, cs_18, car_196]; rfl
theorem st_17 : k0_pay127 (k0_pay176 x0 x1) (k0_pay177 x0 x1) (k0_pay196 x0 x1) = st (cs x0 x1 17) (car (cs x0 x1) 17) := by rw [cs_16, cs_17, car_196]; rfl
theorem st_16 : k0_pay125 (k0_pay124 (k0_pay173 x0 x1) (k0_pay174 x0 x1) (k0_pay175 x0 x1) (k0_pay176 x0 x1) (k0_pay194 x0 x1) (k0_pay195 x0 x1)) = st (cs x0 x1 16) (car (cs x0 x1) 16) := by rw [cs_13, cs_14, cs_15, cs_16, car_194, car_195]; rfl
theorem st_15 : k0_pay122 (k0_pay173 x0 x1) (k0_pay174 x0 x1) (k0_pay175 x0 x1) (k0_pay194 x0 x1) (k0_pay195 x0 x1) = st (cs x0 x1 15) (car (cs x0 x1) 15) := by rw [cs_13, cs_14, cs_15, car_194, car_195]; rfl
theorem st_14 : k0_pay120 (k0_pay173 x0 x1) (k0_pay174 x0 x1) (k0_pay194 x0 x1) (k0_pay195 x0 x1) = st (cs x0 x1 14) (car (cs x0 x1) 14) := by rw [cs_13, cs_14, car_194, car_195]; rfl
theorem st_13 : k0_pay118 (k0_pay173 x0 x1) (k0_pay194 x0 x1) (k0_pay195 x0 x1) = st (cs x0 x1 13) (car (cs x0 x1) 13) := by rw [cs_13, car_194, car_195]; rfl
theorem st_12 : k0_pay115 (k0_pay169 x0 x1) (k0_pay170 x0 x1) (k0_pay171 x0 x1) (k0_pay172 x0 x1) (k0_pay193 x0 x1) = st (cs x0 x1 12) (car (cs x0 x1) 12) := by rw [cs_9, cs_10, cs_11, cs_12, car_193]; rfl
theorem st_11 : k0_pay113 (k0_pay169 x0 x1) (k0_pay170 x0 x1) (k0_pay171 x0 x1) (k0_pay193 x0 x1) = st (cs x0 x1 11) (car (cs x0 x1) 11) := by rw [cs_9, cs_10, cs_11, car_193]; rfl
theorem st_10 : k0_pay111 (k0_pay169 x0 x1) (k0_pay170 x0 x1) (k0_pay193 x0 x1) = st (cs x0 x1 10) (car (cs x0 x1) 10) := by rw [cs_9, cs_10, car_193]; rfl
theorem st_9 : k0_pay109 (k0_pay108 (k0_pay165 x0 x1) (k0_pay166 x0 x1) (k0_pay167 x0 x1) (k0_pay168 x0 x1) (k0_pay169 x0 x1) (k0_pay192 x0 x1)) (Scalar.ofBits .f32 0x3FB8AA3B#32) = st (cs x0 x1 9) (car (cs x0 x1) 9) := by rw [cs_5, cs_6, cs_7, cs_8, cs_9, car_192]; rfl
theorem st_8 : k0_pay106 (k0_pay165 x0 x1) (k0_pay166 x0 x1) (k0_pay167 x0 x1) (k0_pay168 x0 x1) (k0_pay192 x0 x1) = st (cs x0 x1 8) (car (cs x0 x1) 8) := by rw [cs_5, cs_6, cs_7, cs_8, car_192]; rfl
theorem st_7 : k0_pay104 (k0_pay165 x0 x1) (k0_pay166 x0 x1) (k0_pay167 x0 x1) (k0_pay192 x0 x1) = st (cs x0 x1 7) (car (cs x0 x1) 7) := by rw [cs_5, cs_6, cs_7, car_192]; rfl
theorem st_6 : k0_pay102 (k0_pay165 x0 x1) (k0_pay166 x0 x1) (k0_pay192 x0 x1) = st (cs x0 x1 6) (car (cs x0 x1) 6) := by rw [cs_5, cs_6, car_192]; rfl
theorem st_5 : k0_pay100 (k0_pay99 (k0_pay161 x0 x1) (k0_pay162 x0 x1) (k0_pay163 x0 x1) (k0_pay164 x0 x1) (k0_pay165 x0 x1) (k0_pay191 x0 x1)) = st (cs x0 x1 5) (car (cs x0 x1) 5) := by rw [cs_1, cs_2, cs_3, cs_4, cs_5, car_191]; rfl
theorem st_4 : k0_pay97 (k0_pay161 x0 x1) (k0_pay162 x0 x1) (k0_pay163 x0 x1) (k0_pay164 x0 x1) (k0_pay191 x0 x1) = st (cs x0 x1 4) (car (cs x0 x1) 4) := by rw [cs_1, cs_2, cs_3, cs_4, car_191]; rfl
theorem st_3 : k0_pay95 (k0_pay161 x0 x1) (k0_pay162 x0 x1) (k0_pay163 x0 x1) (k0_pay191 x0 x1) = st (cs x0 x1 3) (car (cs x0 x1) 3) := by rw [cs_1, cs_2, cs_3, car_191]; rfl
theorem st_2 : k0_pay93 (k0_pay161 x0 x1) (k0_pay162 x0 x1) (k0_pay191 x0 x1) = st (cs x0 x1 2) (car (cs x0 x1) 2) := by rw [cs_1, cs_2, car_191]; rfl
theorem st_1 : k0_pay91 (k0_pay90 (k0_pay160 x0 x1) (k0_pay161 x0 x1)) = st (cs x0 x1 1) (car (cs x0 x1) 1) := by rw [cs_0, cs_1]; rfl
theorem st_0 : k0_pay88 (k0_pay160 x0 x1) = st (cs x0 x1 0) (car (cs x0 x1) 0) := by rw [cs_0]; rfl
/-- The body's result, block by block. -/
theorem out_pieces : out0_2 x0 x1 = View.canon (List.map (piece x0 x1) [31, 30, 29, 28, 27, 26, 25, 24, 23, 22, 21, 20, 19, 18, 17, 16, 15, 14, 13, 12, 11, 10, 9, 8, 7, 6, 5, 4, 3, 2, 1, 0]) := by
  unfold out0_2
  rw [st_31, st_30, st_29, st_28, st_27, st_26, st_25, st_24, st_23, st_22, st_21, st_20, st_19, st_18, st_17, st_16, st_15, st_14, st_13, st_12, st_11, st_10, st_9, st_8, st_7, st_6, st_5, st_4, st_3, st_2, st_1, st_0]
  rfl
end

end Cert.Proof.Gates
end
-- ==== Proof.GatesVal.lean ====
/- The values of the cumulative log forget gates' call. -/
module

public import proofs.«01_k».proof.Proof.Gates

@[expose] public section

set_option maxRecDepth 16384
set_option maxHeartbeats 1000000

noncomputable section

namespace Cert.Proof.Gates

open Cert.Kernel7Ideal Cert.Kernel7Ideal.Gen
open Idealize.ShloMosaic Idealize.ShloMosaic.TcCoe

/-- The log-sigmoid of `z`, as the kernel computes it. -/
def lg (z : EReal) : EReal :=
  0 - (max (0 - z) 0 + Ideal.log (1 + Ideal.exp (0 - max (0 - z) (-(0 - z)))))

theorem exp_nonneg (w : EReal) : 0 ≤ Ideal.exp w := by
  induction w using EReal.rec with
  | bot => exact le_rfl
  | coe r => exact EReal.coe_nonneg.2 (Real.exp_pos r).le
  | top => exact le_top

theorem log_ne_bot (w : EReal) (h : 0 ≤ w) : Ideal.log (1 + w) ≠ ⊥ := by
  induction w using EReal.rec with
  | bot => exact absurd h (by simp)
  | coe r =>
    have hr : 0 ≤ r := EReal.coe_nonneg.1 h
    rw [show (1 : EReal) + (r : EReal) = ((1 + r : ℝ) : EReal) by push_cast; rfl]
    show (if 1 + r ≤ 0 then (⊥ : EReal) else (Real.log (1 + r) : EReal)) ≠ ⊥
    rw [if_neg (by linarith)]
    exact EReal.coe_ne_bot _
  | top => rw [EReal.add_top_of_ne_bot (by decide)]; exact top_ne_bot

/-- A log-sigmoid is at most finite. -/
theorem lg_ne_top (z : EReal) : lg z ≠ ⊤ := by
  unfold lg
  intro h
  rw [zero_sub, EReal.neg_eq_top_iff, EReal.add_eq_bot_iff] at h
  rcases h with h | h
  · exact absurd (le_max_right (0 - z) 0) (by rw [h]; simp)
  · exact log_ne_bot _ (exp_nonneg _) h

/-- What is split off a value in three parts sums back to it. -/
theorem split_sum (a : EReal) (h : a ≠ ⊤) : (a + (a - a)) + ((a - a) - (a - a)) = a := by
  induction a using EReal.rec with
  | bot => rfl
  | coe r => rw [← EReal.coe_sub, sub_self]; simp
  | top => exact absurd rfl h

theorem mask_apply (r k : Fin 256) : (k0_pay2 (F := Ideal) (ix2 r k) : EReal) = if k.val ≤ r.val then 1 else 0 := by
  pointwise [k0_pay2]
  rw [WordCmp.cmpi_sle_ofNat (by omega) (by omega)]
  by_cases h : k.val ≤ r.val
  · simp only [h]; show (((1 : Int) : ℝ) : EReal) = _; simp
  · simp only [h]; show (((0 : Int) : ℝ) : EReal) = _; simp

theorem pay84_apply (M : FVec Ideal S256x256 .bf16) (b : FVec Ideal S1x128 .f32) (x : FVec Ideal S256x128 .f32) (r : Fin 256) (l : Fin 128) :
    (k0_pay84 (F := Ideal) M b x (ix2 r l) : EReal) = (∑ k : Fin 256, (M (ix2 r k) : EReal) * lg ((x (ix2 k l) : EReal) + (b (ix2 0 l) : EReal))
      + ∑ k : Fin 256, (M (ix2 r k) : EReal) * (lg ((x (ix2 k l) : EReal) + (b (ix2 0 l) : EReal)) - lg ((x (ix2 k l) : EReal) + (b (ix2 0 l) : EReal))))
      + ∑ k : Fin 256, (M (ix2 r k) : EReal) * ((lg ((x (ix2 k l) : EReal) + (b (ix2 0 l) : EReal)) - lg ((x (ix2 k l) : EReal) + (b (ix2 0 l) : EReal)))
        - (lg ((x (ix2 k l) : EReal) + (b (ix2 0 l) : EReal)) - lg ((x (ix2 k l) : EReal) + (b (ix2 0 l) : EReal)))) := by
  pointwise [k0_pay84]
  rfl

theorem st_apply (s : FVec Ideal S256x128 .f32) (a : FVec Ideal S1x128 .f32) (h : Fin 8) (t : Fin 256) :
    (st (F := Ideal) s a (ix3 0 h t) : EReal) = ((s (ix2 t ⟨h.val, by omega⟩) : EReal) + (a (ix2 0 ⟨h.val, by omega⟩) : EReal)) * (FloatOps.ofBits (F := Ideal) .f32 0x3FB8AA3B#32 : EReal) := by
  pointwise [st, k0_pay143]

theorem carry_apply (s : FVec Ideal S256x128 .f32) (a : FVec Ideal S1x128 .f32) (l : Fin 128) :
    (k0_pay135 (F := Ideal) s a (ix2 0 l) : EReal) = (a (ix2 0 l) : EReal) + (s (ix2 255 l) : EReal) := by
  pointwise [k0_pay135]

theorem zero_apply (l : Fin 128) : (k0_pay87 (F := Ideal) (ix2 0 l) : EReal) = 0 := by
  pointwise [k0_pay87]

theorem bias_apply (x1 : FVec Ideal S1x128 .f32) (l : Fin 128) :
    (k0_pay3 (F := Ideal) (View.ld (Val := Elt Ideal) (e' := .f32) x1 r0_0) (ix2 0 l) : EReal) = x1 (ix2 0 l) := by
  rw [View.ld_unit_zero (S := S1x128) (by decide)]
  pointwise [k0_pay3]

theorem rows_apply (x0 : FVec Ideal S8192x128 .f32) (n : Nat) (k : Fin 256) (l : Fin 128) :
    View.ld (Val := Elt Ideal) (e' := .f32) x0 (R n) (ix2 k l) = x0 (ix2 ⟨256 * (n % 32) + k.val, by omega⟩ l) := by
  refine congrArg x0 (funext fun a => ?_)
  match a with
  | ⟨0, _⟩ => exact Fin.ext (show 256 * (n % 32) + 1 * k.val = 256 * (n % 32) + k.val by omega)
  | ⟨1, _⟩ => exact Fin.ext (show 0 + 1 * l.val = l.val by omega)

/-- The log-sigmoid of row `i`, column `l`. -/
def row (x0 : FVec Ideal S8192x128 .f32) (x1 : FVec Ideal S1x128 .f32) (l : Fin 128) (i : Nat) : EReal :=
  lg ((x0 (ix2 ⟨i % 8192, by omega⟩ l) : EReal) + (x1 (ix2 0 l) : EReal))

theorem triangle (f : Nat → EReal) (r : Fin 256) :
    (∑ k : Fin 256, (if k.val ≤ r.val then (1 : EReal) else 0) * f k.val) = ∑ k ∈ Finset.range (r.val + 1), f k := by
  rw [Fin.sum_univ_eq_sum_range (fun k => (if k ≤ r.val then (1 : EReal) else 0) * f k) 256]
  rw [← Finset.sum_subset (s₁ := Finset.range (r.val + 1)) (fun x hx => by simp only [Finset.mem_range] at *; omega)]
  · refine Finset.sum_congr rfl fun k hk => ?_
    rw [if_pos (by simp only [Finset.mem_range] at hk; omega), one_mul]
  · intro k _ hk
    rw [if_neg (by simp only [Finset.mem_range] at hk; omega), zero_mul]

/-- A block's product with the triangle, of rows whose log-sigmoids are `f`. -/
theorem pay84_sum (b : FVec Ideal S1x128 .f32) (x : FVec Ideal S256x128 .f32) (l : Fin 128) (f : Nat → EReal)
    (hf : ∀ k : Fin 256, lg ((x (ix2 k l) : EReal) + (b (ix2 0 l) : EReal)) = f k.val) (hn : ∀ k, f k ≠ ⊤) (r : Fin 256) :
    (k0_pay84 (F := Ideal) k0_pay2 b x (ix2 r l) : EReal) = ∑ k ∈ Finset.range (r.val + 1), f k := by
  rw [pay84_apply]
  simp only [mask_apply, hf]
  rw [triangle f, triangle (fun k => f k - f k), triangle (fun k => (f k - f k) - (f k - f k)), ← Finset.sum_add_distrib, ← Finset.sum_add_distrib]
  exact Finset.sum_congr rfl fun k _ => split_sum _ (hn k)

/-- The sums within a block are prefix sums. -/
theorem cs_apply (x0 : FVec Ideal S8192x128 .f32) (x1 : FVec Ideal S1x128 .f32) (n : Nat) (hn : n < 32) (r : Fin 256) (l : Fin 128) :
    (cs (F := Ideal) x0 x1 n (ix2 r l) : EReal) = ∑ k ∈ Finset.range (r.val + 1), row x0 x1 l (256 * n + k) := by
  refine pay84_sum _ _ l (fun k => row x0 x1 l (256 * n + k)) (fun k => ?_) (fun k => lg_ne_top _) r
  refine congrArg lg (congrArg₂ (fun a b : EReal => a + b) ((rows_apply x0 n k l).trans ?_) (bias_apply x1 l))
  refine congrArg (fun q : Fin 8192 => x0 (ix2 q l)) (Fin.ext ?_)
  show 256 * (n % 32) + k.val = (256 * n + k.val) % 8192
  omega

/-- The carry is the sum of the rows before. -/
theorem car_apply (x0 : FVec Ideal S8192x128 .f32) (x1 : FVec Ideal S1x128 .f32) (l : Fin 128) : ∀ n : Nat, n < 32 →
    (car (cs (F := Ideal) x0 x1) n (ix2 0 l) : EReal) = ∑ k ∈ Finset.range (256 * n), row x0 x1 l k
  | 0, _ => zero_apply l
  | n + 1, h => by
    show (k0_pay135 (F := Ideal) (cs x0 x1 n) (car (cs x0 x1) n) (ix2 0 l) : EReal) = _
    rw [carry_apply, car_apply x0 x1 l n (by omega), cs_apply x0 x1 n (by omega), Nat.mul_succ, Finset.sum_range_add (n := 256 * n) (m := 256)]
    rfl

/-- The prefix sums, in log base two. -/
def pre (x0 : FVec Ideal S8192x128 .f32) (x1 : FVec Ideal S1x128 .f32) : FVec Ideal S1x8x8192 .f32 := fun i =>
  (∑ k ∈ Finset.range ((i 2).val + 1), row x0 x1 ⟨(i 1).val, Nat.lt_trans (i 1).isLt (by decide)⟩ k) * (FloatOps.ofBits (F := Ideal) .f32 0x3FB8AA3B#32 : EReal)

/-- What is stored of block `n` is its part of the prefix sums. -/
theorem piece_apply (x0 : FVec Ideal S8192x128 .f32) (x1 : FVec Ideal S1x128 .f32) (n : Nat) (hn : n < 32) (y : S1x8x256.Idx) :
    st (cs (F := Ideal) x0 x1 n) (car (cs x0 x1) n) y = pre x0 x1 ((R' n).emb y) := by
  obtain ⟨z, h, t, rfl⟩ : ∃ (z : Fin 1) (h : Fin 8) (t : Fin 256), y = ix3 z h t := ⟨y 0, y 1, y 2, funext fun a => by match a with | ⟨0, _⟩ => rfl | ⟨1, _⟩ => rfl | ⟨2, _⟩ => rfl⟩
  obtain rfl : z = 0 := Subsingleton.elim _ _
  have e1 : ((R' n).emb (ix3 0 h t) 1).val = h.val := show 0 + 1 * h.val = h.val by omega
  have e2 : ((R' n).emb (ix3 0 h t) 2).val + 1 = 256 * n + (t.val + 1) := show 256 * (n % 32) + 1 * t.val + 1 = _ by omega
  refine (st_apply _ _ h t).trans ?_
  unfold pre
  rw [e2, Finset.sum_range_add, cs_apply x0 x1 n hn, car_apply x0 x1 _ n hn, add_comm (∑ k ∈ Finset.range (t.val + 1), _)]
  have el : (⟨((R' n).emb (ix3 0 h t) 1).val, Nat.lt_trans ((R' n).emb (ix3 0 h t) 1).isLt (by decide)⟩ : Fin 128) = ⟨h.val, by omega⟩ := Fin.ext e1
  rw [el]

/-- The body's result is the prefix sums. -/
theorem out_apply (x0 : FVec Ideal S8192x128 .f32) (x1 : FVec Ideal S1x128 .f32) (y : S1x8x8192.Idx) :
    out0_2 (F := Ideal) x0 x1 y = pre x0 x1 y := by
  rw [out_pieces]
  refine View.canon_apply_of_pieces (Val := Elt Ideal) (e := .f32) (pre x0 x1) _ (fun p hp x => ?_) y ?_
  · obtain ⟨n, hn, rfl⟩ := List.mem_map.1 hp
    exact piece_apply x0 x1 n (by clear x hp; revert n; decide) x
  · have hy : (y 2).val < 8192 := (y 2).isLt
    refine ⟨piece x0 x1 ((y 2).val / 256), List.mem_map.2 ⟨(y 2).val / 256, ?_, rfl⟩, ?_⟩
    · have : (y 2).val / 256 < 32 := by omega
      generalize (y 2).val / 256 = q at this
      revert q; decide
    · show y ∈ (R' ((y 2).val / 256)).set
      refine Rect.mem_set_unit.2 fun a => ?_
      match a with
      | ⟨0, _⟩ => exact ⟨Nat.zero_le _, show (y 0).val < 0 + 1 from (y 0).isLt⟩
      | ⟨1, _⟩ => exact ⟨Nat.zero_le _, show (y 1).val < 0 + 8 by have : (y 1).val < 8 := (y 1).isLt; omega⟩
      | ⟨2, _⟩ => exact ⟨show 256 * ((y 2).val / 256 % 32) ≤ (y 2).val by omega, show (y 2).val < 256 * ((y 2).val / 256 % 32) + 256 by omega⟩

variable (m : (ℓ : Loc nD τ sig) → Buf (Elt Ideal) ℓ) (c : Dev nD)

/-- The two inputs of the kernel. -/
abbrev vH : FVec Ideal S32768x2304 .f32 := V m c main_v1
abbrev vB : FVec Ideal S1x128 .f32 := V m c main_v5

theorem t_lt (t : Fin cfg0.N) : t.val < 4 := N_0 ▸ t.isLt
theorem tr0 : ∀ t : Fin cfg0.N, cc0_transform_0 (grid0.coords t) 0 = t.val ∧ cc0_transform_0 (grid0.coords t) 1 = 17 := by decide +kernel
theorem tr1 : ∀ t : Fin cfg0.N, cc0_transform_1 (grid0.coords t) 0 = 0 ∧ cc0_transform_1 (grid0.coords t) 1 = 0 := by decide +kernel
theorem tr2 : ∀ t : Fin cfg0.N, cc0_transform_2 (grid0.coords t) 0 = t.val ∧ cc0_transform_2 (grid0.coords t) 1 = 0 ∧ cc0_transform_2 (grid0.coords t) 2 = 0 := by decide +kernel

/-- The rows of a point. -/
theorem iblk_0 (t : Fin cfg0.N) (r : Fin 8192) (l : Fin 128) :
    iblk m c 0 t (ix2 r l) = vH m c (ix2 ⟨8192 * t.val + r.val, by have := t_lt t; omega⟩ ⟨2176 + l.val, by omega⟩) := by
  obtain ⟨e0, e1⟩ := tr0 t
  unfold iblk
  rw [View.read_apply]
  refine congrArg (V m c main_v1) (funext fun a => ?_)
  match a with
  | ⟨0, _⟩ =>
    refine Fin.ext ?_
    show cc0_transform_0 (grid0.coords t) 0 * 8192 + 1 * r.val = 8192 * t.val + r.val
    rw [e0]; omega
  | ⟨1, _⟩ =>
    refine Fin.ext ?_
    show cc0_transform_0 (grid0.coords t) 1 * 128 + 1 * l.val = 2176 + l.val
    rw [e1]; omega

/-- The bias at a point. -/
theorem iblk_1 (t : Fin cfg0.N) (l : Fin 128) : iblk m c 1 t (ix2 0 l) = vB m c (ix2 0 l) := by
  obtain ⟨e0, e1⟩ := tr1 t
  unfold iblk
  rw [View.read_apply]
  refine congrArg (V m c main_v5) (funext fun a => ?_)
  match a with
  | ⟨0, _⟩ =>
    refine Fin.ext ?_
    show cc0_transform_1 (grid0.coords t) 0 * 1 + 1 * 0 = 0
    rw [e0]
  | ⟨1, _⟩ =>
    refine Fin.ext ?_
    show cc0_transform_1 (grid0.coords t) 1 * 128 + 1 * l.val = l.val
    rw [e1]; omega

/-- Where a block's entry lies in the result. -/
theorem emb_2 (t : Fin cfg0.N) (h : Fin 8) (s : Fin 8192) :
    ((cfg0.win 2).blk t).view.emb (ix3 0 h s) = ix3 (⟨t.val, t_lt t⟩ : Fin 4) h s := by
  obtain ⟨e0, e1, e2⟩ := tr2 t
  refine funext fun a => ?_
  match a with
  | ⟨0, _⟩ =>
    refine Fin.ext ?_
    show cc0_transform_2 (grid0.coords t) 0 * 1 + 1 * 0 = t.val
    rw [e0]; omega
  | ⟨1, _⟩ =>
    refine Fin.ext ?_
    show cc0_transform_2 (grid0.coords t) 1 * 8 + 1 * h.val = h.val
    rw [e1]; omega
  | ⟨2, _⟩ =>
    refine Fin.ext ?_
    show cc0_transform_2 (grid0.coords t) 2 * 8192 + 1 * s.val = s.val
    rw [e2]; omega

/-- The prefix sums of every sequence, in log base two. -/
def all (H : FVec Ideal S32768x2304 .f32) (B : FVec Ideal S1x128 .f32) : FVec Ideal S4x8x8192 .f32 := fun i =>
  (∑ k ∈ Finset.range ((i 2).val + 1), lg ((H (ix2 ⟨8192 * (i 0).val + k % 8192, by have : (i 0).val < 4 := (i 0).isLt; omega⟩
      ⟨2176 + (i 1).val, by have : (i 1).val < 8 := (i 1).isLt; omega⟩) : EReal) + (B (ix2 0 ⟨(i 1).val, Nat.lt_trans (i 1).isLt (by decide)⟩) : EReal)))
    * (FloatOps.ofBits (F := Ideal) .f32 0x3FB8AA3B#32 : EReal)

/-- A point's block is its sequence's. -/
theorem blk_eq (t : Fin cfg0.N) (y : S1x8x8192.Idx) :
    out0_2 (iblk m c 0 t) (iblk m c 1 t) y = all (vH m c) (vB m c) (((cfg0.win 2).blk t).view.emb y) := by
  obtain ⟨z, h, s, rfl⟩ : ∃ (z : Fin 1) (h : Fin 8) (s : Fin 8192), y = ix3 z h s := ⟨y 0, y 1, y 2, funext fun a => by match a with | ⟨0, _⟩ => rfl | ⟨1, _⟩ => rfl | ⟨2, _⟩ => rfl⟩
  obtain rfl : z = 0 := Subsingleton.elim _ _
  rw [emb_2]
  refine (out_apply _ _ _).trans ?_
  refine congrArg (fun q : EReal => q * (FloatOps.ofBits (F := Ideal) .f32 0x3FB8AA3B#32 : EReal)) (Finset.sum_congr rfl fun k _ => ?_)
  exact congrArg lg (congrArg₂ (fun a b : EReal => a + b) (iblk_0 m c t _ _) (iblk_1 m c t _))

/-- The kernel's result array. -/
theorem out_eq : (dats m 0 c).arrAt 2 cfg0.N = all (vH m c) (vB m c) := by
  refine (dats m 0 c).arrAt_eq_of_covers 2 _ (by decide +kernel) fun t hf y => ?_
  show (cfg0.win 2).cut (grid0.coords t) ((dats m 0 c).after 2 t) y = _
  rw [after0_2]
  exact blk_eq m c t y

/-- The arguments as arrays. -/
abbrev aF : FVec Ideal S4x8192x6 .f32 := m ((c.tc : Thread nD τ).loc main_arg0)
abbrev aB : FVec Ideal S4x6 .f32 := m ((c.tc : Thread nD τ).loc main_arg1)

theorem sitofp_z : (FloatOps.sitofp (F := Ideal) .f32 (0#32) : EReal) = 0 := by
  show (((0 : Int) : ℝ) : EReal) = 0
  simp

theorem h_apply (r : Fin 32768) (l : Fin 8) : (vH m c (ix2 r ⟨2176 + l.val, by omega⟩) : EReal)
    = if h : l.val < 6 then (aF m c (ix3 ⟨r.val / 8192, by omega⟩ ⟨r.val % 8192, by omega⟩ ⟨l.val, h⟩) : EReal) else 0 := by
  unfold vH V
  after_reads_at
  rw [sitofp_z]

theorem b_apply (l : Fin 8) : (vB m c (ix2 0 ⟨l.val, by omega⟩) : EReal)
    = if h : l.val < 6 then (aB m c (ix2 3 ⟨l.val, h⟩) : EReal) else 0 := by
  unfold vB V
  after_reads_at
  rw [sitofp_z]

end Cert.Proof.Gates
end
-- ==== Proof.GatesRef.lean ====
/- The reference of the cumulative log forget gates, entry by entry. -/
module

public import proofs.«01_k».proof.Proof.GatesVal

@[expose] public section

set_option maxRecDepth 16384
set_option maxHeartbeats 1000000

noncomputable section

namespace Cert.Proof.GatesRef

open Cert.Reference7Ideal Cert.Reference7Ideal.Gen
open Idealize.ShloMosaic Idealize.ShloMosaic.TcCoe
open Cert.Proof.Gates (lg)

/-- The logits, padded to eight heads. -/
def logits (ff : FVec Ideal S4x8192x6 .f32) (fb : FVec Ideal S4x6 .f32) : FVec Ideal S4x8192x8 .f32 :=
  pad S4x8192x8 ![0, 0, 0] ![0, 0, 2] ![0, 0, 0] (addf ff (broadcastInDim S4x8192x6 ![0, 1, 2] bcast_S1x1x6_S4x8192x6_0_1_2 (broadcastInDim S1x1x6 ![2] bcast_S6_S1x1x6_2 (shapeCast _ (extractStridedSlice S1x6 ![3, 0] fb slices_S4x6_S1x6_3_0) shapeCasts_S1x6_S6)))) (sitofp .f32 (constantI S_ 32 0#32)) pads_S4x8192x6_S4x8192x8_000_000_020 h_S_

/-- The log-sigmoid. -/
def lsg (Z : FVec Ideal S4x8192x8 .f32) : FVec Ideal S4x8192x8 .f32 :=
  Host.negf (select (cmpf .une (subf (Host.negf Z) (broadcastInDim S4x8192x8 ![] bcast_S_S4x8192x8 (constant S_ .f32 0x00000000#32))) (subf (Host.negf Z) (broadcastInDim S4x8192x8 ![] bcast_S_S4x8192x8 (constant S_ .f32 0x00000000#32)))) (addf (Host.negf Z) (broadcastInDim S4x8192x8 ![] bcast_S_S4x8192x8 (constant S_ .f32 0x00000000#32))) (addf (maximumf (Host.negf Z) (broadcastInDim S4x8192x8 ![] bcast_S_S4x8192x8 (constant S_ .f32 0x00000000#32))) (Host.log1p (Host.exp (Host.negf (Host.absf (subf (Host.negf Z) (broadcastInDim S4x8192x8 ![] bcast_S_S4x8192x8 (constant S_ .f32 0x00000000#32)))))))))

/-- The reference's result as a function of its arguments. -/
def ref (ff : FVec Ideal S4x8192x6 .f32) (fb : FVec Ideal S4x6 .f32) : FVec Ideal S4x8x8192 .f32 :=
  mulf (transpose S4x8x8192 [0, 2, 1] (Host.reduceWindowAdd ![1, 8192, 1] ![1, 1, 1] ![0, 8191, 0] ![0, 0, 0] (lsg (logits ff fb)) (broadcastInDim S_ ![] bcast_S_S_ (constant S_ .f32 0x00000000#32)) reduceWindows_S4x8192x8_S4x8192x8_w1s1p0_0_w8192s1p8191_0_w1s1p0_0 h_S_) transposes_S4x8192x8_S4x8x8192_0_2_1) (broadcastInDim S4x8x8192 ![] bcast_S_S4x8x8192 (constant S_ .f32 0x3FB8AA3B#32))

theorem logits_apply (ff : FVec Ideal S4x8192x6 .f32) (fb : FVec Ideal S4x6 .f32) (b : Fin 4) (s : Fin 8192) (h : Fin 8) :
    (logits ff fb (ix3 b s h) : EReal) = (if e : h.val < 6 then (ff (ix3 b s ⟨h.val, e⟩) : EReal) else 0) + (if e : h.val < 6 then (fb (ix2 3 ⟨h.val, e⟩) : EReal) else 0) := by
  pointwise [logits]
  by_cases e : h.val < 6
  · simp only [dif_pos e]
  · simp only [dif_neg e]
    rw [Gates.sitofp_z, add_zero]

theorem lsg_apply (Z : FVec Ideal S4x8192x8 .f32) (b : Fin 4) (s : Fin 8192) (h : Fin 8) : (lsg Z (ix3 b s h) : EReal) = lg (Z (ix3 b s h)) := by
  pointwise [lsg]
  rw [if_neg (not_not.2 rfl)]
  unfold lg
  rw [zero_sub, zero_sub, zero_sub]
  rfl

/-- Position `n` of a window along the second axis. -/
theorem symm_mid (n : Fin (⟨3, ![1, 8192, 1]⟩ : Shape).numel) (hn : n.val < 8192) :
    (⟨3, ![1, 8192, 1]⟩ : Shape).rowMajor.symm n = ix3 (0 : Fin 1) (⟨n.val, hn⟩ : Fin 8192) (0 : Fin 1) :=
  ((⟨3, ![1, 8192, 1]⟩ : Shape).rowMajor.symm_apply_eq).2 (Fin.ext (by
    rw [Shape.rowMajor_val_three]
    show n.val = (0 * 8192 + n.val) * 1 + 0
    omega))

theorem numel_mid : (⟨3, ![1, 8192, 1]⟩ : Shape).numel = 8192 := by
  simp [Shape.numel, Fin.prod_univ_succ]

theorem fold_add {α : Type} (f : α → EReal) : ∀ (L : List α) (z : EReal), L.foldl (fun r n => r + f n) z = z + (L.map f).sum
  | [], z => by simp
  | a :: L, z => by rw [List.foldl_cons, fold_add f L, List.map_cons, List.sum_cons, add_assoc]

theorem sum_finRange (M : Nat) (f : Nat → EReal) : ((List.finRange M).map fun n => f n.val).sum = ∑ k ∈ Finset.range M, f k := by
  rw [show ((List.finRange M).map fun n => f n.val) = (List.range M).map f by
    rw [← List.map_coe_finRange_eq_range, List.map_map]; rfl]
  rfl

theorem sum_window (g : Nat → EReal) (j : Nat) (hj : j < 8192) :
    ∑ w ∈ Finset.range 8192, (if 8191 ≤ j + w then g (j + w - 8191) else 0) = ∑ k ∈ Finset.range (j + 1), g k := by
  rw [show 8192 = (8191 - j) + (j + 1) by omega, Finset.sum_range_add]
  rw [Finset.sum_eq_zero fun w hw => if_neg (by simp only [Finset.mem_range] at hw; omega), zero_add]
  refine Finset.sum_congr rfl fun k _ => ?_
  rw [if_pos (by omega)]
  exact congrArg g (by omega)

/-- The sum of a window of the whole second axis, padded low by one less, is the prefix sum. -/
theorem cumsum_apply (x : FVec Ideal S4x8192x8 .f32) (z : FVec Ideal S_ .f32) (hz : (z ix0 : EReal) = 0) (b : Fin 4) (s : Fin 8192) (h : Fin 8) :
    (Host.reduceWindowAdd (F := Ideal) ![1, 8192, 1] ![1, 1, 1] ![0, 8191, 0] ![0, 0, 0] x z reduceWindows_S4x8192x8_S4x8192x8_w1s1p0_0_w8192s1p8191_0_w1s1p0_0 h_S_ (ix3 b s h) : EReal)
      = ∑ k ∈ Finset.range (s.val + 1), (x (ix3 b ⟨k % 8192, by omega⟩ h) : EReal) := by
  have hv : (z (Shape.Idx.first h_S_) : EReal) = 0 := (congrArg z (funext fun a => Fin.elim0 a)).trans hz
  unfold Host.reduceWindowAdd
  rw [Ideal.hostReduceWindowAdd_def, hv]
  unfold Ideal.hostReduceWindowAdd Host.reduceWindow
  refine (fold_add _ _ _).trans ?_
  rw [zero_add]
  refine Eq.trans (congrArg List.sum (List.map_congr_left (g := fun n : Fin (⟨3, ![1, 8192, 1]⟩ : Shape).numel =>
    (fun w : Nat => if 8191 ≤ s.val + w then (x (ix3 b ⟨(s.val + w - 8191) % 8192, by omega⟩ h) : EReal) else 0) n.val) fun n _ => ?_)) ?_
  · have hn : n.val < 8192 := lt_of_lt_of_eq n.isLt numel_mid
    have w0 : ((⟨3, ![1, 8192, 1]⟩ : Shape).rowMajor.symm n 0).val = 0 := by rw [symm_mid n hn]; rfl
    have w1 : ((⟨3, ![1, 8192, 1]⟩ : Shape).rowMajor.symm n 1).val = n.val := by rw [symm_mid n hn]; rfl
    have w2 : ((⟨3, ![1, 8192, 1]⟩ : Shape).rowMajor.symm n 2).val = 0 := by rw [symm_mid n hn]; rfl
    dsimp only
    split
    · next hin =>
      have h1 := hin 1
      change 8191 ≤ s.val * 1 + ((⟨3, ![1, 8192, 1]⟩ : Shape).rowMajor.symm n 1).val
        ∧ s.val * 1 + ((⟨3, ![1, 8192, 1]⟩ : Shape).rowMajor.symm n 1).val - 8191 < 8192 at h1
      rw [w1] at h1
      rw [if_pos (by omega)]
      refine congrArg x (funext fun a => Fin.ext ?_)
      match a with
      | ⟨0, _⟩ =>
        show b.val * 1 + ((⟨3, ![1, 8192, 1]⟩ : Shape).rowMajor.symm n 0).val - 0 = b.val
        rw [w0]; omega
      | ⟨1, _⟩ =>
        show s.val * 1 + ((⟨3, ![1, 8192, 1]⟩ : Shape).rowMajor.symm n 1).val - 8191 = (s.val + n.val - 8191) % 8192
        rw [w1]; omega
      | ⟨2, _⟩ =>
        show h.val * 1 + ((⟨3, ![1, 8192, 1]⟩ : Shape).rowMajor.symm n 2).val - 0 = h.val
        rw [w2]; omega
    · next hin =>
      rw [if_neg fun hle => hin fun a => by
        match a with
        | ⟨0, _⟩ =>
          show 0 ≤ b.val * 1 + ((⟨3, ![1, 8192, 1]⟩ : Shape).rowMajor.symm n 0).val ∧ b.val * 1 + ((⟨3, ![1, 8192, 1]⟩ : Shape).rowMajor.symm n 0).val - 0 < 4
          rw [w0]; omega
        | ⟨1, _⟩ =>
          show 8191 ≤ s.val * 1 + ((⟨3, ![1, 8192, 1]⟩ : Shape).rowMajor.symm n 1).val
            ∧ s.val * 1 + ((⟨3, ![1, 8192, 1]⟩ : Shape).rowMajor.symm n 1).val - 8191 < 8192
          rw [w1]; omega
        | ⟨2, _⟩ =>
          show 0 ≤ h.val * 1 + ((⟨3, ![1, 8192, 1]⟩ : Shape).rowMajor.symm n 2).val ∧ h.val * 1 + ((⟨3, ![1, 8192, 1]⟩ : Shape).rowMajor.symm n 2).val - 0 < 8
          rw [w2]; omega]
  · rw [sum_finRange (⟨3, ![1, 8192, 1]⟩ : Shape).numel (fun w : Nat => if 8191 ≤ s.val + w then (x (ix3 b ⟨(s.val + w - 8191) % 8192, by omega⟩ h) : EReal) else 0), numel_mid]
    exact sum_window (fun k => (x (ix3 b ⟨k % 8192, by omega⟩ h) : EReal)) s.val s.isLt

theorem ref_apply (ff : FVec Ideal S4x8192x6 .f32) (fb : FVec Ideal S4x6 .f32) (b : Fin 4) (h : Fin 8) (s : Fin 8192) :
    (ref ff fb (ix3 b h s) : EReal) = (∑ k ∈ Finset.range (s.val + 1), lg (logits ff fb (ix3 b ⟨k % 8192, by omega⟩ h))) * (FloatOps.ofBits (F := Ideal) .f32 0x3FB8AA3B#32 : EReal) := by
  pointwise [ref]
  refine congrArg (fun q : EReal => q * (FloatOps.ofBits (F := Ideal) .f32 0x3FB8AA3B#32 : EReal)) ?_
  refine (cumsum_apply _ _ ?_ b s h).trans (Finset.sum_congr rfl fun k _ => lsg_apply _ _ _ _)
  pointwise []

/-- Kernel and reference agree. -/
theorem res_eq (m : (ℓ : Loc Cert.Kernel7Ideal.nD Cert.Kernel7Ideal.τ Cert.Kernel7Ideal.sig) → Buf (Elt Ideal) ℓ) (c : Dev Cert.Kernel7Ideal.nD) :
    Gates.all (Gates.vH m c) (Gates.vB m c) = ref (Gates.aF m c) (Gates.aB m c) := by
  funext i
  obtain ⟨b, h, s, rfl⟩ : ∃ (b : Fin 4) (h : Fin 8) (s : Fin 8192), i = ix3 b h s := ⟨i 0, i 1, i 2, funext fun a => by match a with | ⟨0, _⟩ => rfl | ⟨1, _⟩ => rfl | ⟨2, _⟩ => rfl⟩
  rw [ref_apply]
  refine congrArg (fun q : EReal => q * (FloatOps.ofBits (F := Ideal) .f32 0x3FB8AA3B#32 : EReal)) (Finset.sum_congr rfl fun k _ => ?_)
  rw [logits_apply]
  refine congrArg lg (congrArg₂ (fun a b : EReal => a + b) ((Gates.h_apply m c _ h).trans ?_) (Gates.b_apply m c h))
  have e0 : (⟨(8192 * b.val + k % 8192) / 8192, by omega⟩ : Fin 4) = b := Fin.ext (by show (8192 * b.val + k % 8192) / 8192 = b.val; omega)
  have e1 : (⟨(8192 * b.val + k % 8192) % 8192, by omega⟩ : Fin 8192) = ⟨k % 8192, by omega⟩ := Fin.ext (by show (8192 * b.val + k % 8192) % 8192 = k % 8192; omega)
  show (if e : h.val < 6 then (Gates.aF m c (ix3 ⟨(8192 * b.val + k % 8192) / 8192, _⟩ ⟨(8192 * b.val + k % 8192) % 8192, _⟩ ⟨h.val, e⟩) : EReal) else 0) = _
  rw [e0, e1]

end Cert.Proof.GatesRef
end
-- ==== Proof.Results.lean ====
/- The further calls' results: kernel and reference end with the same extended reals, from any arguments that agree. -/
module

public import proofs.«01_k».proof.Defs
public import proofs.«01_k».proof.Proof.FfnRef
public import proofs.«01_k».proof.Proof.OutProjRef
public import proofs.«01_k».proof.Proof.Proj4
public import proofs.«01_k».proof.Proof.Proj5
public import proofs.«01_k».proof.Proof.Proj6
public import proofs.«01_k».proof.Proof.GatesRef
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run

@[expose] public section

set_option maxRecDepth 16384
set_option maxHeartbeats 1000000

noncomputable section

namespace Cert.Proof.Calls

open Idealize.ShloMosaic Idealize.ShloMosaic.TcCoe
open Idealize.SL Idealize.SL.Sem

/-- The feed-forward part. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Ffn.ffn (Ffn.aX m c) (Ffn.aU m c) (Ffn.aD m c) (Ffn.aG m c) (Ffn.aB m c),
    fun c => Ffn.ffnB (Ffn.aX m c) (Ffn.aU m c) (Ffn.aD m c) (Ffn.aG m c) (Ffn.aB m c), ?_, ?_⟩
  · refine (θ_run Cert.Kernel2Ideal.defs _ _).mono (fun r h c => ?_) (Cert.Kernel2Ideal.Value.run_blocks (F := Ideal) m g)
    obtain ⟨h0, h1, h2⟩ := h c
    exact ⟨h0.trans (Ffn.out5_eq m c), h1.trans (Ffn.out6_eq m c), h2⟩
  · refine (θ_run Cert.Reference2Ideal.defs _ _).mono (fun r h c => ?_) (Cert.Reference2Ideal.Value.run (F := Ideal) m' g')
    obtain ⟨h0, h1, h2⟩ := h c
    obtain ⟨a0, a1, a2, a3, a4⟩ := hargs c
    refine ⟨h0.trans ((Ffn.res0_eq m' c).trans ?_), h1.trans ((Ffn.res1_eq m' c).trans ?_), h2⟩
    · unfold Ffn.rX Ffn.rU Ffn.rD Ffn.rG Ffn.rB
      rw [a0, a1, a2, a3, a4]
    · unfold Ffn.rX Ffn.rU Ffn.rD Ffn.rG Ffn.rB
      rw [a0, a1, a2, a3, a4]

/-- The output projection. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => OutProj.spec (OutProj.aX m c) (OutProj.aF m c) (OutProj.aR m c) (OutProj.aT m c) (OutProj.aW m c) (OutProj.aG m c) (OutProj.aB m c), ?_, ?_⟩
  · refine (θ_run Cert.Kernel3Ideal.defs _ _).mono (fun r h c => ?_) (Cert.Kernel3Ideal.Value.run_blocks (F := Ideal) m g)
    obtain ⟨h0, h1⟩ := h c
    exact ⟨h0.trans (OutProj.out_eq m c), h1⟩
  · refine (θ_run Cert.Reference3Ideal.defs _ _).mono (fun r h c => ?_) (Cert.Reference3Ideal.Value.run (F := Ideal) m' g')
    obtain ⟨h0, h1⟩ := h c
    obtain ⟨a0, a1, a2, a3, a4, a5, a6⟩ := hargs c
    refine ⟨h0.trans ((OutProj.res_eq m' c).trans ?_), h1⟩
    unfold OutProj.rX OutProj.rF OutProj.rR OutProj.rT OutProj.rW OutProj.rG OutProj.rB
    rw [a0, a1, a2, a3, a4, a5, a6]

/-- The input projection's columns of the attention. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Proj4.prod (Proj4.vX m c) (Proj4.vW m c) (Proj4.vC m c), ?_, ?_⟩
  · refine (θ_run Cert.Kernel4Ideal.defs _ _).mono (fun r h c => ?_) (Cert.Kernel4Ideal.Value.run_blocks (F := Ideal) m g)
    obtain ⟨h0, h1⟩ := h c
    exact ⟨h0.trans (Proj4.out_eq m c), h1⟩
  · refine (θ_run Cert.Reference4Ideal.defs _ _).mono (fun r h c => ?_) (Cert.Reference4Ideal.Value.run (F := Ideal) m' g')
    obtain ⟨h0, h1⟩ := h c
    obtain ⟨a0, a1⟩ := hargs c
    refine ⟨h0.trans ?_, h1⟩
    refine Eq.trans ?_ (Proj4.res_eq m c).symm
    rw [a0, a1]
    rfl

/-- The input projection's columns of the time mixing and of the forget gates. -/
theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => Proj5.prod (Proj5.vX m c) (Proj5.vW m c), ?_, ?_⟩
  · refine (θ_run Cert.Kernel5Ideal.defs _ _).mono (fun r h c => ?_) (Cert.Kernel5Ideal.Value.run_blocks (F := Ideal) m g)
    obtain ⟨h0, h1⟩ := h c
    exact ⟨h0.trans (Proj5.out_eq m c), h1⟩
  · refine (θ_run Cert.Reference5Ideal.defs _ _).mono (fun r h c => ?_) (Cert.Reference5Ideal.Value.run (F := Ideal) m' g')
    obtain ⟨h0, h1⟩ := h c
    obtain ⟨a0, a1⟩ := hargs c
    refine ⟨h0.trans ?_, h1⟩
    refine Eq.trans ?_ (Proj5.res_eq m c).symm
    rw [a0, a1]
    rfl

/-- The input projection's columns of the retention. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => Proj6.prod (Proj6.vX m c) (Proj6.vW m c), ?_, ?_⟩
  · refine (θ_run Cert.Kernel6Ideal.defs _ _).mono (fun r h c => ?_) (Cert.Kernel6Ideal.Value.run_blocks (F := Ideal) m g)
    obtain ⟨h0, h1⟩ := h c
    exact ⟨h0.trans (Proj6.out_eq m c), h1⟩
  · refine (θ_run Cert.Reference6Ideal.defs _ _).mono (fun r h c => ?_) (Cert.Reference6Ideal.Value.run (F := Ideal) m' g')
    obtain ⟨h0, h1⟩ := h c
    obtain ⟨a0, a1⟩ := hargs c
    refine ⟨h0.trans ?_, h1⟩
    refine Eq.trans ?_ (Proj6.res_eq m c).symm
    rw [a0, a1]
    rfl

/-- The cumulative log forget gates. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => Gates.all (Gates.vH m c) (Gates.vB m c), ?_, ?_⟩
  · refine (θ_run Cert.Kernel7Ideal.defs _ _).mono (fun r h c => ?_) (Cert.Kernel7Ideal.Value.run_blocks (F := Ideal) m g)
    obtain ⟨h0, h1⟩ := h c
    exact ⟨h0.trans (Gates.out_eq m c), h1⟩
  · refine (θ_run Cert.Reference7Ideal.defs _ _).mono (fun r h c => ?_) (Cert.Reference7Ideal.Value.run (F := Ideal) m' g')
    obtain ⟨h0, h1⟩ := h c
    obtain ⟨a0, a1⟩ := hargs c
    refine ⟨h0.trans ?_, h1⟩
    refine Eq.trans ?_ (GatesRef.res_eq m c).symm
    rw [a0, a1]
    rfl

end Cert.Proof.Calls
end
-- ==== Proof.lean ====
module

public import proofs.«01_k».proof.Proof.Gen.ReferenceIdeal.Run
public import proofs.«01_k».proof.Defs
public import proofs.«01_k».proof.Proof.FrameIdeal
public import proofs.«01_k».proof.Proof.FrameBits
public import proofs.«01_k».proof.Proof.RefFrame
public import proofs.«01_k».proof.Proof.Pre
public import proofs.«01_k».proof.Proof.Value
public import proofs.«01_k».proof.Proof.Frames
public import proofs.«01_k».proof.Proof.Results

@[expose] public section

noncomputable section

namespace Cert.Proof

open Idealize.ShloMosaic Idealize.SL.Sem

/-- Over the extended reals the kernel's program runs, leaves its arguments as they were and every semaphore at zero. -/
theorem frame_ideal : Cert.quiescent_KernelIdeal (hKernelIdeal := Cert.KernelIdeal.Gen.facts) :=
  fun m ρ _ => Fox.frame_any (F := Ideal) m ρ

/-- The named mask is the value it stands for. -/
theorem preserves : Cert.preserves_Kernel_KernelIdeal :=
  IdealRules.named_const.statement Cert.KernelIdeal.κ "mask" .f32 0xF149F2CA#32 ⊥ rfl

/-- The same with the precondition, which the frame does not need. -/
theorem frame_ideal_pre : Cert.quiescent_KernelIdeal_pre_finite (hKernelIdeal := Cert.KernelIdeal.Gen.facts) (hPre_finite := Pre.facts) :=
  fun m ρ _ => Fox.frame_any (F := Ideal) m ρ

/-- The reference's frame with the precondition. -/
theorem frame_reference_pre : Cert.quiescent_ReferenceIdeal_pre_finite (hReferenceIdeal := Cert.ReferenceIdeal.Gen.facts) (hPre_finite := Pre.facts) :=
  fun m ρ _ => Ref.frame_reference m ρ trivial

/-- From arguments that agree, finite in queries, keys and gates, kernel and reference end with the same extended reals. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m g m' g' hpre hargs
  refine ⟨fun c => Fox.resArr m c, ?_, ?_⟩
  · refine (θ_run Cert.KernelIdeal.defs _ _).mono (fun r h c => ?_) (Fox.run_all (F := Ideal) m g)
    obtain ⟨h0, h1⟩ := h.1 c
    exact ⟨h0.trans (Fox.out_eq m c), h1⟩
  · refine (θ_run Cert.ReferenceIdeal.defs _ _).mono (fun r h c => ?_) (Cert.ReferenceIdeal.Value.run (F := Ideal) m' g')
    obtain ⟨h0, h1⟩ := h c
    refine ⟨h0.trans ?_, h1⟩
    obtain ⟨a0, a1, a2, a3⟩ := hargs c
    obtain ⟨⟨fq, hq⟩, ⟨fk, hk⟩, ⟨fc, hc⟩⟩ := @Pre.finite Pre.facts _ _ _ _ (hpre c)
    obtain ⟨σ, hσ⟩ := Fox.sigma_real
    refine Eq.trans ?_ (Fox.res_eq m c hq hk hc hσ).symm
    rw [Ref.res_eq, a0, a1, a2, a3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Pre.facts,
  Fox.frame_kernel, frame_ideal, frame_ideal_pre, Ref.frame_reference, frame_reference_pre,
  Calls.frame_kernel2, Calls.frame_ideal2, Calls.frame_reference2,
  Calls.frame_kernel3, Calls.frame_ideal3, Calls.frame_reference3,
  Calls.frame_kernel4, Calls.frame_ideal4, Calls.frame_reference4,
  Calls.frame_kernel5, Calls.frame_ideal5, Calls.frame_reference5,
  Calls.frame_kernel6, Calls.frame_ideal6, Calls.frame_reference6,
  Calls.frame_kernel7, Calls.frame_ideal7, Calls.frame_reference7,
  preserves, algebraic, trivial, Calls.algebraic2, trivial, Calls.algebraic3, trivial, Calls.algebraic4, trivial, Calls.algebraic5, trivial, Calls.algebraic6, trivial, Calls.algebraic7⟩

end Cert.Proof

end
